-- ==== Defs.lean ====
def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_FwdRefIdeal (m : (ℓ : Loc Cert.FwdRefIdeal.nD Cert.FwdRefIdeal.τ Cert.FwdRefIdeal.sig) → Buf (Elt Ideal) ℓ) : Prop :=
  True

def Pre_Bwd (m : (ℓ : Loc Cert.Bwd.nD Cert.Bwd.τ Cert.Bwd.sig) → Buf (Elt Bits) ℓ) : Prop :=
  True

def Pre_BwdIdeal (m : (ℓ : Loc Cert.BwdIdeal.nD Cert.BwdIdeal.τ Cert.BwdIdeal.sig) → Buf (Elt Ideal) ℓ) : Prop :=
  True

def Pre_BwdRefIdeal (m : (ℓ : Loc Cert.BwdRefIdeal.nD Cert.BwdRefIdeal.τ Cert.BwdRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_InF (m : (ℓ : Loc Cert.InF.nD Cert.InF.τ Cert.InF.sig) → Buf (Elt Bits) ℓ) : Prop :=
  True

def Pre_InFIdeal (m : (ℓ : Loc Cert.InFIdeal.nD Cert.InFIdeal.τ Cert.InFIdeal.sig) → Buf (Elt Ideal) ℓ) : Prop :=
  True

def Pre_InFRefIdeal (m : (ℓ : Loc Cert.InFRefIdeal.nD Cert.InFRefIdeal.τ Cert.InFRefIdeal.sig) → Buf (Elt Ideal) ℓ) : Prop :=
  True

def Pre_InB (m : (ℓ : Loc Cert.InB.nD Cert.InB.τ Cert.InB.sig) → Buf (Elt Bits) ℓ) : Prop :=
  True

def Pre_InBIdeal (m : (ℓ : Loc Cert.InBIdeal.nD Cert.InBIdeal.τ Cert.InBIdeal.sig) → Buf (Elt Ideal) ℓ) : Prop :=
  True

def Pre_InBRefIdeal (m : (ℓ : Loc Cert.InBRefIdeal.nD Cert.InBRefIdeal.τ Cert.InBRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_OutW (m : (ℓ : Loc Cert.OutW.nD Cert.OutW.τ Cert.OutW.sig) → Buf (Elt Bits) ℓ) : Prop :=
  True

def Pre_OutWIdeal (m : (ℓ : Loc Cert.OutWIdeal.nD Cert.OutWIdeal.τ Cert.OutWIdeal.sig) → Buf (Elt Ideal) ℓ) : Prop :=
  True

def Pre_OutWRefIdeal (m : (ℓ : Loc Cert.OutWRefIdeal.nD Cert.OutWRefIdeal.τ Cert.OutWRefIdeal.sig) → Buf (Elt Ideal) ℓ) : Prop :=
  True

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostRefIdeal (m : (ℓ : Loc Cert.PostRefIdeal.nD Cert.PostRefIdeal.τ Cert.PostRefIdeal.sig) → Buf (Elt Ideal) ℓ) : Prop :=
  True

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1)
      ∧ r.2.mem ((c.tc : Thread Cert.Fwd.nD Cert.Fwd.τ).loc Cert.Fwd.main_arg2) = m ((c.tc : Thread Cert.Fwd.nD Cert.Fwd.τ).loc Cert.Fwd.main_arg2))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2))
      ∧ r.2.sem = fun _ => 0)

def quiescent_FwdRefIdeal [hFwdRefIdeal : Cert.FwdRefIdeal.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2))
      ∧ r.2.sem = fun _ => 0)

def quiescent_Bwd [hBwd : Cert.Bwd.Facts] : Prop :=
  ∀ (m : (ℓ : Loc Cert.Bwd.nD Cert.Bwd.τ Cert.Bwd.sig) → Buf (Elt Bits) ℓ) (g : Dev Cert.Bwd.nD → PrngReg), Pre_Bwd m →
    θ_run (Cert.Bwd.defs (F := Bits)) (onTc (τ := Cert.Bwd.τ) (Cert.Bwd.main (F := Bits))) ⟨m, fun _ => 0, g⟩ (fun r => (∀ c : Dev Cert.Bwd.nD,
      r.2.mem ((c.tc : Thread Cert.Bwd.nD Cert.Bwd.τ).loc Cert.Bwd.main_arg0) = m ((c.tc : Thread Cert.Bwd.nD Cert.Bwd.τ).loc Cert.Bwd.main_arg0)
      ∧ r.2.mem ((c.tc : Thread Cert.Bwd.nD Cert.Bwd.τ).loc Cert.Bwd.main_arg1) = m ((c.tc : Thread Cert.Bwd.nD Cert.Bwd.τ).loc Cert.Bwd.main_arg1)
      ∧ r.2.mem ((c.tc : Thread Cert.Bwd.nD Cert.Bwd.τ).loc Cert.Bwd.main_arg2) = m ((c.tc : Thread Cert.Bwd.nD Cert.Bwd.τ).loc Cert.Bwd.main_arg2))
      ∧ r.2.sem = fun _ => 0)

def quiescent_BwdIdeal [hBwdIdeal : Cert.BwdIdeal.Facts] : Prop :=
  ∀ (m : (ℓ : Loc Cert.BwdIdeal.nD Cert.BwdIdeal.τ Cert.BwdIdeal.sig) → Buf (Elt Ideal) ℓ) (g : Dev Cert.BwdIdeal.nD → PrngReg), Pre_BwdIdeal m →
    θ_run (Cert.BwdIdeal.defs (F := Ideal)) (onTc (τ := Cert.BwdIdeal.τ) (Cert.BwdIdeal.main (F := Ideal))) ⟨m, fun _ => 0, g⟩ (fun r => (∀ c : Dev Cert.BwdIdeal.nD,
      r.2.mem ((c.tc : Thread Cert.BwdIdeal.nD Cert.BwdIdeal.τ).loc Cert.BwdIdeal.main_arg0) = m ((c.tc : Thread Cert.BwdIdeal.nD Cert.BwdIdeal.τ).loc Cert.BwdIdeal.main_arg0)
      ∧ r.2.mem ((c.tc : Thread Cert.BwdIdeal.nD Cert.BwdIdeal.τ).loc Cert.BwdIdeal.main_arg1) = m ((c.tc : Thread Cert.BwdIdeal.nD Cert.BwdIdeal.τ).loc Cert.BwdIdeal.main_arg1)
      ∧ r.2.mem ((c.tc : Thread Cert.BwdIdeal.nD Cert.BwdIdeal.τ).loc Cert.BwdIdeal.main_arg2) = m ((c.tc : Thread Cert.BwdIdeal.nD Cert.BwdIdeal.τ).loc Cert.BwdIdeal.main_arg2))
      ∧ r.2.sem = fun _ => 0)

def quiescent_BwdRefIdeal [hBwdRefIdeal : Cert.BwdRefIdeal.Facts] : Prop :=
  ∀ (m : (ℓ : Loc Cert.BwdRefIdeal.nD Cert.BwdRefIdeal.τ Cert.BwdRefIdeal.sig) → Buf (Elt Ideal) ℓ) (g : Dev Cert.BwdRefIdeal.nD → PrngReg), Pre_BwdRefIdeal m →
    θ_run (Cert.BwdRefIdeal.defs (F := Ideal)) (onTc (τ := Cert.BwdRefIdeal.τ) (Cert.BwdRefIdeal.main (F := Ideal))) ⟨m, fun _ => 0, g⟩ (fun r => (∀ c : Dev Cert.BwdRefIdeal.nD,
      r.2.mem ((c.tc : Thread Cert.BwdRefIdeal.nD Cert.BwdRefIdeal.τ).loc Cert.BwdRefIdeal.main_arg0) = m ((c.tc : Thread Cert.BwdRefIdeal.nD Cert.BwdRefIdeal.τ).loc Cert.BwdRefIdeal.main_arg0)
      ∧ r.2.mem ((c.tc : Thread Cert.BwdRefIdeal.nD Cert.BwdRefIdeal.τ).loc Cert.BwdRefIdeal.main_arg1) = m ((c.tc : Thread Cert.BwdRefIdeal.nD Cert.BwdRefIdeal.τ).loc Cert.BwdRefIdeal.main_arg1)
      ∧ r.2.mem ((c.tc : Thread Cert.BwdRefIdeal.nD Cert.BwdRefIdeal.τ).loc Cert.BwdRefIdeal.main_arg2) = m ((c.tc : Thread Cert.BwdRefIdeal.nD Cert.BwdRefIdeal.τ).loc Cert.BwdRefIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_InF [hInF : Cert.InF.Facts] : Prop :=
  ∀ (m : (ℓ : Loc Cert.InF.nD Cert.InF.τ Cert.InF.sig) → Buf (Elt Bits) ℓ) (g : Dev Cert.InF.nD → PrngReg), Pre_InF m →
    θ_run (Cert.InF.defs (F := Bits)) (onTc (τ := Cert.InF.τ) (Cert.InF.main (F := Bits))) ⟨m, fun _ => 0, g⟩ (fun r => (∀ c : Dev Cert.InF.nD,
      r.2.mem ((c.tc : Thread Cert.InF.nD Cert.InF.τ).loc Cert.InF.main_arg0) = m ((c.tc : Thread Cert.InF.nD Cert.InF.τ).loc Cert.InF.main_arg0)
      ∧ r.2.mem ((c.tc : Thread Cert.InF.nD Cert.InF.τ).loc Cert.InF.main_arg1) = m ((c.tc : Thread Cert.InF.nD Cert.InF.τ).loc Cert.InF.main_arg1))
      ∧ r.2.sem = fun _ => 0)

def quiescent_InFIdeal [hInFIdeal : Cert.InFIdeal.Facts] : Prop :=
  ∀ (m : (ℓ : Loc Cert.InFIdeal.nD Cert.InFIdeal.τ Cert.InFIdeal.sig) → Buf (Elt Ideal) ℓ) (g : Dev Cert.InFIdeal.nD → PrngReg), Pre_InFIdeal m →
    θ_run (Cert.InFIdeal.defs (F := Ideal)) (onTc (τ := Cert.InFIdeal.τ) (Cert.InFIdeal.main (F := Ideal))) ⟨m, fun _ => 0, g⟩ (fun r => (∀ c : Dev Cert.InFIdeal.nD,
      r.2.mem ((c.tc : Thread Cert.InFIdeal.nD Cert.InFIdeal.τ).loc Cert.InFIdeal.main_arg0) = m ((c.tc : Thread Cert.InFIdeal.nD Cert.InFIdeal.τ).loc Cert.InFIdeal.main_arg0)
      ∧ r.2.mem ((c.tc : Thread Cert.InFIdeal.nD Cert.InFIdeal.τ).loc Cert.InFIdeal.main_arg1) = m ((c.tc : Thread Cert.InFIdeal.nD Cert.InFIdeal.τ).loc Cert.InFIdeal.main_arg1))
      ∧ r.2.sem = fun _ => 0)

def quiescent_InFRefIdeal [hInFRefIdeal : Cert.InFRefIdeal.Facts] : Prop :=
  ∀ (m : (ℓ : Loc Cert.InFRefIdeal.nD Cert.InFRefIdeal.τ Cert.InFRefIdeal.sig) → Buf (Elt Ideal) ℓ) (g : Dev Cert.InFRefIdeal.nD → PrngReg), Pre_InFRefIdeal m →
    θ_run (Cert.InFRefIdeal.defs (F := Ideal)) (onTc (τ := Cert.InFRefIdeal.τ) (Cert.InFRefIdeal.main (F := Ideal))) ⟨m, fun _ => 0, g⟩ (fun r => (∀ c : Dev Cert.InFRefIdeal.nD,
      r.2.mem ((c.tc : Thread Cert.InFRefIdeal.nD Cert.InFRefIdeal.τ).loc Cert.InFRefIdeal.main_arg0) = m ((c.tc : Thread Cert.InFRefIdeal.nD Cert.InFRefIdeal.τ).loc Cert.InFRefIdeal.main_arg0)
      ∧ r.2.mem ((c.tc : Thread Cert.InFRefIdeal.nD Cert.InFRefIdeal.τ).loc Cert.InFRefIdeal.main_arg1) = m ((c.tc : Thread Cert.InFRefIdeal.nD Cert.InFRefIdeal.τ).loc Cert.InFRefIdeal.main_arg1))
      ∧ r.2.sem = fun _ => 0)

def quiescent_InB [hInB : Cert.InB.Facts] : Prop :=
  ∀ (m : (ℓ : Loc Cert.InB.nD Cert.InB.τ Cert.InB.sig) → Buf (Elt Bits) ℓ) (g : Dev Cert.InB.nD → PrngReg), Pre_InB m →
    θ_run (Cert.InB.defs (F := Bits)) (onTc (τ := Cert.InB.τ) (Cert.InB.main (F := Bits))) ⟨m, fun _ => 0, g⟩ (fun r => (∀ c : Dev Cert.InB.nD,
      r.2.mem ((c.tc : Thread Cert.InB.nD Cert.InB.τ).loc Cert.InB.main_arg0) = m ((c.tc : Thread Cert.InB.nD Cert.InB.τ).loc Cert.InB.main_arg0)
      ∧ r.2.mem ((c.tc : Thread Cert.InB.nD Cert.InB.τ).loc Cert.InB.main_arg1) = m ((c.tc : Thread Cert.InB.nD Cert.InB.τ).loc Cert.InB.main_arg1))
      ∧ r.2.sem = fun _ => 0)

def quiescent_InBIdeal [hInBIdeal : Cert.InBIdeal.Facts] : Prop :=
  ∀ (m : (ℓ : Loc Cert.InBIdeal.nD Cert.InBIdeal.τ Cert.InBIdeal.sig) → Buf (Elt Ideal) ℓ) (g : Dev Cert.InBIdeal.nD → PrngReg), Pre_InBIdeal m →
    θ_run (Cert.InBIdeal.defs (F := Ideal)) (onTc (τ := Cert.InBIdeal.τ) (Cert.InBIdeal.main (F := Ideal))) ⟨m, fun _ => 0, g⟩ (fun r => (∀ c : Dev Cert.InBIdeal.nD,
      r.2.mem ((c.tc : Thread Cert.InBIdeal.nD Cert.InBIdeal.τ).loc Cert.InBIdeal.main_arg0) = m ((c.tc : Thread Cert.InBIdeal.nD Cert.InBIdeal.τ).loc Cert.InBIdeal.main_arg0)
      ∧ r.2.mem ((c.tc : Thread Cert.InBIdeal.nD Cert.InBIdeal.τ).loc Cert.InBIdeal.main_arg1) = m ((c.tc : Thread Cert.InBIdeal.nD Cert.InBIdeal.τ).loc Cert.InBIdeal.main_arg1))
      ∧ r.2.sem = fun _ => 0)

def quiescent_InBRefIdeal [hInBRefIdeal : Cert.InBRefIdeal.Facts] : Prop :=
  ∀ (m : (ℓ : Loc Cert.InBRefIdeal.nD Cert.InBRefIdeal.τ Cert.InBRefIdeal.sig) → Buf (Elt Ideal) ℓ) (g : Dev Cert.InBRefIdeal.nD → PrngReg), Pre_InBRefIdeal m →
    θ_run (Cert.InBRefIdeal.defs (F := Ideal)) (onTc (τ := Cert.InBRefIdeal.τ) (Cert.InBRefIdeal.main (F := Ideal))) ⟨m, fun _ => 0, g⟩ (fun r => (∀ c : Dev Cert.InBRefIdeal.nD,
      r.2.mem ((c.tc : Thread Cert.InBRefIdeal.nD Cert.InBRefIdeal.τ).loc Cert.InBRefIdeal.main_arg0) = m ((c.tc : Thread Cert.InBRefIdeal.nD Cert.InBRefIdeal.τ).loc Cert.InBRefIdeal.main_arg0)
      ∧ r.2.mem ((c.tc : Thread Cert.InBRefIdeal.nD Cert.InBRefIdeal.τ).loc Cert.InBRefIdeal.main_arg1) = m ((c.tc : Thread Cert.InBRefIdeal.nD Cert.InBRefIdeal.τ).loc Cert.InBRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5))
      ∧ r.2.sem = fun _ => 0)

def quiescent_OutW [hOutW : Cert.OutW.Facts] : Prop :=
  ∀ (m : (ℓ : Loc Cert.OutW.nD Cert.OutW.τ Cert.OutW.sig) → Buf (Elt Bits) ℓ) (g : Dev Cert.OutW.nD → PrngReg), Pre_OutW m →
    θ_run (Cert.OutW.defs (F := Bits)) (onTc (τ := Cert.OutW.τ) (Cert.OutW.main (F := Bits))) ⟨m, fun _ => 0, g⟩ (fun r => (∀ c : Dev Cert.OutW.nD,
      r.2.mem ((c.tc : Thread Cert.OutW.nD Cert.OutW.τ).loc Cert.OutW.main_arg0) = m ((c.tc : Thread Cert.OutW.nD Cert.OutW.τ).loc Cert.OutW.main_arg0)
      ∧ r.2.mem ((c.tc : Thread Cert.OutW.nD Cert.OutW.τ).loc Cert.OutW.main_arg1) = m ((c.tc : Thread Cert.OutW.nD Cert.OutW.τ).loc Cert.OutW.main_arg1)
      ∧ r.2.mem ((c.tc : Thread Cert.OutW.nD Cert.OutW.τ).loc Cert.OutW.main_arg2) = m ((c.tc : Thread Cert.OutW.nD Cert.OutW.τ).loc Cert.OutW.main_arg2))
      ∧ r.2.sem = fun _ => 0)

def quiescent_OutWIdeal [hOutWIdeal : Cert.OutWIdeal.Facts] : Prop :=
  ∀ (m : (ℓ : Loc Cert.OutWIdeal.nD Cert.OutWIdeal.τ Cert.OutWIdeal.sig) → Buf (Elt Ideal) ℓ) (g : Dev Cert.OutWIdeal.nD → PrngReg), Pre_OutWIdeal m →
    θ_run (Cert.OutWIdeal.defs (F := Ideal)) (onTc (τ := Cert.OutWIdeal.τ) (Cert.OutWIdeal.main (F := Ideal))) ⟨m, fun _ => 0, g⟩ (fun r => (∀ c : Dev Cert.OutWIdeal.nD,
      r.2.mem ((c.tc : Thread Cert.OutWIdeal.nD Cert.OutWIdeal.τ).loc Cert.OutWIdeal.main_arg0) = m ((c.tc : Thread Cert.OutWIdeal.nD Cert.OutWIdeal.τ).loc Cert.OutWIdeal.main_arg0)
      ∧ r.2.mem ((c.tc : Thread Cert.OutWIdeal.nD Cert.OutWIdeal.τ).loc Cert.OutWIdeal.main_arg1) = m ((c.tc : Thread Cert.OutWIdeal.nD Cert.OutWIdeal.τ).loc Cert.OutWIdeal.main_arg1)
      ∧ r.2.mem ((c.tc : Thread Cert.OutWIdeal.nD Cert.OutWIdeal.τ).loc Cert.OutWIdeal.main_arg2) = m ((c.tc : Thread Cert.OutWIdeal.nD Cert.OutWIdeal.τ).loc Cert.OutWIdeal.main_arg2))
      ∧ r.2.sem = fun _ => 0)

def quiescent_OutWRefIdeal [hOutWRefIdeal : Cert.OutWRefIdeal.Facts] : Prop :=
  ∀ (m : (ℓ : Loc Cert.OutWRefIdeal.nD Cert.OutWRefIdeal.τ Cert.OutWRefIdeal.sig) → Buf (Elt Ideal) ℓ) (g : Dev Cert.OutWRefIdeal.nD → PrngReg), Pre_OutWRefIdeal m →
    θ_run (Cert.OutWRefIdeal.defs (F := Ideal)) (onTc (τ := Cert.OutWRefIdeal.τ) (Cert.OutWRefIdeal.main (F := Ideal))) ⟨m, fun _ => 0, g⟩ (fun r => (∀ c : Dev Cert.OutWRefIdeal.nD,
      r.2.mem ((c.tc : Thread Cert.OutWRefIdeal.nD Cert.OutWRefIdeal.τ).loc Cert.OutWRefIdeal.main_arg0) = m ((c.tc : Thread Cert.OutWRefIdeal.nD Cert.OutWRefIdeal.τ).loc Cert.OutWRefIdeal.main_arg0)
      ∧ r.2.mem ((c.tc : Thread Cert.OutWRefIdeal.nD Cert.OutWRefIdeal.τ).loc Cert.OutWRefIdeal.main_arg1) = m ((c.tc : Thread Cert.OutWRefIdeal.nD Cert.OutWRefIdeal.τ).loc Cert.OutWRefIdeal.main_arg1)
      ∧ r.2.mem ((c.tc : Thread Cert.OutWRefIdeal.nD Cert.OutWRefIdeal.τ).loc Cert.OutWRefIdeal.main_arg2) = m ((c.tc : Thread Cert.OutWRefIdeal.nD Cert.OutWRefIdeal.τ).loc Cert.OutWRefIdeal.main_arg2))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7)
      ∧ r.2.mem ((c.tc : Thread Cert.Post.nD Cert.Post.τ).loc Cert.Post.main_arg8) = m ((c.tc : Thread Cert.Post.nD Cert.Post.τ).loc Cert.Post.main_arg8)
      ∧ r.2.mem ((c.tc : Thread Cert.Post.nD Cert.Post.τ).loc Cert.Post.main_arg9) = m ((c.tc : Thread Cert.Post.nD Cert.Post.τ).loc Cert.Post.main_arg9))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
      ∧ r.2.mem ((c.tc : Thread Cert.PostIdeal.nD Cert.PostIdeal.τ).loc Cert.PostIdeal.main_arg9) = m ((c.tc : Thread Cert.PostIdeal.nD Cert.PostIdeal.τ).loc Cert.PostIdeal.main_arg9))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7)
      ∧ r.2.mem ((c.tc : Thread Cert.PostRefIdeal.nD Cert.PostRefIdeal.τ).loc Cert.PostRefIdeal.main_arg8) = m ((c.tc : Thread Cert.PostRefIdeal.nD Cert.PostRefIdeal.τ).loc Cert.PostRefIdeal.main_arg8)
      ∧ r.2.mem ((c.tc : Thread Cert.PostRefIdeal.nD Cert.PostRefIdeal.τ).loc Cert.PostRefIdeal.main_arg9) = m ((c.tc : Thread Cert.PostRefIdeal.nD Cert.PostRefIdeal.τ).loc Cert.PostRefIdeal.main_arg9))
      ∧ r.2.sem = fun _ => 0)

def preserves_Fwd_FwdIdeal : Prop :=
  True

def algebraic_FwdIdeal_FwdRefIdeal [hFwdIdeal : Cert.FwdIdeal.Facts] [hFwdRefIdeal : Cert.FwdRefIdeal.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.FwdRefIdeal.nD Cert.FwdRefIdeal.τ Cert.FwdRefIdeal.sig) → Buf (Elt Ideal) ℓ) (g' : Dev Cert.FwdRefIdeal.nD → PrngReg), Pre_FwdIdeal m →
    (∀ c : Dev Cert.FwdIdeal.nD,
      m' ((c.tc : Thread Cert.FwdRefIdeal.nD Cert.FwdRefIdeal.τ).loc Cert.FwdRefIdeal.main_arg0) = m ((c.tc : Thread Cert.FwdIdeal.nD Cert.FwdIdeal.τ).loc Cert.FwdIdeal.main_arg0)
      ∧ m' ((c.tc : Thread Cert.FwdRefIdeal.nD Cert.FwdRefIdeal.τ).loc Cert.FwdRefIdeal.main_arg1) = m ((c.tc : Thread Cert.FwdIdeal.nD Cert.FwdIdeal.τ).loc Cert.FwdIdeal.main_arg1)
      ∧ m' ((c.tc : Thread Cert.FwdRefIdeal.nD Cert.FwdRefIdeal.τ).loc Cert.FwdRefIdeal.main_arg2) = m ((c.tc : Thread Cert.FwdIdeal.nD Cert.FwdIdeal.τ).loc Cert.FwdIdeal.main_arg2)) →
    ∃ (v0 : (c : Dev Cert.FwdIdeal.nD) → Buf (Elt Ideal) ((c.tc : Thread Cert.FwdIdeal.nD Cert.FwdIdeal.τ).loc Cert.FwdIdeal.main_v0)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v0) = v0 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
          ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2))
      ∧ θ_run (Cert.FwdRefIdeal.defs (F := Ideal)) (onTc (τ := Cert.FwdRefIdeal.τ) (Cert.FwdRefIdeal.main (F := Ideal))) ⟨m', fun _ => 0, g'⟩ (fun r => ∀ c : Dev Cert.FwdRefIdeal.nD,
          r.2.mem ((c.tc : Thread Cert.FwdRefIdeal.nD Cert.FwdRefIdeal.τ).loc Cert.FwdRefIdeal.main_v57) = v0 c
          ∧ r.2.mem ((c.tc : Thread Cert.FwdRefIdeal.nD Cert.FwdRefIdeal.τ).loc Cert.FwdRefIdeal.main_arg0) = m' ((c.tc : Thread Cert.FwdRefIdeal.nD Cert.FwdRefIdeal.τ).loc Cert.FwdRefIdeal.main_arg0)
          ∧ r.2.mem ((c.tc : Thread Cert.FwdRefIdeal.nD Cert.FwdRefIdeal.τ).loc Cert.FwdRefIdeal.main_arg1) = m' ((c.tc : Thread Cert.FwdRefIdeal.nD Cert.FwdRefIdeal.τ).loc Cert.FwdRefIdeal.main_arg1)
          ∧ r.2.mem ((c.tc : Thread Cert.FwdRefIdeal.nD Cert.FwdRefIdeal.τ).loc Cert.FwdRefIdeal.main_arg2) = m' ((c.tc : Thread Cert.FwdRefIdeal.nD Cert.FwdRefIdeal.τ).loc Cert.FwdRefIdeal.main_arg2))

def preserves_Bwd_BwdIdeal : Prop :=
  True

def algebraic_BwdIdeal_BwdRefIdeal [hBwdIdeal : Cert.BwdIdeal.Facts] [hBwdRefIdeal : Cert.BwdRefIdeal.Facts] : Prop :=
  ∀ (m : (ℓ : Loc Cert.BwdIdeal.nD Cert.BwdIdeal.τ Cert.BwdIdeal.sig) → Buf (Elt Ideal) ℓ) (g : Dev Cert.BwdIdeal.nD → PrngReg)
    (m' : (ℓ : Loc Cert.BwdRefIdeal.nD Cert.BwdRefIdeal.τ Cert.BwdRefIdeal.sig) → Buf (Elt Ideal) ℓ) (g' : Dev Cert.BwdRefIdeal.nD → PrngReg), Pre_BwdIdeal m →
    (∀ c : Dev Cert.BwdIdeal.nD,
      m' ((c.tc : Thread Cert.BwdRefIdeal.nD Cert.BwdRefIdeal.τ).loc Cert.BwdRefIdeal.main_arg0) = m ((c.tc : Thread Cert.BwdIdeal.nD Cert.BwdIdeal.τ).loc Cert.BwdIdeal.main_arg0)
      ∧ m' ((c.tc : Thread Cert.BwdRefIdeal.nD Cert.BwdRefIdeal.τ).loc Cert.BwdRefIdeal.main_arg1) = m ((c.tc : Thread Cert.BwdIdeal.nD Cert.BwdIdeal.τ).loc Cert.BwdIdeal.main_arg1)
      ∧ m' ((c.tc : Thread Cert.BwdRefIdeal.nD Cert.BwdRefIdeal.τ).loc Cert.BwdRefIdeal.main_arg2) = m ((c.tc : Thread Cert.BwdIdeal.nD Cert.BwdIdeal.τ).loc Cert.BwdIdeal.main_arg2)) →
    ∃ (v0 : (c : Dev Cert.BwdIdeal.nD) → Buf (Elt Ideal) ((c.tc : Thread Cert.BwdIdeal.nD Cert.BwdIdeal.τ).loc Cert.BwdIdeal.main_v0)),
      θ_run (Cert.BwdIdeal.defs (F := Ideal)) (onTc (τ := Cert.BwdIdeal.τ) (Cert.BwdIdeal.main (F := Ideal))) ⟨m, fun _ => 0, g⟩ (fun r => ∀ c : Dev Cert.BwdIdeal.nD,
          r.2.mem ((c.tc : Thread Cert.BwdIdeal.nD Cert.BwdIdeal.τ).loc Cert.BwdIdeal.main_v0) = v0 c
          ∧ r.2.mem ((c.tc : Thread Cert.BwdIdeal.nD Cert.BwdIdeal.τ).loc Cert.BwdIdeal.main_arg0) = m ((c.tc : Thread Cert.BwdIdeal.nD Cert.BwdIdeal.τ).loc Cert.BwdIdeal.main_arg0)
          ∧ r.2.mem ((c.tc : Thread Cert.BwdIdeal.nD Cert.BwdIdeal.τ).loc Cert.BwdIdeal.main_arg1) = m ((c.tc : Thread Cert.BwdIdeal.nD Cert.BwdIdeal.τ).loc Cert.BwdIdeal.main_arg1)
          ∧ r.2.mem ((c.tc : Thread Cert.BwdIdeal.nD Cert.BwdIdeal.τ).loc Cert.BwdIdeal.main_arg2) = m ((c.tc : Thread Cert.BwdIdeal.nD Cert.BwdIdeal.τ).loc Cert.BwdIdeal.main_arg2))
      ∧ θ_run (Cert.BwdRefIdeal.defs (F := Ideal)) (onTc (τ := Cert.BwdRefIdeal.τ) (Cert.BwdRefIdeal.main (F := Ideal))) ⟨m', fun _ => 0, g'⟩ (fun r => ∀ c : Dev Cert.BwdRefIdeal.nD,
          r.2.mem ((c.tc : Thread Cert.BwdRefIdeal.nD Cert.BwdRefIdeal.τ).loc Cert.BwdRefIdeal.main_v63) = v0 c
          ∧ r.2.mem ((c.tc : Thread Cert.BwdRefIdeal.nD Cert.BwdRefIdeal.τ).loc Cert.BwdRefIdeal.main_arg0) = m' ((c.tc : Thread Cert.BwdRefIdeal.nD Cert.BwdRefIdeal.τ).loc Cert.BwdRefIdeal.main_arg0)
          ∧ r.2.mem ((c.tc : Thread Cert.BwdRefIdeal.nD Cert.BwdRefIdeal.τ).loc Cert.BwdRefIdeal.main_arg1) = m' ((c.tc : Thread Cert.BwdRefIdeal.nD Cert.BwdRefIdeal.τ).loc Cert.BwdRefIdeal.main_arg1)
          ∧ r.2.mem ((c.tc : Thread Cert.BwdRefIdeal.nD Cert.BwdRefIdeal.τ).loc Cert.BwdRefIdeal.main_arg2) = m' ((c.tc : Thread Cert.BwdRefIdeal.nD Cert.BwdRefIdeal.τ).loc Cert.BwdRefIdeal.main_arg2))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v0)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v14) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_InF_InFIdeal : Prop :=
  True

def algebraic_InFIdeal_InFRefIdeal [hInFIdeal : Cert.InFIdeal.Facts] [hInFRefIdeal : Cert.InFRefIdeal.Facts] : Prop :=
  ∀ (m : (ℓ : Loc Cert.InFIdeal.nD Cert.InFIdeal.τ Cert.InFIdeal.sig) → Buf (Elt Ideal) ℓ) (g : Dev Cert.InFIdeal.nD → PrngReg)
    (m' : (ℓ : Loc Cert.InFRefIdeal.nD Cert.InFRefIdeal.τ Cert.InFRefIdeal.sig) → Buf (Elt Ideal) ℓ) (g' : Dev Cert.InFRefIdeal.nD → PrngReg), Pre_InFIdeal m →
    (∀ c : Dev Cert.InFIdeal.nD,
      m' ((c.tc : Thread Cert.InFRefIdeal.nD Cert.InFRefIdeal.τ).loc Cert.InFRefIdeal.main_arg0) = m ((c.tc : Thread Cert.InFIdeal.nD Cert.InFIdeal.τ).loc Cert.InFIdeal.main_arg0)
      ∧ m' ((c.tc : Thread Cert.InFRefIdeal.nD Cert.InFRefIdeal.τ).loc Cert.InFRefIdeal.main_arg1) = m ((c.tc : Thread Cert.InFIdeal.nD Cert.InFIdeal.τ).loc Cert.InFIdeal.main_arg1)) →
    ∃ (v0 : (c : Dev Cert.InFIdeal.nD) → Buf (Elt Ideal) ((c.tc : Thread Cert.InFIdeal.nD Cert.InFIdeal.τ).loc Cert.InFIdeal.main_v0)),
      θ_run (Cert.InFIdeal.defs (F := Ideal)) (onTc (τ := Cert.InFIdeal.τ) (Cert.InFIdeal.main (F := Ideal))) ⟨m, fun _ => 0, g⟩ (fun r => ∀ c : Dev Cert.InFIdeal.nD,
          r.2.mem ((c.tc : Thread Cert.InFIdeal.nD Cert.InFIdeal.τ).loc Cert.InFIdeal.main_v0) = v0 c
          ∧ r.2.mem ((c.tc : Thread Cert.InFIdeal.nD Cert.InFIdeal.τ).loc Cert.InFIdeal.main_arg0) = m ((c.tc : Thread Cert.InFIdeal.nD Cert.InFIdeal.τ).loc Cert.InFIdeal.main_arg0)
          ∧ r.2.mem ((c.tc : Thread Cert.InFIdeal.nD Cert.InFIdeal.τ).loc Cert.InFIdeal.main_arg1) = m ((c.tc : Thread Cert.InFIdeal.nD Cert.InFIdeal.τ).loc Cert.InFIdeal.main_arg1))
      ∧ θ_run (Cert.InFRefIdeal.defs (F := Ideal)) (onTc (τ := Cert.InFRefIdeal.τ) (Cert.InFRefIdeal.main (F := Ideal))) ⟨m', fun _ => 0, g'⟩ (fun r => ∀ c : Dev Cert.InFRefIdeal.nD,
          r.2.mem ((c.tc : Thread Cert.InFRefIdeal.nD Cert.InFRefIdeal.τ).loc Cert.InFRefIdeal.main_v2) = v0 c
          ∧ r.2.mem ((c.tc : Thread Cert.InFRefIdeal.nD Cert.InFRefIdeal.τ).loc Cert.InFRefIdeal.main_arg0) = m' ((c.tc : Thread Cert.InFRefIdeal.nD Cert.InFRefIdeal.τ).loc Cert.InFRefIdeal.main_arg0)
          ∧ r.2.mem ((c.tc : Thread Cert.InFRefIdeal.nD Cert.InFRefIdeal.τ).loc Cert.InFRefIdeal.main_arg1) = m' ((c.tc : Thread Cert.InFRefIdeal.nD Cert.InFRefIdeal.τ).loc Cert.InFRefIdeal.main_arg1))

def preserves_InB_InBIdeal : Prop :=
  True

def algebraic_InBIdeal_InBRefIdeal [hInBIdeal : Cert.InBIdeal.Facts] [hInBRefIdeal : Cert.InBRefIdeal.Facts] : Prop :=
  ∀ (m : (ℓ : Loc Cert.InBIdeal.nD Cert.InBIdeal.τ Cert.InBIdeal.sig) → Buf (Elt Ideal) ℓ) (g : Dev Cert.InBIdeal.nD → PrngReg)
    (m' : (ℓ : Loc Cert.InBRefIdeal.nD Cert.InBRefIdeal.τ Cert.InBRefIdeal.sig) → Buf (Elt Ideal) ℓ) (g' : Dev Cert.InBRefIdeal.nD → PrngReg), Pre_InBIdeal m →
    (∀ c : Dev Cert.InBIdeal.nD,
      m' ((c.tc : Thread Cert.InBRefIdeal.nD Cert.InBRefIdeal.τ).loc Cert.InBRefIdeal.main_arg0) = m ((c.tc : Thread Cert.InBIdeal.nD Cert.InBIdeal.τ).loc Cert.InBIdeal.main_arg0)
      ∧ m' ((c.tc : Thread Cert.InBRefIdeal.nD Cert.InBRefIdeal.τ).loc Cert.InBRefIdeal.main_arg1) = m ((c.tc : Thread Cert.InBIdeal.nD Cert.InBIdeal.τ).loc Cert.InBIdeal.main_arg1)) →
    ∃ (v0 : (c : Dev Cert.InBIdeal.nD) → Buf (Elt Ideal) ((c.tc : Thread Cert.InBIdeal.nD Cert.InBIdeal.τ).loc Cert.InBIdeal.main_v0)),
      θ_run (Cert.InBIdeal.defs (F := Ideal)) (onTc (τ := Cert.InBIdeal.τ) (Cert.InBIdeal.main (F := Ideal))) ⟨m, fun _ => 0, g⟩ (fun r => ∀ c : Dev Cert.InBIdeal.nD,
          r.2.mem ((c.tc : Thread Cert.InBIdeal.nD Cert.InBIdeal.τ).loc Cert.InBIdeal.main_v0) = v0 c
          ∧ r.2.mem ((c.tc : Thread Cert.InBIdeal.nD Cert.InBIdeal.τ).loc Cert.InBIdeal.main_arg0) = m ((c.tc : Thread Cert.InBIdeal.nD Cert.InBIdeal.τ).loc Cert.InBIdeal.main_arg0)
          ∧ r.2.mem ((c.tc : Thread Cert.InBIdeal.nD Cert.InBIdeal.τ).loc Cert.InBIdeal.main_arg1) = m ((c.tc : Thread Cert.InBIdeal.nD Cert.InBIdeal.τ).loc Cert.InBIdeal.main_arg1))
      ∧ θ_run (Cert.InBRefIdeal.defs (F := Ideal)) (onTc (τ := Cert.InBRefIdeal.τ) (Cert.InBRefIdeal.main (F := Ideal))) ⟨m', fun _ => 0, g'⟩ (fun r => ∀ c : Dev Cert.InBRefIdeal.nD,
          r.2.mem ((c.tc : Thread Cert.InBRefIdeal.nD Cert.InBRefIdeal.τ).loc Cert.InBRefIdeal.main_v3) = v0 c
          ∧ r.2.mem ((c.tc : Thread Cert.InBRefIdeal.nD Cert.InBRefIdeal.τ).loc Cert.InBRefIdeal.main_arg0) = m' ((c.tc : Thread Cert.InBRefIdeal.nD Cert.InBRefIdeal.τ).loc Cert.InBRefIdeal.main_arg0)
          ∧ r.2.mem ((c.tc : Thread Cert.InBRefIdeal.nD Cert.InBRefIdeal.τ).loc Cert.InBRefIdeal.main_arg1) = m' ((c.tc : Thread Cert.InBRefIdeal.nD Cert.InBRefIdeal.τ).loc Cert.InBRefIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v23) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5))

def preserves_OutW_OutWIdeal : Prop :=
  True

def algebraic_OutWIdeal_OutWRefIdeal [hOutWIdeal : Cert.OutWIdeal.Facts] [hOutWRefIdeal : Cert.OutWRefIdeal.Facts] : Prop :=
  ∀ (m : (ℓ : Loc Cert.OutWIdeal.nD Cert.OutWIdeal.τ Cert.OutWIdeal.sig) → Buf (Elt Ideal) ℓ) (g : Dev Cert.OutWIdeal.nD → PrngReg)
    (m' : (ℓ : Loc Cert.OutWRefIdeal.nD Cert.OutWRefIdeal.τ Cert.OutWRefIdeal.sig) → Buf (Elt Ideal) ℓ) (g' : Dev Cert.OutWRefIdeal.nD → PrngReg), Pre_OutWIdeal m →
    (∀ c : Dev Cert.OutWIdeal.nD,
      m' ((c.tc : Thread Cert.OutWRefIdeal.nD Cert.OutWRefIdeal.τ).loc Cert.OutWRefIdeal.main_arg0) = m ((c.tc : Thread Cert.OutWIdeal.nD Cert.OutWIdeal.τ).loc Cert.OutWIdeal.main_arg0)
      ∧ m' ((c.tc : Thread Cert.OutWRefIdeal.nD Cert.OutWRefIdeal.τ).loc Cert.OutWRefIdeal.main_arg1) = m ((c.tc : Thread Cert.OutWIdeal.nD Cert.OutWIdeal.τ).loc Cert.OutWIdeal.main_arg1)
      ∧ m' ((c.tc : Thread Cert.OutWRefIdeal.nD Cert.OutWRefIdeal.τ).loc Cert.OutWRefIdeal.main_arg2) = m ((c.tc : Thread Cert.OutWIdeal.nD Cert.OutWIdeal.τ).loc Cert.OutWIdeal.main_arg2)) →
    ∃ (v0 : (c : Dev Cert.OutWIdeal.nD) → Buf (Elt Ideal) ((c.tc : Thread Cert.OutWIdeal.nD Cert.OutWIdeal.τ).loc Cert.OutWIdeal.main_v0)),
      θ_run (Cert.OutWIdeal.defs (F := Ideal)) (onTc (τ := Cert.OutWIdeal.τ) (Cert.OutWIdeal.main (F := Ideal))) ⟨m, fun _ => 0, g⟩ (fun r => ∀ c : Dev Cert.OutWIdeal.nD,
          r.2.mem ((c.tc : Thread Cert.OutWIdeal.nD Cert.OutWIdeal.τ).loc Cert.OutWIdeal.main_v0) = v0 c
          ∧ r.2.mem ((c.tc : Thread Cert.OutWIdeal.nD Cert.OutWIdeal.τ).loc Cert.OutWIdeal.main_arg0) = m ((c.tc : Thread Cert.OutWIdeal.nD Cert.OutWIdeal.τ).loc Cert.OutWIdeal.main_arg0)
          ∧ r.2.mem ((c.tc : Thread Cert.OutWIdeal.nD Cert.OutWIdeal.τ).loc Cert.OutWIdeal.main_arg1) = m ((c.tc : Thread Cert.OutWIdeal.nD Cert.OutWIdeal.τ).loc Cert.OutWIdeal.main_arg1)
          ∧ r.2.mem ((c.tc : Thread Cert.OutWIdeal.nD Cert.OutWIdeal.τ).loc Cert.OutWIdeal.main_arg2) = m ((c.tc : Thread Cert.OutWIdeal.nD Cert.OutWIdeal.τ).loc Cert.OutWIdeal.main_arg2))
      ∧ θ_run (Cert.OutWRefIdeal.defs (F := Ideal)) (onTc (τ := Cert.OutWRefIdeal.τ) (Cert.OutWRefIdeal.main (F := Ideal))) ⟨m', fun _ => 0, g'⟩ (fun r => ∀ c : Dev Cert.OutWRefIdeal.nD,
          r.2.mem ((c.tc : Thread Cert.OutWRefIdeal.nD Cert.OutWRefIdeal.τ).loc Cert.OutWRefIdeal.main_v3) = v0 c
          ∧ r.2.mem ((c.tc : Thread Cert.OutWRefIdeal.nD Cert.OutWRefIdeal.τ).loc Cert.OutWRefIdeal.main_arg0) = m' ((c.tc : Thread Cert.OutWRefIdeal.nD Cert.OutWRefIdeal.τ).loc Cert.OutWRefIdeal.main_arg0)
          ∧ r.2.mem ((c.tc : Thread Cert.OutWRefIdeal.nD Cert.OutWRefIdeal.τ).loc Cert.OutWRefIdeal.main_arg1) = m' ((c.tc : Thread Cert.OutWRefIdeal.nD Cert.OutWRefIdeal.τ).loc Cert.OutWRefIdeal.main_arg1)
          ∧ r.2.mem ((c.tc : Thread Cert.OutWRefIdeal.nD Cert.OutWRefIdeal.τ).loc Cert.OutWRefIdeal.main_arg2) = m' ((c.tc : Thread Cert.OutWRefIdeal.nD Cert.OutWRefIdeal.τ).loc Cert.OutWRefIdeal.main_arg2))

def preserves_Post_PostIdeal : Prop :=
  True

def algebraic_PostIdeal_PostRefIdeal [hPostIdeal : Cert.PostIdeal.Facts] [hPostRefIdeal : Cert.PostRefIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)
      ∧ m' ((c.tc : Thread Cert.PostRefIdeal.nD Cert.PostRefIdeal.τ).loc Cert.PostRefIdeal.main_arg5) = m ((c.tc : Thread Cert.PostIdeal.nD Cert.PostIdeal.τ).loc Cert.PostIdeal.main_arg5)
      ∧ m' ((c.tc : Thread Cert.PostRefIdeal.nD Cert.PostRefIdeal.τ).loc Cert.PostRefIdeal.main_arg6) = m ((c.tc : Thread Cert.PostIdeal.nD Cert.PostIdeal.τ).loc Cert.PostIdeal.main_arg6)
      ∧ m' ((c.tc : Thread Cert.PostRefIdeal.nD Cert.PostRefIdeal.τ).loc Cert.PostRefIdeal.main_arg7) = m ((c.tc : Thread Cert.PostIdeal.nD Cert.PostIdeal.τ).loc Cert.PostIdeal.main_arg7)
      ∧ m' ((c.tc : Thread Cert.PostRefIdeal.nD Cert.PostRefIdeal.τ).loc Cert.PostRefIdeal.main_arg8) = m ((c.tc : Thread Cert.PostIdeal.nD Cert.PostIdeal.τ).loc Cert.PostIdeal.main_arg8)
      ∧ m' ((c.tc : Thread Cert.PostRefIdeal.nD Cert.PostRefIdeal.τ).loc Cert.PostRefIdeal.main_arg9) = m ((c.tc : Thread Cert.PostIdeal.nD Cert.PostIdeal.τ).loc Cert.PostIdeal.main_arg9)) →
    ∃ (v0 : (c : Dev Cert.PostIdeal.nD) → Buf (Elt Ideal) ((c.tc : Thread Cert.PostIdeal.nD Cert.PostIdeal.τ).loc Cert.PostIdeal.main_v10_0)) (v1 : (c : Dev Cert.PostIdeal.nD) → Buf (Elt Ideal) ((c.tc : Thread Cert.PostIdeal.nD Cert.PostIdeal.τ).loc Cert.PostIdeal.main_v10_1)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v10_0) = v0 c
          ∧ r.2.mem ((c.tc : Thread Cert.PostIdeal.nD Cert.PostIdeal.τ).loc Cert.PostIdeal.main_v10_1) = v1 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
          ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
          ∧ r.2.mem ((c.tc : Thread Cert.PostIdeal.nD Cert.PostIdeal.τ).loc Cert.PostIdeal.main_arg9) = m ((c.tc : Thread Cert.PostIdeal.nD Cert.PostIdeal.τ).loc Cert.PostIdeal.main_arg9))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v52) = v0 c
          ∧ r.2.mem ((c.tc : Thread Cert.PostRefIdeal.nD Cert.PostRefIdeal.τ).loc Cert.PostRefIdeal.main_v60) = v1 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5)
          ∧ r.2.mem ((c.tc : Thread Cert.PostRefIdeal.nD Cert.PostRefIdeal.τ).loc Cert.PostRefIdeal.main_arg6) = m' ((c.tc : Thread Cert.PostRefIdeal.nD Cert.PostRefIdeal.τ).loc Cert.PostRefIdeal.main_arg6)
          ∧ r.2.mem ((c.tc : Thread Cert.PostRefIdeal.nD Cert.PostRefIdeal.τ).loc Cert.PostRefIdeal.main_arg7) = m' ((c.tc : Thread Cert.PostRefIdeal.nD Cert.PostRefIdeal.τ).loc Cert.PostRefIdeal.main_arg7)
          ∧ r.2.mem ((c.tc : Thread Cert.PostRefIdeal.nD Cert.PostRefIdeal.τ).loc Cert.PostRefIdeal.main_arg8) = m' ((c.tc : Thread Cert.PostRefIdeal.nD Cert.PostRefIdeal.τ).loc Cert.PostRefIdeal.main_arg8)
          ∧ r.2.mem ((c.tc : Thread Cert.PostRefIdeal.nD Cert.PostRefIdeal.τ).loc Cert.PostRefIdeal.main_arg9) = m' ((c.tc : Thread Cert.PostRefIdeal.nD Cert.PostRefIdeal.τ).loc Cert.PostRefIdeal.main_arg9))

def Claim : Prop :=
  ∃ (hFwd : Cert.Fwd.Facts) (hFwdIdeal : Cert.FwdIdeal.Facts) (hFwdRefIdeal : Cert.FwdRefIdeal.Facts) (hBwd : Cert.Bwd.Facts) (hBwdIdeal : Cert.BwdIdeal.Facts) (hBwdRefIdeal : Cert.BwdRefIdeal.Facts) (hNorm : Cert.Norm.Facts) (hNormIdeal : Cert.NormIdeal.Facts) (hNormRefIdeal : Cert.NormRefIdeal.Facts) (hInF : Cert.InF.Facts) (hInFIdeal : Cert.InFIdeal.Facts) (hInFRefIdeal : Cert.InFRefIdeal.Facts) (hInB : Cert.InB.Facts) (hInBIdeal : Cert.InBIdeal.Facts) (hInBRefIdeal : Cert.InBRefIdeal.Facts) (hMerge : Cert.Merge.Facts) (hMergeIdeal : Cert.MergeIdeal.Facts) (hMergeRefIdeal : Cert.MergeRefIdeal.Facts) (hOutW : Cert.OutW.Facts) (hOutWIdeal : Cert.OutWIdeal.Facts) (hOutWRefIdeal : Cert.OutWRefIdeal.Facts) (hPost : Cert.Post.Facts) (hPostIdeal : Cert.PostIdeal.Facts) (hPostRefIdeal : Cert.PostRefIdeal.Facts),
    quiescent_Fwd (hFwd := hFwd)
    ∧ quiescent_FwdIdeal (hFwdIdeal := hFwdIdeal)
    ∧ quiescent_FwdRefIdeal (hFwdRefIdeal := hFwdRefIdeal)
    ∧ quiescent_Bwd (hBwd := hBwd)
    ∧ quiescent_BwdIdeal (hBwdIdeal := hBwdIdeal)
    ∧ quiescent_BwdRefIdeal (hBwdRefIdeal := hBwdRefIdeal)
    ∧ quiescent_Norm (hNorm := hNorm)
    ∧ quiescent_NormIdeal (hNormIdeal := hNormIdeal)
    ∧ quiescent_NormRefIdeal (hNormRefIdeal := hNormRefIdeal)
    ∧ quiescent_InF (hInF := hInF)
    ∧ quiescent_InFIdeal (hInFIdeal := hInFIdeal)
    ∧ quiescent_InFRefIdeal (hInFRefIdeal := hInFRefIdeal)
    ∧ quiescent_InB (hInB := hInB)
    ∧ quiescent_InBIdeal (hInBIdeal := hInBIdeal)
    ∧ quiescent_InBRefIdeal (hInBRefIdeal := hInBRefIdeal)
    ∧ quiescent_Merge (hMerge := hMerge)
    ∧ quiescent_MergeIdeal (hMergeIdeal := hMergeIdeal)
    ∧ quiescent_MergeRefIdeal (hMergeRefIdeal := hMergeRefIdeal)
    ∧ quiescent_OutW (hOutW := hOutW)
    ∧ quiescent_OutWIdeal (hOutWIdeal := hOutWIdeal)
    ∧ quiescent_OutWRefIdeal (hOutWRefIdeal := hOutWRefIdeal)
    ∧ quiescent_Post (hPost := hPost)
    ∧ quiescent_PostIdeal (hPostIdeal := hPostIdeal)
    ∧ quiescent_PostRefIdeal (hPostRefIdeal := hPostRefIdeal)
    ∧ preserves_Fwd_FwdIdeal
    ∧ algebraic_FwdIdeal_FwdRefIdeal (hFwdIdeal := hFwdIdeal) (hFwdRefIdeal := hFwdRefIdeal)
    ∧ preserves_Bwd_BwdIdeal
    ∧ algebraic_BwdIdeal_BwdRefIdeal (hBwdIdeal := hBwdIdeal) (hBwdRefIdeal := hBwdRefIdeal)
    ∧ preserves_Norm_NormIdeal
    ∧ algebraic_NormIdeal_NormRefIdeal (hNormIdeal := hNormIdeal) (hNormRefIdeal := hNormRefIdeal)
    ∧ preserves_InF_InFIdeal
    ∧ algebraic_InFIdeal_InFRefIdeal (hInFIdeal := hInFIdeal) (hInFRefIdeal := hInFRefIdeal)
    ∧ preserves_InB_InBIdeal
    ∧ algebraic_InBIdeal_InBRefIdeal (hInBIdeal := hInBIdeal) (hInBRefIdeal := hInBRefIdeal)
    ∧ preserves_Merge_MergeIdeal
    ∧ algebraic_MergeIdeal_MergeRefIdeal (hMergeIdeal := hMergeIdeal) (hMergeRefIdeal := hMergeRefIdeal)
    ∧ preserves_OutW_OutWIdeal
    ∧ algebraic_OutWIdeal_OutWRefIdeal (hOutWIdeal := hOutWIdeal) (hOutWRefIdeal := hOutWRefIdeal)
    ∧ preserves_Post_PostIdeal
    ∧ algebraic_PostIdeal_PostRefIdeal (hPostIdeal := hPostIdeal) (hPostRefIdeal := hPostRefIdeal)
-- ==== Fwd.lean ====
abbrev S2x16384x7168 : Shape := ⟨3, ![2, 16384, 7168]⟩
abbrev S2x16384x4096 : Shape := ⟨3, ![2, 16384, 4096]⟩
abbrev S1x128 : Shape := ⟨2, ![1, 128]⟩
abbrev S2x16384x1024 : Shape := ⟨3, ![2, 16384, 1024]⟩
abbrev S1x128x512 : Shape := ⟨3, ![1, 128, 512]⟩
abbrev S1x128x1024 : Shape := ⟨3, ![1, 128, 1024]⟩
abbrev S1x128x128 : Shape := ⟨3, ![1, 128, 128]⟩
abbrev S4x128x256 : Shape := ⟨3, ![4, 128, 256]⟩
abbrev S8x128 : Shape := ⟨2, ![8, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x1 : Shape := ⟨2, ![1, 1]⟩
abbrev S1x128x256 : Shape := ⟨3, ![1, 128, 256]⟩
abbrev S128x256 : Shape := ⟨2, ![128, 256]⟩

abbrev nBuf : Space → Nat
  | .hbm => 4
  | .vmem => 14
  | .smem => 0
  | _ => 0

abbrev bufTy : (tb : Table) → Fin (tcTables nBuf tb) → BufTy
  | .hbm, ⟨0, _⟩ => ⟨S2x16384x7168, .bf16⟩
  | .hbm, ⟨1, _⟩ => ⟨S2x16384x4096, .f32⟩
  | .hbm, ⟨2, _⟩ => ⟨S1x128, .f32⟩
  | .hbm, ⟨3, _⟩ => ⟨S2x16384x1024, .f32⟩
  | .local _ .vmem, ⟨0, _⟩ => ⟨S1x128x512, .bf16⟩
  | .local _ .vmem, ⟨1, _⟩ => ⟨S1x128x512, .bf16⟩
  | .local _ .vmem, ⟨2, _⟩ => ⟨S1x128x512, .bf16⟩
  | .local _ .vmem, ⟨3, _⟩ => ⟨S1x128x512, .bf16⟩
  | .local _ .vmem, ⟨4, _⟩ => ⟨S1x128x1024, .bf16⟩
  | .local _ .vmem, ⟨5, _⟩ => ⟨S1x128x1024, .bf16⟩
  | .local _ .vmem, ⟨6, _⟩ => ⟨S1x128x128, .f32⟩
  | .local _ .vmem, ⟨7, _⟩ => ⟨S1x128x128, .f32⟩
  | .local _ .vmem, ⟨8, _⟩ => ⟨S1x128, .f32⟩
  | .local _ .vmem, ⟨9, _⟩ => ⟨S1x128x1024, .f32⟩
  | .local _ .vmem, ⟨10, _⟩ => ⟨S1x128x1024, .f32⟩
  | .local _ .vmem, ⟨11, _⟩ => ⟨S4x128x256, .f32⟩
  | .local _ .vmem, ⟨12, _⟩ => ⟨S8x128, .f32⟩
  | .local _ .vmem, ⟨13, _⟩ => ⟨S8x128, .f32⟩
  | _, _ => ⟨S2x16384x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 128], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_3 (i : grid0.Coords) : Fin 3 → Nat :=
  let arg0 : BitVec 32 := BitVec.ofNat 32 (i 0).val
  let arg1 : BitVec 32 := BitVec.ofNat 32 (i 1).val
  let c28_i32 : BitVec 32 := 28#32
  let c0_i32 : BitVec 32 := 0#32
  ![arg0.toNat, arg1.toNat, c28_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FwdRefIdeal.lean ====
abbrev S2x16384x7168 : Shape := ⟨3, ![2, 16384, 7168]⟩
abbrev S2x16384x4096 : Shape := ⟨3, ![2, 16384, 4096]⟩
abbrev S1x128 : Shape := ⟨2, ![1, 128]⟩
abbrev S2x16384x2048 : Shape := ⟨3, ![2, 16384, 2048]⟩
abbrev S2x16384x512 : Shape := ⟨3, ![2, 16384, 512]⟩
abbrev S2x16384x1024 : Shape := ⟨3, ![2, 16384, 1024]⟩
abbrev S2x16384x4x128 : Shape := ⟨4, ![2, 16384, 4, 128]⟩
abbrev S2x4x16384x128 : Shape := ⟨4, ![2, 4, 16384, 128]⟩
abbrev S2x16384x4x256 : Shape := ⟨4, ![2, 16384, 4, 256]⟩
abbrev S2x4x16384x256 : Shape := ⟨4, ![2, 4, 16384, 256]⟩
abbrev S2x16384x16 : Shape := ⟨3, ![2, 16384, 16]⟩
abbrev S2x16384x8 : Shape := ⟨3, ![2, 16384, 8]⟩
abbrev S1x8 : Shape := ⟨2, ![1, 8]⟩
abbrev S8 : Shape := ⟨1, ![8]⟩
abbrev S2x4 : Shape := ⟨2, ![2, 4]⟩
abbrev S2x16384x2x4 : Shape := ⟨4, ![2, 16384, 2, 4]⟩
abbrev S1x1x2x4 : Shape := ⟨4, ![1, 1, 2, 4]⟩
abbrev S2x2x4x16384 : Shape := ⟨4, ![2, 2, 4, 16384]⟩
abbrev S_ : Shape := ⟨0, ![]⟩
abbrev S1x2x4x16384 : Shape := ⟨4, ![1, 2, 4, 16384]⟩
abbrev S2x4x16384 : Shape := ⟨3, ![2, 4, 16384]⟩
abbrev S128x128 : Shape := ⟨2, ![128, 128]⟩
abbrev S2x4x256x128 : Shape := ⟨4, ![2, 4, 256, 128]⟩
abbrev S2x4x128 : Shape := ⟨3, ![2, 4, 128]⟩
abbrev S2x4x128x128x128 : Shape := ⟨5, ![2, 4, 128, 128, 128]⟩
abbrev S128x2x4x128x128 : Shape := ⟨5, ![128, 2, 4, 128, 128]⟩
abbrev S2x4x128x128x256 : Shape := ⟨5, ![2, 4, 128, 128, 256]⟩
abbrev S128x2x4x128x256 : Shape := ⟨5, ![128, 2, 4, 128, 256]⟩
abbrev S2x4x128x128 : Shape := ⟨4, ![2, 4, 128, 128]⟩
abbrev S128x2x4x128 : Shape := ⟨4, ![128, 2, 4, 128]⟩
abbrev S1x2x4x128x128 : Shape := ⟨5, ![1, 2, 4, 128, 128]⟩
abbrev S1x2x4x128x256 : Shape := ⟨5, ![1, 2, 4, 128, 256]⟩
abbrev S2x4x128x256 : Shape := ⟨4, ![2, 4, 128, 256]⟩
abbrev S1x2x4x128 : Shape := ⟨4, ![1, 2, 4, 128]⟩
abbrev S2x4x128x1 : Shape := ⟨4, ![2, 4, 128, 1]⟩
abbrev S2x4x1x128 : Shape := ⟨4, ![2, 4, 1, 128]⟩
abbrev S2x4x1 : Shape := ⟨3, ![2, 4, 1]⟩
abbrev S2x4x1x1 : Shape := ⟨4, ![2, 4, 1, 1]⟩

abbrev nBuf : Space → Nat
  | .hbm => 217
  | .vmem => 0
  | .smem => 0
  | _ => 0

abbrev hbmTy0_0 (i : Nat) : BufTy := match i % 128 with
  | 0 => ⟨S2x16384x7168, .bf16⟩
  | 1 => ⟨S2x16384x4096, .f32⟩
  | 2 => ⟨S1x128, .f32⟩
  | 3 => ⟨S2x16384x2048, .bf16⟩
  | 4 => ⟨S2x16384x2048, .f32⟩
  | 5 => ⟨S2x16384x512, .f32⟩
  | 6 => ⟨S2x16384x512, .f32⟩
  | 7 => ⟨S2x16384x1024, .f32⟩
  | 8 => ⟨S2x16384x4x128, .f32⟩
  | 9 => ⟨S2x4x16384x128, .f32⟩
  | 10 => ⟨S2x16384x4x128, .f32⟩
  | 11 => ⟨S2x4x16384x128, .f32⟩
  | 12 => ⟨S2x16384x4x256, .f32⟩
  | 13 => ⟨S2x4x16384x256, .f32⟩
  | 14 => ⟨S2x16384x16, .f32⟩
  | 15 => ⟨S2x16384x8, .f32⟩
  | 16 => ⟨S2x16384x8, .f32⟩
  | 17 => ⟨S1x8, .f32⟩
  | 18 => ⟨S8, .f32⟩
  | 19 => ⟨S2x4, .f32⟩
  | 20 => ⟨S1x8, .f32⟩
  | 21 => ⟨S8, .f32⟩
  | 22 => ⟨S2x4, .f32⟩
  | 23 => ⟨S2x16384x2x4, .f32⟩
  | 24 => ⟨S1x1x2x4, .f32⟩
  | 25 => ⟨S2x16384x2x4, .f32⟩
  | 26 => ⟨S2x16384x2x4, .f32⟩
  | 27 => ⟨S2x2x4x16384, .f32⟩
  | 28 => ⟨S2x16384x2x4, .f32⟩
  | 29 => ⟨S1x1x2x4, .f32⟩
  | 30 => ⟨S2x16384x2x4, .f32⟩
  | 31 => ⟨S2x16384x2x4, .f32⟩
  | 32 => ⟨S2x16384x2x4, .f32⟩
  | 33 => ⟨S_, .f32⟩
  | 34 => ⟨S2x16384x2x4, .f32⟩
  | 35 => ⟨S2x16384x2x4, .f32⟩
  | 36 => ⟨S2x16384x2x4, .f32⟩
  | 37 => ⟨S2x16384x2x4, .f32⟩
  | 38 => ⟨S2x16384x2x4, .i1⟩
  | 39 => ⟨S2x16384x2x4, .f32⟩
  | 40 => ⟨S2x16384x2x4, .f32⟩
  | 41 => ⟨S2x16384x2x4, .f32⟩
  | 42 => ⟨S2x16384x2x4, .f32⟩
  | 43 => ⟨S2x16384x2x4, .f32⟩
  | 44 => ⟨S2x16384x2x4, .f32⟩
  | 45 => ⟨S2x16384x2x4, .f32⟩
  | 46 => ⟨S2x16384x2x4, .f32⟩
  | 47 => ⟨S2x16384x2x4, .f32⟩
  | 48 => ⟨S2x2x4x16384, .f32⟩
  | 49 => ⟨S1x2x4x16384, .f32⟩
  | 50 => ⟨S2x4x16384, .f32⟩
  | 51 => ⟨S1x2x4x16384, .f32⟩
  | 52 => ⟨S2x4x16384, .f32⟩
  | 53 => ⟨S_, .f32⟩
  | 54 => ⟨S2x4x16384x128, .f32⟩
  | 55 => ⟨S2x4x16384x128, .f32⟩
  | 56 => ⟨S_, .i1⟩
  | 57 => ⟨S128x128, .i1⟩
  | 58 => ⟨S128x128, .i32⟩
  | 59 => ⟨S_, .i32⟩
  | 60 => ⟨S128x128, .i32⟩
  | 61 => ⟨S128x128, .i32⟩
  | 62 => ⟨S128x128, .i32⟩
  | 63 => ⟨S128x128, .i1⟩
  | 64 => ⟨S_, .i1⟩
  | 65 => ⟨S128x128, .i1⟩
  | 66 => ⟨S128x128, .i1⟩
  | 67 => ⟨S_, .f32⟩
  | 68 => ⟨S2x4x256x128, .f32⟩
  | 69 => ⟨S_, .f32⟩
  | 70 => ⟨S2x4x128, .f32⟩
  | 71 => ⟨S_, .f32⟩
  | 72 => ⟨S2x4, .f32⟩
  | 73 => ⟨S2x4x128x128x128, .f32⟩
  | 74 => ⟨S128x2x4x128x128, .f32⟩
  | 75 => ⟨S2x4x128x128x128, .f32⟩
  | 76 => ⟨S128x2x4x128x128, .f32⟩
  | 77 => ⟨S2x4x128x128x256, .f32⟩
  | 78 => ⟨S128x2x4x128x256, .f32⟩
  | 79 => ⟨S2x4x128x128, .f32⟩
  | 80 => ⟨S128x2x4x128, .f32⟩
  | 81 => ⟨S2x4x128x128, .f32⟩
  | 82 => ⟨S128x2x4x128, .f32⟩
  | 83 => ⟨S_, .f32⟩
  | 84 => ⟨S128x2x4x128x256, .f32⟩
  | 85 => ⟨S_, .i32⟩
  | 86 => ⟨S128x2x4x128x128, .f32⟩
  | 87 => ⟨S128x2x4x128x128, .f32⟩
  | 88 => ⟨S128x2x4x128x256, .f32⟩
  | 89 => ⟨S128x2x4x128, .f32⟩
  | 90 => ⟨S128x2x4x128, .f32⟩
  | 91 => ⟨S128x128, .i1⟩
  | 92 => ⟨S_, .i32⟩
  | 93 => ⟨S2x4x256x128, .f32⟩
  | 94 => ⟨S2x4x128, .f32⟩
  | 95 => ⟨S2x4, .f32⟩
  | 96 => ⟨S128x2x4x128x256, .f32⟩
  | 97 => ⟨S_, .i32⟩
  | 98 => ⟨S_, .i1⟩
  | 99 => ⟨S_, .i32⟩
  | 100 => ⟨S_, .i32⟩
  | 101 => ⟨S_, .i32⟩
  | 102 => ⟨S_, .i32⟩
  | 103 => ⟨S1x2x4x128x128, .f32⟩
  | 104 => ⟨S2x4x128x128, .f32⟩
  | 105 => ⟨S_, .i32⟩
  | 106 => ⟨S_, .i32⟩
  | 107 => ⟨S_, .i32⟩
  | 108 => ⟨S_, .i32⟩
  | 109 => ⟨S1x2x4x128x128, .f32⟩
  | 110 => ⟨S2x4x128x128, .f32⟩
  | 111 => ⟨S_, .i32⟩
  | 112 => ⟨S_, .i32⟩
  | 113 => ⟨S_, .i32⟩
  | 114 => ⟨S_, .i32⟩
  | 115 => ⟨S1x2x4x128x256, .f32⟩
  | 116 => ⟨S2x4x128x256, .f32⟩
  | 117 => ⟨S_, .i32⟩
  | 118 => ⟨S_, .i32⟩
  | 119 => ⟨S_, .i32⟩
  | 120 => ⟨S1x2x4x128, .f32⟩
  | 121 => ⟨S2x4x128, .f32⟩
  | 122 => ⟨S_, .i32⟩
  | 123 => ⟨S_, .i32⟩
  | 124 => ⟨S_, .i32⟩
  | 125 => ⟨S1x2x4x128, .f32⟩
  | 126 => ⟨S2x4x128, .f32⟩
  | 127 => ⟨S_, .f32⟩
  | _ => ⟨S2x16384x7168, .bf16⟩

abbrev hbmTy0_1 (i : Nat) : BufTy := match i % 128 with
  | 0 => ⟨S_, .f32⟩
  | 1 => ⟨S2x4x128, .f32⟩
  | 2 => ⟨S2x4x128x1, .f32⟩
  | 3 => ⟨S2x4x1x128, .f32⟩
  | 4 => ⟨S2x4x128x128, .f32⟩
  | 5 => ⟨S2x4x128x128, .f32⟩
  | 6 => ⟨S2x4x128x128, .f32⟩
  | 7 => ⟨S2x4x1x128, .f32⟩
  | 8 => ⟨S2x4x128x128, .f32⟩
  | 9 => ⟨S2x4x128x128, .f32⟩
  | 10 => ⟨S_, .f32⟩
  | 11 => ⟨S_, .f32⟩
  | 12 => ⟨S2x4x128x128, .i1⟩
  | 13 => ⟨S2x4x128x128, .f32⟩
  | 14 => ⟨S2x4x128x128, .f32⟩
  | 15 => ⟨S2x4x1, .f32⟩
  | 16 => ⟨S2x4x128, .f32⟩
  | 17 => ⟨S2x4x128, .f32⟩
  | 18 => ⟨S_, .f32⟩
  | 19 => ⟨S2x4x128, .f32⟩
  | 20 => ⟨S2x4x128, .f32⟩
  | 21 => ⟨S2x4x128x128, .f32⟩
  | 22 => ⟨S2x4x128x1, .f32⟩
  | 23 => ⟨S2x4x128x128, .f32⟩
  | 24 => ⟨S2x4x128x128, .f32⟩
  | 25 => ⟨S2x4x128x128, .f32⟩
  | 26 => ⟨S2x4x128x128, .f32⟩
  | 27 => ⟨S2x4x128, .f32⟩
  | 28 => ⟨S2x4x128, .f32⟩
  | 29 => ⟨S2x4x128x256, .f32⟩
  | 30 => ⟨S2x4x128x1, .f32⟩
  | 31 => ⟨S2x4x128x256, .f32⟩
  | 32 => ⟨S2x4x128x256, .f32⟩
  | 33 => ⟨S2x4x128x256, .f32⟩
  | 34 => ⟨S2x4x128x256, .f32⟩
  | 35 => ⟨S_, .f32⟩
  | 36 => ⟨S2x4x128, .f32⟩
  | 37 => ⟨S2x4x128, .f32⟩
  | 38 => ⟨S2x4x128, .f32⟩
  | 39 => ⟨S2x4x128, .f32⟩
  | 40 => ⟨S2x4x128, .f32⟩
  | 41 => ⟨S2x4x128, .f32⟩
  | 42 => ⟨S2x4x128, .f32⟩
  | 43 => ⟨S2x4x128, .f32⟩
  | 44 => ⟨S2x4x128x1, .f32⟩
  | 45 => ⟨S2x4x128x256, .f32⟩
  | 46 => ⟨S2x4x128x256, .f32⟩
  | 47 => ⟨S2x4x1, .f32⟩
  | 48 => ⟨S2x4, .f32⟩
  | 49 => ⟨S2x4x1, .f32⟩
  | 50 => ⟨S2x4x128, .f32⟩
  | 51 => ⟨S2x4x128, .f32⟩
  | 52 => ⟨S2x4x128, .f32⟩
  | 53 => ⟨S2x4, .f32⟩
  | 54 => ⟨S_, .f32⟩
  | 55 => ⟨S2x4, .f32⟩
  | 56 => ⟨S2x4, .f32⟩
  | 57 => ⟨S2x4x1, .f32⟩
  | 58 => ⟨S2x4x128, .f32⟩
  | 59 => ⟨S2x4x128, .f32⟩
  | 60 => ⟨S2x4x128, .f32⟩
  | 61 => ⟨S2x4, .f32⟩
  | 62 => ⟨S2x4, .f32⟩
  | 63 => ⟨S2x4, .f32⟩
  | 64 => ⟨S2x4x1x1, .f32⟩
  | 65 => ⟨S2x4x256x128, .f32⟩
  | 66 => ⟨S2x4x256x128, .f32⟩
  | 67 => ⟨S2x4x128x1, .f32⟩
  | 68 => ⟨S2x4x128x256, .f32⟩
  | 69 => ⟨S2x4x128x256, .f32⟩
  | 70 => ⟨S2x4x256x128, .f32⟩
  | 71 => ⟨S2x4x256x128, .f32⟩
  | 72 => ⟨S2x4x1, .f32⟩
  | 73 => ⟨S2x4x128, .f32⟩
  | 74 => ⟨S2x4x128, .f32⟩
  | 75 => ⟨S2x4x128, .f32⟩
  | 76 => ⟨S2x4x128, .f32⟩
  | 77 => ⟨S1x2x4x128x256, .f32⟩
  | 78 => ⟨S_, .i32⟩
  | 79 => ⟨S_, .i32⟩
  | 80 => ⟨S_, .i32⟩
  | 81 => ⟨S_, .i32⟩
  | 82 => ⟨S128x2x4x128x256, .f32⟩
  | 83 => ⟨S_, .i32⟩
  | 84 => ⟨S_, .i32⟩
  | 85 => ⟨S2x4x128x128x256, .f32⟩
  | 86 => ⟨S2x4x16384x256, .f32⟩
  | 87 => ⟨S2x16384x4x256, .f32⟩
  | 88 => ⟨S2x16384x1024, .f32⟩
  | _ => ⟨S2x16384x7168, .bf16⟩

abbrev hbmTy (i : Nat) : BufTy := match i / 128 with
  | 0 => hbmTy0_0 i
  | 1 => hbmTy0_1 i
  | _ => ⟨S2x16384x7168, .bf16⟩

abbrev bufTy : (tb : Table) → Fin (tcTables nBuf tb) → BufTy
  | .hbm, ⟨i, _⟩ => hbmTy i
  | _, _ => ⟨S2x16384x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_call0_v0 : Ref sig .tc := ⟨.hbm, 32, rfl⟩
abbrev main_call0_call0_cst : Ref sig .tc := ⟨.hbm, 33, rfl⟩
abbrev main_call0_call0_v0 : Ref sig .tc := ⟨.hbm, 34, rfl⟩
abbrev main_call0_call0_v1 : Ref sig .tc := ⟨.hbm, 35, rfl⟩
abbrev main_call0_call0_v2 : Ref sig .tc := ⟨.hbm, 36, rfl⟩
abbrev main_call0_call0_v3 : Ref sig .tc := ⟨.hbm, 37, rfl⟩
abbrev main_call0_call0_v4 : Ref sig .tc := ⟨.hbm, 38, rfl⟩
abbrev main_call0_call0_v5 : Ref sig .tc := ⟨.hbm, 39, rfl⟩
abbrev main_call0_call0_v6 : Ref sig .tc := ⟨.hbm, 40, rfl⟩
abbrev main_call0_call0_v7 : Ref sig .tc := ⟨.hbm, 41, rfl⟩
abbrev main_call0_call0_v8 : Ref sig .tc := ⟨.hbm, 42, rfl⟩
abbrev main_call0_call0_v9 : Ref sig .tc := ⟨.hbm, 43, rfl⟩
abbrev main_call0_call0_v10 : Ref sig .tc := ⟨.hbm, 44, rfl⟩
abbrev main_call0_call0_v11 : Ref sig .tc := ⟨.hbm, 45, rfl⟩
abbrev main_call0_v1 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst : Ref sig .tc := ⟨.hbm, 53, rfl⟩
abbrev main_v35 : Ref sig .tc := ⟨.hbm, 54, rfl⟩
abbrev main_v36 : Ref sig .tc := ⟨.hbm, 55, rfl⟩
abbrev main_c : Ref sig .tc := ⟨.hbm, 56, rfl⟩
abbrev main_v37 : Ref sig .tc := ⟨.hbm, 57, rfl⟩
abbrev main_call1_v0 : Ref sig .tc := ⟨.hbm, 58, rfl⟩
abbrev main_call1_c : Ref sig .tc := ⟨.hbm, 59, rfl⟩
abbrev main_call1_v1 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_call1_c_0 : Ref sig .tc := ⟨.hbm, 64, rfl⟩
abbrev main_call1_v5 : Ref sig .tc := ⟨.hbm, 65, rfl⟩
abbrev main_v38 : Ref sig .tc := ⟨.hbm, 66, rfl⟩
abbrev main_cst_0 : Ref sig .tc := ⟨.hbm, 67, rfl⟩
abbrev main_v39 : Ref sig .tc := ⟨.hbm, 68, rfl⟩
abbrev main_cst_1 : Ref sig .tc := ⟨.hbm, 69, rfl⟩
abbrev main_v40 : Ref sig .tc := ⟨.hbm, 70, rfl⟩
abbrev main_cst_2 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_cst_3 : Ref sig .tc := ⟨.hbm, 83, rfl⟩
abbrev main_v52 : Ref sig .tc := ⟨.hbm, 84, rfl⟩
abbrev main_c_4 : Ref sig .tc := ⟨.hbm, 85, rfl⟩
abbrev main_v53_0 : Ref sig .tc := ⟨.hbm, 86, rfl⟩
abbrev main_v53_1 : Ref sig .tc := ⟨.hbm, 87, rfl⟩
abbrev main_v53_2 : Ref sig .tc := ⟨.hbm, 88, rfl⟩
abbrev main_v53_3 : Ref sig .tc := ⟨.hbm, 89, rfl⟩
abbrev main_v53_4 : Ref sig .tc := ⟨.hbm, 90, rfl⟩
abbrev main_v53_5 : Ref sig .tc := ⟨.hbm, 91, rfl⟩
abbrev main_v53_6 : Ref sig .tc := ⟨.hbm, 92, rfl⟩
abbrev main_v53_7 : Ref sig .tc := ⟨.hbm, 93, rfl⟩
abbrev main_v53_8 : Ref sig .tc := ⟨.hbm, 94, rfl⟩
abbrev main_v53_9 : Ref sig .tc := ⟨.hbm, 95, rfl⟩
abbrev main_v53_10 : Ref sig .tc := ⟨.hbm, 96, rfl⟩
abbrev main_while0c_c_15 : Ref sig .tc := ⟨.hbm, 97, rfl⟩
abbrev main_while0c_v58 : Ref sig .tc := ⟨.hbm, 98, rfl⟩
abbrev main_while0b_call2_c : Ref sig .tc := ⟨.hbm, 99, rfl⟩
abbrev main_while0b_call2_c_0 : Ref sig .tc := ⟨.hbm, 100, rfl⟩
abbrev main_while0b_call2_c_1 : Ref sig .tc := ⟨.hbm, 101, rfl⟩
abbrev main_while0b_call2_c_2 : Ref sig .tc := ⟨.hbm, 102, rfl⟩
abbrev main_while0b_call2_v0 : Ref sig .tc := ⟨.hbm, 103, rfl⟩
abbrev main_while0b_v58 : Ref sig .tc := ⟨.hbm, 104, rfl⟩
abbrev main_while0b_call3_c : Ref sig .tc := ⟨.hbm, 105, rfl⟩
abbrev main_while0b_call3_c_0 : Ref sig .tc := ⟨.hbm, 106, rfl⟩
abbrev main_while0b_call3_c_1 : Ref sig .tc := ⟨.hbm, 107, rfl⟩
abbrev main_while0b_call3_c_2 : Ref sig .tc := ⟨.hbm, 108, rfl⟩
abbrev main_while0b_call3_v0 : Ref sig .tc := ⟨.hbm, 109, rfl⟩
abbrev main_while0b_v59 : Ref sig .tc := ⟨.hbm, 110, rfl⟩
abbrev main_while0b_call4_c : Ref sig .tc := ⟨.hbm, 111, rfl⟩
abbrev main_while0b_call4_c_0 : Ref sig .tc := ⟨.hbm, 112, rfl⟩
abbrev main_while0b_call4_c_1 : Ref sig .tc := ⟨.hbm, 113, rfl⟩
abbrev main_while0b_call4_c_2 : Ref sig .tc := ⟨.hbm, 114, rfl⟩
abbrev main_while0b_call4_v0 : Ref sig .tc := ⟨.hbm, 115, rfl⟩
abbrev main_while0b_v60 : Ref sig .tc := ⟨.hbm, 116, rfl⟩
abbrev main_while0b_call5_c : Ref sig .tc := ⟨.hbm, 117, rfl⟩
abbrev main_while0b_call5_c_0 : Ref sig .tc := ⟨.hbm, 118, rfl⟩
abbrev main_while0b_call5_c_1 : Ref sig .tc := ⟨.hbm, 119, rfl⟩
abbrev main_while0b_call5_v0 : Ref sig .tc := ⟨.hbm, 120, rfl⟩
abbrev main_while0b_v61 : Ref sig .tc := ⟨.hbm, 121, rfl⟩
abbrev main_while0b_call6_c : Ref sig .tc := ⟨.hbm, 122, rfl⟩
abbrev main_while0b_call6_c_0 : Ref sig .tc := ⟨.hbm, 123, rfl⟩
abbrev main_while0b_call6_c_1 : Ref sig .tc := ⟨.hbm, 124, rfl⟩
abbrev main_while0b_call6_v0 : Ref sig .tc := ⟨.hbm, 125, rfl⟩
abbrev main_while0b_v62 : Ref sig .tc := ⟨.hbm, 126, rfl⟩
abbrev main_while0b_call7_call0_cst : Ref sig .tc := ⟨.hbm, 127, rfl⟩
abbrev main_while0b_call7_call0_v0 : Ref sig .tc := ⟨.hbm, 128, rfl⟩
abbrev main_while0b_v63 : Ref sig .tc := ⟨.hbm, 129, rfl⟩
abbrev main_while0b_v64 : Ref sig .tc := ⟨.hbm, 130, rfl⟩
abbrev main_while0b_v65 : Ref sig .tc := ⟨.hbm, 131, rfl⟩
abbrev main_while0b_v66 : Ref sig .tc := ⟨.hbm, 132, rfl⟩
abbrev main_while0b_v67 : Ref sig .tc := ⟨.hbm, 133, rfl⟩
abbrev main_while0b_v68 : Ref sig .tc := ⟨.hbm, 134, rfl⟩
abbrev main_while0b_v69 : Ref sig .tc := ⟨.hbm, 135, rfl⟩
abbrev main_while0b_v70 : Ref sig .tc := ⟨.hbm, 136, rfl⟩
abbrev main_while0b_v71 : Ref sig .tc := ⟨.hbm, 137, rfl⟩
abbrev main_while0b_cst_15 : Ref sig .tc := ⟨.hbm, 138, rfl⟩
abbrev main_while0b_call8_v0 : Ref sig .tc := ⟨.hbm, 139, rfl⟩
abbrev main_while0b_call8_v1 : Ref sig .tc := ⟨.hbm, 140, rfl⟩
abbrev main_while0b_call8_v2 : Ref sig .tc := ⟨.hbm, 141, rfl⟩
abbrev main_while0b_v72 : Ref sig .tc := ⟨.hbm, 142, rfl⟩
abbrev main_while0b_v73 : Ref sig .tc := ⟨.hbm, 143, rfl⟩
abbrev main_while0b_v74 : Ref sig .tc := ⟨.hbm, 144, rfl⟩
abbrev main_while0b_v75 : Ref sig .tc := ⟨.hbm, 145, rfl⟩
abbrev main_while0b_cst_16 : Ref sig .tc := ⟨.hbm, 146, rfl⟩
abbrev main_while0b_v76 : Ref sig .tc := ⟨.hbm, 147, rfl⟩
abbrev main_while0b_v77 : Ref sig .tc := ⟨.hbm, 148, rfl⟩
abbrev main_while0b_v78 : Ref sig .tc := ⟨.hbm, 149, rfl⟩
abbrev main_while0b_v79 : Ref sig .tc := ⟨.hbm, 150, rfl⟩
abbrev main_while0b_v80 : Ref sig .tc := ⟨.hbm, 151, rfl⟩
abbrev main_while0b_v81 : Ref sig .tc := ⟨.hbm, 152, rfl⟩
abbrev main_while0b_v82 : Ref sig .tc := ⟨.hbm, 153, rfl⟩
abbrev main_while0b_v83 : Ref sig .tc := ⟨.hbm, 154, rfl⟩
abbrev main_while0b_v84 : Ref sig .tc := ⟨.hbm, 155, rfl⟩
abbrev main_while0b_v85 : Ref sig .tc := ⟨.hbm, 156, rfl⟩
abbrev main_while0b_v86 : Ref sig .tc := ⟨.hbm, 157, rfl⟩
abbrev main_while0b_v87 : Ref sig .tc := ⟨.hbm, 158, rfl⟩
abbrev main_while0b_v88 : Ref sig .tc := ⟨.hbm, 159, rfl⟩
abbrev main_while0b_v89 : Ref sig .tc := ⟨.hbm, 160, rfl⟩
abbrev main_while0b_v90 : Ref sig .tc := ⟨.hbm, 161, rfl⟩
abbrev main_while0b_v91 : Ref sig .tc := ⟨.hbm, 162, rfl⟩
abbrev main_while0b_cst_17 : Ref sig .tc := ⟨.hbm, 163, rfl⟩
abbrev main_while0b_v92 : Ref sig .tc := ⟨.hbm, 164, rfl⟩
abbrev main_while0b_v93 : Ref sig .tc := ⟨.hbm, 165, rfl⟩
abbrev main_while0b_v94 : Ref sig .tc := ⟨.hbm, 166, rfl⟩
abbrev main_while0b_v95 : Ref sig .tc := ⟨.hbm, 167, rfl⟩
abbrev main_while0b_v96 : Ref sig .tc := ⟨.hbm, 168, rfl⟩
abbrev main_while0b_v97 : Ref sig .tc := ⟨.hbm, 169, rfl⟩
abbrev main_while0b_v98 : Ref sig .tc := ⟨.hbm, 170, rfl⟩
abbrev main_while0b_v99 : Ref sig .tc := ⟨.hbm, 171, rfl⟩
abbrev main_while0b_v100 : Ref sig .tc := ⟨.hbm, 172, rfl⟩
abbrev main_while0b_v101 : Ref sig .tc := ⟨.hbm, 173, rfl⟩
abbrev main_while0b_v102 : Ref sig .tc := ⟨.hbm, 174, rfl⟩
abbrev main_while0b_v103 : Ref sig .tc := ⟨.hbm, 175, rfl⟩
abbrev main_while0b_v104 : Ref sig .tc := ⟨.hbm, 176, rfl⟩
abbrev main_while0b_v105 : Ref sig .tc := ⟨.hbm, 177, rfl⟩
abbrev main_while0b_v106 : Ref sig .tc := ⟨.hbm, 178, rfl⟩
abbrev main_while0b_v107 : Ref sig .tc := ⟨.hbm, 179, rfl⟩
abbrev main_while0b_v108 : Ref sig .tc := ⟨.hbm, 180, rfl⟩
abbrev main_while0b_v109 : Ref sig .tc := ⟨.hbm, 181, rfl⟩
abbrev main_while0b_cst_18 : Ref sig .tc := ⟨.hbm, 182, rfl⟩
abbrev main_while0b_v110 : Ref sig .tc := ⟨.hbm, 183, rfl⟩
abbrev main_while0b_v111 : Ref sig .tc := ⟨.hbm, 184, rfl⟩
abbrev main_while0b_v112 : Ref sig .tc := ⟨.hbm, 185, rfl⟩
abbrev main_while0b_v113 : Ref sig .tc := ⟨.hbm, 186, rfl⟩
abbrev main_while0b_v114 : Ref sig .tc := ⟨.hbm, 187, rfl⟩
abbrev main_while0b_v115 : Ref sig .tc := ⟨.hbm, 188, rfl⟩
abbrev main_while0b_v116 : Ref sig .tc := ⟨.hbm, 189, rfl⟩
abbrev main_while0b_v117 : Ref sig .tc := ⟨.hbm, 190, rfl⟩
abbrev main_while0b_v118 : Ref sig .tc := ⟨.hbm, 191, rfl⟩
abbrev main_while0b_v119 : Ref sig .tc := ⟨.hbm, 192, rfl⟩
abbrev main_while0b_v120 : Ref sig .tc := ⟨.hbm, 193, rfl⟩
abbrev main_while0b_v121 : Ref sig .tc := ⟨.hbm, 194, rfl⟩
abbrev main_while0b_v122 : Ref sig .tc := ⟨.hbm, 195, rfl⟩
abbrev main_while0b_v123 : Ref sig .tc := ⟨.hbm, 196, rfl⟩
abbrev main_while0b_v124 : Ref sig .tc := ⟨.hbm, 197, rfl⟩
abbrev main_while0b_v125 : Ref sig .tc := ⟨.hbm, 198, rfl⟩
abbrev main_while0b_v126 : Ref sig .tc := ⟨.hbm, 199, rfl⟩
abbrev main_while0b_v127 : Ref sig .tc := ⟨.hbm, 200, rfl⟩
abbrev main_while0b_v128 : Ref sig .tc := ⟨.hbm, 201, rfl⟩
abbrev main_while0b_v129 : Ref sig .tc := ⟨.hbm, 202, rfl⟩
abbrev main_while0b_v130 : Ref sig .tc := ⟨.hbm, 203, rfl⟩
abbrev main_while0b_v131 : Ref sig .tc := ⟨.hbm, 204, rfl⟩
abbrev main_while0b_call9_v0 : Ref sig .tc := ⟨.hbm, 205, rfl⟩
abbrev main_while0b_call9_c : Ref sig .tc := ⟨.hbm, 206, rfl⟩
abbrev main_while0b_call9_c_0 : Ref sig .tc := ⟨.hbm, 207, rfl⟩
abbrev main_while0b_call9_c_1 : Ref sig .tc := ⟨.hbm, 208, rfl⟩
abbrev main_while0b_call9_c_2 : Ref sig .tc := ⟨.hbm, 209, rfl⟩
abbrev main_while0b_v132 : Ref sig .tc := ⟨.hbm, 210, rfl⟩
abbrev main_while0b_c_19 : Ref sig .tc := ⟨.hbm, 211, rfl⟩
abbrev main_while0b_v133 : Ref sig .tc := ⟨.hbm, 212, rfl⟩
abbrev main_v54 : Ref sig .tc := ⟨.hbm, 213, rfl⟩
abbrev main_v55 : Ref sig .tc := ⟨.hbm, 214, rfl⟩
abbrev main_v56 : Ref sig .tc := ⟨.hbm, 215, rfl⟩
abbrev main_v57 : Ref sig .tc := ⟨.hbm, 216, rfl⟩

abbrev nD : Nat := 1
abbrev τ : Topo := Topo.v7x

variable {F : FTy → Type} [FloatOps F]

abbrev main_while0_count : Scf.Loop 32 := ⟨0#32, 128#32, 1#32⟩
-- ==== Bwd.lean ====
abbrev S2x16384x7168 : Shape := ⟨3, ![2, 16384, 7168]⟩
abbrev S2x16384x4096 : Shape := ⟨3, ![2, 16384, 4096]⟩
abbrev S1x128 : Shape := ⟨2, ![1, 128]⟩
abbrev S2x16384x1024 : Shape := ⟨3, ![2, 16384, 1024]⟩
abbrev S1x128x512 : Shape := ⟨3, ![1, 128, 512]⟩
abbrev S1x128x1024 : Shape := ⟨3, ![1, 128, 1024]⟩
abbrev S1x128x128 : Shape := ⟨3, ![1, 128, 128]⟩
abbrev S4x128x256 : Shape := ⟨3, ![4, 128, 256]⟩
abbrev S8x128 : Shape := ⟨2, ![8, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x1 : Shape := ⟨2, ![1, 1]⟩
abbrev S1x128x256 : Shape := ⟨3, ![1, 128, 256]⟩
abbrev S128x256 : Shape := ⟨2, ![128, 256]⟩

abbrev nBuf : Space → Nat
  | .hbm => 4
  | .vmem => 14
  | .smem => 0
  | _ => 0

abbrev bufTy : (tb : Table) → Fin (tcTables nBuf tb) → BufTy
  | .hbm, ⟨0, _⟩ => ⟨S2x16384x7168, .bf16⟩
  | .hbm, ⟨1, _⟩ => ⟨S2x16384x4096, .f32⟩
  | .hbm, ⟨2, _⟩ => ⟨S1x128, .f32⟩
  | .hbm, ⟨3, _⟩ => ⟨S2x16384x1024, .f32⟩
  | .local _ .vmem, ⟨0, _⟩ => ⟨S1x128x512, .bf16⟩
  | .local _ .vmem, ⟨1, _⟩ => ⟨S1x128x512, .bf16⟩
  | .local _ .vmem, ⟨2, _⟩ => ⟨S1x128x512, .bf16⟩
  | .local _ .vmem, ⟨3, _⟩ => ⟨S1x128x512, .bf16⟩
  | .local _ .vmem, ⟨4, _⟩ => ⟨S1x128x1024, .bf16⟩
  | .local _ .vmem, ⟨5, _⟩ => ⟨S1x128x1024, .bf16⟩
  | .local _ .vmem, ⟨6, _⟩ => ⟨S1x128x128, .f32⟩
  | .local _ .vmem, ⟨7, _⟩ => ⟨S1x128x128, .f32⟩
  | .local _ .vmem, ⟨8, _⟩ => ⟨S1x128, .f32⟩
  | .local _ .vmem, ⟨9, _⟩ => ⟨S1x128x1024, .f32⟩
  | .local _ .vmem, ⟨10, _⟩ => ⟨S1x128x1024, .f32⟩
  | .local _ .vmem, ⟨11, _⟩ => ⟨S4x128x256, .f32⟩
  | .local _ .vmem, ⟨12, _⟩ => ⟨S8x128, .f32⟩
  | .local _ .vmem, ⟨13, _⟩ => ⟨S8x128, .f32⟩
  | _, _ => ⟨S2x16384x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 128], ![false, false]⟩

def cc0_transform_0 (i : grid0.Coords) : Fin 3 → Nat :=
  let arg0 : BitVec 32 := BitVec.ofNat 32 (i 0).val
  let arg1 : BitVec 32 := BitVec.ofNat 32 (i 1).val
  let c127_i32 : BitVec 32 := 127#32
  let v0 : BitVec 32 := Scalar.subi c127_i32 arg1
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c127_i32 : BitVec 32 := 127#32
  let v0 : BitVec 32 := Scalar.subi c127_i32 arg1
  let c1_i32 : BitVec 32 := 1#32
  let c0_i32 : BitVec 32 := 0#32
  ![arg0.toNat, v0.toNat, c1_i32.toNat]

def cc0_transform_2 (i : grid0.Coords) : Fin 3 → Nat :=
  let arg0 : BitVec 32 := BitVec.ofNat 32 (i 0).val
  let arg1 : BitVec 32 := BitVec.ofNat 32 (i 1).val
  let c127_i32 : BitVec 32 := 127#32
  let v0 : BitVec 32 := Scalar.subi c127_i32 arg1
  let c1_i32 : BitVec 32 := 1#32
  let c0_i32 : BitVec 32 := 0#32
  ![arg0.toNat, v0.toNat, c1_i32.toNat]

def cc0_transform_3 (i : grid0.Coords) : Fin 3 → Nat :=
  let arg0 : BitVec 32 := BitVec.ofNat 32 (i 0).val
  let arg1 : BitVec 32 := BitVec.ofNat 32 (i 1).val
  let c127_i32 : BitVec 32 := 127#32
  let v0 : BitVec 32 := Scalar.subi c127_i32 arg1
  let c28_i32 : BitVec 32 := 28#32
  let c0_i32 : BitVec 32 := 0#32
  ![arg0.toNat, v0.toNat, c28_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c127_i32 : BitVec 32 := 127#32
  let v0 : BitVec 32 := Scalar.subi c127_i32 arg1
  let c0_i32 : BitVec 32 := 0#32
  let c0_i32_0 : BitVec 32 := 0#32
  ![arg0.toNat, v0.toNat, c0_i32.toNat]

abbrev stage0_0 : Fin 2 → Memref sig .tc .vmem S1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== BwdRefIdeal.lean ====
abbrev S2x16384x7168 : Shape := ⟨3, ![2, 16384, 7168]⟩
abbrev S2x16384x4096 : Shape := ⟨3, ![2, 16384, 4096]⟩
abbrev S1x128 : Shape := ⟨2, ![1, 128]⟩
abbrev S2x16384x2048 : Shape := ⟨3, ![2, 16384, 2048]⟩
abbrev S2x16384x512 : Shape := ⟨3, ![2, 16384, 512]⟩
abbrev S2x16384x1024 : Shape := ⟨3, ![2, 16384, 1024]⟩
abbrev S2x16384x4x128 : Shape := ⟨4, ![2, 16384, 4, 128]⟩
abbrev S2x4x16384x128 : Shape := ⟨4, ![2, 4, 16384, 128]⟩
abbrev S2x16384x4x256 : Shape := ⟨4, ![2, 16384, 4, 256]⟩
abbrev S2x4x16384x256 : Shape := ⟨4, ![2, 4, 16384, 256]⟩
abbrev S2x16384x16 : Shape := ⟨3, ![2, 16384, 16]⟩
abbrev S2x16384x8 : Shape := ⟨3, ![2, 16384, 8]⟩
abbrev S1x8 : Shape := ⟨2, ![1, 8]⟩
abbrev S8 : Shape := ⟨1, ![8]⟩
abbrev S2x4 : Shape := ⟨2, ![2, 4]⟩
abbrev S2x16384x2x4 : Shape := ⟨4, ![2, 16384, 2, 4]⟩
abbrev S1x1x2x4 : Shape := ⟨4, ![1, 1, 2, 4]⟩
abbrev S2x2x4x16384 : Shape := ⟨4, ![2, 2, 4, 16384]⟩
abbrev S_ : Shape := ⟨0, ![]⟩
abbrev S1x2x4x16384 : Shape := ⟨4, ![1, 2, 4, 16384]⟩
abbrev S2x4x16384 : Shape := ⟨3, ![2, 4, 16384]⟩
abbrev S128x128 : Shape := ⟨2, ![128, 128]⟩
abbrev S2x4x256x128 : Shape := ⟨4, ![2, 4, 256, 128]⟩
abbrev S2x4x128 : Shape := ⟨3, ![2, 4, 128]⟩
abbrev S2x4x128x128x128 : Shape := ⟨5, ![2, 4, 128, 128, 128]⟩
abbrev S128x2x4x128x128 : Shape := ⟨5, ![128, 2, 4, 128, 128]⟩
abbrev S2x4x128x128x256 : Shape := ⟨5, ![2, 4, 128, 128, 256]⟩
abbrev S128x2x4x128x256 : Shape := ⟨5, ![128, 2, 4, 128, 256]⟩
abbrev S2x4x128x128 : Shape := ⟨4, ![2, 4, 128, 128]⟩
abbrev S128x2x4x128 : Shape := ⟨4, ![128, 2, 4, 128]⟩
abbrev S1x2x4x128x128 : Shape := ⟨5, ![1, 2, 4, 128, 128]⟩
abbrev S1x2x4x128x256 : Shape := ⟨5, ![1, 2, 4, 128, 256]⟩
abbrev S2x4x128x256 : Shape := ⟨4, ![2, 4, 128, 256]⟩
abbrev S1x2x4x128 : Shape := ⟨4, ![1, 2, 4, 128]⟩
abbrev S2x4x128x1 : Shape := ⟨4, ![2, 4, 128, 1]⟩
abbrev S2x4x1x128 : Shape := ⟨4, ![2, 4, 1, 128]⟩
abbrev S2x4x1 : Shape := ⟨3, ![2, 4, 1]⟩
abbrev S2x4x1x1 : Shape := ⟨4, ![2, 4, 1, 1]⟩

abbrev nBuf : Space → Nat
  | .hbm => 223
  | .vmem => 0
  | .smem => 0
  | _ => 0

abbrev hbmTy0_0 (i : Nat) : BufTy := match i % 128 with
  | 0 => ⟨S2x16384x7168, .bf16⟩
  | 1 => ⟨S2x16384x4096, .f32⟩
  | 2 => ⟨S1x128, .f32⟩
  | 3 => ⟨S2x16384x2048, .bf16⟩
  | 4 => ⟨S2x16384x2048, .f32⟩
  | 5 => ⟨S2x16384x512, .f32⟩
  | 6 => ⟨S2x16384x512, .f32⟩
  | 7 => ⟨S2x16384x1024, .f32⟩
  | 8 => ⟨S2x16384x4x128, .f32⟩
  | 9 => ⟨S2x4x16384x128, .f32⟩
  | 10 => ⟨S2x16384x4x128, .f32⟩
  | 11 => ⟨S2x4x16384x128, .f32⟩
  | 12 => ⟨S2x16384x4x256, .f32⟩
  | 13 => ⟨S2x4x16384x256, .f32⟩
  | 14 => ⟨S2x16384x16, .f32⟩
  | 15 => ⟨S2x16384x8, .f32⟩
  | 16 => ⟨S2x16384x8, .f32⟩
  | 17 => ⟨S1x8, .f32⟩
  | 18 => ⟨S8, .f32⟩
  | 19 => ⟨S2x4, .f32⟩
  | 20 => ⟨S1x8, .f32⟩
  | 21 => ⟨S8, .f32⟩
  | 22 => ⟨S2x4, .f32⟩
  | 23 => ⟨S2x16384x2x4, .f32⟩
  | 24 => ⟨S1x1x2x4, .f32⟩
  | 25 => ⟨S2x16384x2x4, .f32⟩
  | 26 => ⟨S2x16384x2x4, .f32⟩
  | 27 => ⟨S2x2x4x16384, .f32⟩
  | 28 => ⟨S2x16384x2x4, .f32⟩
  | 29 => ⟨S1x1x2x4, .f32⟩
  | 30 => ⟨S2x16384x2x4, .f32⟩
  | 31 => ⟨S2x16384x2x4, .f32⟩
  | 32 => ⟨S2x16384x2x4, .f32⟩
  | 33 => ⟨S_, .f32⟩
  | 34 => ⟨S2x16384x2x4, .f32⟩
  | 35 => ⟨S2x16384x2x4, .f32⟩
  | 36 => ⟨S2x16384x2x4, .f32⟩
  | 37 => ⟨S2x16384x2x4, .f32⟩
  | 38 => ⟨S2x16384x2x4, .i1⟩
  | 39 => ⟨S2x16384x2x4, .f32⟩
  | 40 => ⟨S2x16384x2x4, .f32⟩
  | 41 => ⟨S2x16384x2x4, .f32⟩
  | 42 => ⟨S2x16384x2x4, .f32⟩
  | 43 => ⟨S2x16384x2x4, .f32⟩
  | 44 => ⟨S2x16384x2x4, .f32⟩
  | 45 => ⟨S2x16384x2x4, .f32⟩
  | 46 => ⟨S2x16384x2x4, .f32⟩
  | 47 => ⟨S2x16384x2x4, .f32⟩
  | 48 => ⟨S2x2x4x16384, .f32⟩
  | 49 => ⟨S1x2x4x16384, .f32⟩
  | 50 => ⟨S2x4x16384, .f32⟩
  | 51 => ⟨S1x2x4x16384, .f32⟩
  | 52 => ⟨S2x4x16384, .f32⟩
  | 53 => ⟨S2x4x16384x128, .f32⟩
  | 54 => ⟨S2x4x16384x128, .f32⟩
  | 55 => ⟨S2x4x16384x256, .f32⟩
  | 56 => ⟨S2x4x16384, .f32⟩
  | 57 => ⟨S2x4x16384, .f32⟩
  | 58 => ⟨S_, .f32⟩
  | 59 => ⟨S2x4x16384x128, .f32⟩
  | 60 => ⟨S2x4x16384x128, .f32⟩
  | 61 => ⟨S_, .i1⟩
  | 62 => ⟨S128x128, .i1⟩
  | 63 => ⟨S128x128, .i32⟩
  | 64 => ⟨S_, .i32⟩
  | 65 => ⟨S128x128, .i32⟩
  | 66 => ⟨S128x128, .i32⟩
  | 67 => ⟨S128x128, .i32⟩
  | 68 => ⟨S128x128, .i1⟩
  | 69 => ⟨S_, .i1⟩
  | 70 => ⟨S128x128, .i1⟩
  | 71 => ⟨S128x128, .i1⟩
  | 72 => ⟨S_, .f32⟩
  | 73 => ⟨S2x4x256x128, .f32⟩
  | 74 => ⟨S_, .f32⟩
  | 75 => ⟨S2x4x128, .f32⟩
  | 76 => ⟨S_, .f32⟩
  | 77 => ⟨S2x4, .f32⟩
  | 78 => ⟨S2x4x128x128x128, .f32⟩
  | 79 => ⟨S128x2x4x128x128, .f32⟩
  | 80 => ⟨S2x4x128x128x128, .f32⟩
  | 81 => ⟨S128x2x4x128x128, .f32⟩
  | 82 => ⟨S2x4x128x128x256, .f32⟩
  | 83 => ⟨S128x2x4x128x256, .f32⟩
  | 84 => ⟨S2x4x128x128, .f32⟩
  | 85 => ⟨S128x2x4x128, .f32⟩
  | 86 => ⟨S2x4x128x128, .f32⟩
  | 87 => ⟨S128x2x4x128, .f32⟩
  | 88 => ⟨S_, .f32⟩
  | 89 => ⟨S128x2x4x128x256, .f32⟩
  | 90 => ⟨S_, .i32⟩
  | 91 => ⟨S128x2x4x128x128, .f32⟩
  | 92 => ⟨S128x2x4x128x128, .f32⟩
  | 93 => ⟨S128x2x4x128x256, .f32⟩
  | 94 => ⟨S128x2x4x128, .f32⟩
  | 95 => ⟨S128x2x4x128, .f32⟩
  | 96 => ⟨S128x128, .i1⟩
  | 97 => ⟨S_, .i32⟩
  | 98 => ⟨S2x4x256x128, .f32⟩
  | 99 => ⟨S2x4x128, .f32⟩
  | 100 => ⟨S2x4, .f32⟩
  | 101 => ⟨S128x2x4x128x256, .f32⟩
  | 102 => ⟨S_, .i32⟩
  | 103 => ⟨S_, .i1⟩
  | 104 => ⟨S_, .i32⟩
  | 105 => ⟨S_, .i32⟩
  | 106 => ⟨S_, .i32⟩
  | 107 => ⟨S_, .i32⟩
  | 108 => ⟨S1x2x4x128x128, .f32⟩
  | 109 => ⟨S2x4x128x128, .f32⟩
  | 110 => ⟨S_, .i32⟩
  | 111 => ⟨S_, .i32⟩
  | 112 => ⟨S_, .i32⟩
  | 113 => ⟨S_, .i32⟩
  | 114 => ⟨S1x2x4x128x128, .f32⟩
  | 115 => ⟨S2x4x128x128, .f32⟩
  | 116 => ⟨S_, .i32⟩
  | 117 => ⟨S_, .i32⟩
  | 118 => ⟨S_, .i32⟩
  | 119 => ⟨S_, .i32⟩
  | 120 => ⟨S1x2x4x128x256, .f32⟩
  | 121 => ⟨S2x4x128x256, .f32⟩
  | 122 => ⟨S_, .i32⟩
  | 123 => ⟨S_, .i32⟩
  | 124 => ⟨S_, .i32⟩
  | 125 => ⟨S1x2x4x128, .f32⟩
  | 126 => ⟨S2x4x128, .f32⟩
  | 127 => ⟨S_, .i32⟩
  | _ => ⟨S2x16384x7168, .bf16⟩

abbrev hbmTy0_1 (i : Nat) : BufTy := match i % 128 with
  | 0 => ⟨S_, .i32⟩
  | 1 => ⟨S_, .i32⟩
  | 2 => ⟨S1x2x4x128, .f32⟩
  | 3 => ⟨S2x4x128, .f32⟩
  | 4 => ⟨S_, .f32⟩
  | 5 => ⟨S_, .f32⟩
  | 6 => ⟨S2x4x128, .f32⟩
  | 7 => ⟨S2x4x128x1, .f32⟩
  | 8 => ⟨S2x4x1x128, .f32⟩
  | 9 => ⟨S2x4x128x128, .f32⟩
  | 10 => ⟨S2x4x128x128, .f32⟩
  | 11 => ⟨S2x4x128x128, .f32⟩
  | 12 => ⟨S2x4x1x128, .f32⟩
  | 13 => ⟨S2x4x128x128, .f32⟩
  | 14 => ⟨S2x4x128x128, .f32⟩
  | 15 => ⟨S_, .f32⟩
  | 16 => ⟨S_, .f32⟩
  | 17 => ⟨S2x4x128x128, .i1⟩
  | 18 => ⟨S2x4x128x128, .f32⟩
  | 19 => ⟨S2x4x128x128, .f32⟩
  | 20 => ⟨S2x4x1, .f32⟩
  | 21 => ⟨S2x4x128, .f32⟩
  | 22 => ⟨S2x4x128, .f32⟩
  | 23 => ⟨S_, .f32⟩
  | 24 => ⟨S2x4x128, .f32⟩
  | 25 => ⟨S2x4x128, .f32⟩
  | 26 => ⟨S2x4x128x128, .f32⟩
  | 27 => ⟨S2x4x128x1, .f32⟩
  | 28 => ⟨S2x4x128x128, .f32⟩
  | 29 => ⟨S2x4x128x128, .f32⟩
  | 30 => ⟨S2x4x128x128, .f32⟩
  | 31 => ⟨S2x4x128x128, .f32⟩
  | 32 => ⟨S2x4x128, .f32⟩
  | 33 => ⟨S2x4x128, .f32⟩
  | 34 => ⟨S2x4x128x256, .f32⟩
  | 35 => ⟨S2x4x128x1, .f32⟩
  | 36 => ⟨S2x4x128x256, .f32⟩
  | 37 => ⟨S2x4x128x256, .f32⟩
  | 38 => ⟨S2x4x128x256, .f32⟩
  | 39 => ⟨S2x4x128x256, .f32⟩
  | 40 => ⟨S_, .f32⟩
  | 41 => ⟨S2x4x128, .f32⟩
  | 42 => ⟨S2x4x128, .f32⟩
  | 43 => ⟨S2x4x128, .f32⟩
  | 44 => ⟨S2x4x128, .f32⟩
  | 45 => ⟨S2x4x128, .f32⟩
  | 46 => ⟨S2x4x128, .f32⟩
  | 47 => ⟨S2x4x128, .f32⟩
  | 48 => ⟨S2x4x128, .f32⟩
  | 49 => ⟨S2x4x128x1, .f32⟩
  | 50 => ⟨S2x4x128x256, .f32⟩
  | 51 => ⟨S2x4x128x256, .f32⟩
  | 52 => ⟨S2x4x1, .f32⟩
  | 53 => ⟨S2x4, .f32⟩
  | 54 => ⟨S2x4x1, .f32⟩
  | 55 => ⟨S2x4x128, .f32⟩
  | 56 => ⟨S2x4x128, .f32⟩
  | 57 => ⟨S2x4x128, .f32⟩
  | 58 => ⟨S2x4, .f32⟩
  | 59 => ⟨S_, .f32⟩
  | 60 => ⟨S2x4, .f32⟩
  | 61 => ⟨S2x4, .f32⟩
  | 62 => ⟨S2x4x1, .f32⟩
  | 63 => ⟨S2x4x128, .f32⟩
  | 64 => ⟨S2x4x128, .f32⟩
  | 65 => ⟨S2x4x128, .f32⟩
  | 66 => ⟨S2x4, .f32⟩
  | 67 => ⟨S2x4, .f32⟩
  | 68 => ⟨S2x4, .f32⟩
  | 69 => ⟨S2x4x1x1, .f32⟩
  | 70 => ⟨S2x4x256x128, .f32⟩
  | 71 => ⟨S2x4x256x128, .f32⟩
  | 72 => ⟨S2x4x128x1, .f32⟩
  | 73 => ⟨S2x4x128x256, .f32⟩
  | 74 => ⟨S2x4x128x256, .f32⟩
  | 75 => ⟨S2x4x256x128, .f32⟩
  | 76 => ⟨S2x4x256x128, .f32⟩
  | 77 => ⟨S2x4x1, .f32⟩
  | 78 => ⟨S2x4x128, .f32⟩
  | 79 => ⟨S2x4x128, .f32⟩
  | 80 => ⟨S2x4x128, .f32⟩
  | 81 => ⟨S2x4x128, .f32⟩
  | 82 => ⟨S1x2x4x128x256, .f32⟩
  | 83 => ⟨S_, .i32⟩
  | 84 => ⟨S_, .i32⟩
  | 85 => ⟨S_, .i32⟩
  | 86 => ⟨S_, .i32⟩
  | 87 => ⟨S128x2x4x128x256, .f32⟩
  | 88 => ⟨S_, .i32⟩
  | 89 => ⟨S_, .i32⟩
  | 90 => ⟨S2x4x128x128x256, .f32⟩
  | 91 => ⟨S2x4x16384x256, .f32⟩
  | 92 => ⟨S2x4x16384x256, .f32⟩
  | 93 => ⟨S2x16384x4x256, .f32⟩
  | 94 => ⟨S2x16384x1024, .f32⟩
  | _ => ⟨S2x16384x7168, .bf16⟩

abbrev hbmTy (i : Nat) : BufTy := match i / 128 with
  | 0 => hbmTy0_0 i
  | 1 => hbmTy0_1 i
  | _ => ⟨S2x16384x7168, .bf16⟩

abbrev bufTy : (tb : Table) → Fin (tcTables nBuf tb) → BufTy
  | .hbm, ⟨i, _⟩ => hbmTy i
  | _, _ => ⟨S2x16384x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_call0_v0 : Ref sig .tc := ⟨.hbm, 32, rfl⟩
abbrev main_call0_call0_cst : Ref sig .tc := ⟨.hbm, 33, rfl⟩
abbrev main_call0_call0_v0 : Ref sig .tc := ⟨.hbm, 34, rfl⟩
abbrev main_call0_call0_v1 : Ref sig .tc := ⟨.hbm, 35, rfl⟩
abbrev main_call0_call0_v2 : Ref sig .tc := ⟨.hbm, 36, rfl⟩
abbrev main_call0_call0_v3 : Ref sig .tc := ⟨.hbm, 37, rfl⟩
abbrev main_call0_call0_v4 : Ref sig .tc := ⟨.hbm, 38, rfl⟩
abbrev main_call0_call0_v5 : Ref sig .tc := ⟨.hbm, 39, rfl⟩
abbrev main_call0_call0_v6 : Ref sig .tc := ⟨.hbm, 40, rfl⟩
abbrev main_call0_call0_v7 : Ref sig .tc := ⟨.hbm, 41, rfl⟩
abbrev main_call0_call0_v8 : Ref sig .tc := ⟨.hbm, 42, rfl⟩
abbrev main_call0_call0_v9 : Ref sig .tc := ⟨.hbm, 43, rfl⟩
abbrev main_call0_call0_v10 : Ref sig .tc := ⟨.hbm, 44, rfl⟩
abbrev main_call0_call0_v11 : Ref sig .tc := ⟨.hbm, 45, rfl⟩
abbrev main_call0_v1 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst : Ref sig .tc := ⟨.hbm, 58, rfl⟩
abbrev main_v40 : Ref sig .tc := ⟨.hbm, 59, rfl⟩
abbrev main_v41 : Ref sig .tc := ⟨.hbm, 60, rfl⟩
abbrev main_c : Ref sig .tc := ⟨.hbm, 61, rfl⟩
abbrev main_v42 : Ref sig .tc := ⟨.hbm, 62, rfl⟩
abbrev main_call6_v0 : Ref sig .tc := ⟨.hbm, 63, rfl⟩
abbrev main_call6_c : Ref sig .tc := ⟨.hbm, 64, rfl⟩
abbrev main_call6_v1 : Ref sig .tc := ⟨.hbm, 65, rfl⟩
abbrev main_call6_v2 : Ref sig .tc := ⟨.hbm, 66, rfl⟩
abbrev main_call6_v3 : Ref sig .tc := ⟨.hbm, 67, rfl⟩
abbrev main_call6_v4 : Ref sig .tc := ⟨.hbm, 68, rfl⟩
abbrev main_call6_c_0 : Ref sig .tc := ⟨.hbm, 69, rfl⟩
abbrev main_call6_v5 : Ref sig .tc := ⟨.hbm, 70, rfl⟩
abbrev main_v43 : Ref sig .tc := ⟨.hbm, 71, rfl⟩
abbrev main_cst_0 : Ref sig .tc := ⟨.hbm, 72, rfl⟩
abbrev main_v44 : Ref sig .tc := ⟨.hbm, 73, rfl⟩
abbrev main_cst_1 : Ref sig .tc := ⟨.hbm, 74, rfl⟩
abbrev main_v45 : Ref sig .tc := ⟨.hbm, 75, rfl⟩
abbrev main_cst_2 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_cst_3 : Ref sig .tc := ⟨.hbm, 88, rfl⟩
abbrev main_v57 : Ref sig .tc := ⟨.hbm, 89, rfl⟩
abbrev main_c_4 : Ref sig .tc := ⟨.hbm, 90, rfl⟩
abbrev main_v58_0 : Ref sig .tc := ⟨.hbm, 91, rfl⟩
abbrev main_v58_1 : Ref sig .tc := ⟨.hbm, 92, rfl⟩
abbrev main_v58_2 : Ref sig .tc := ⟨.hbm, 93, rfl⟩
abbrev main_v58_3 : Ref sig .tc := ⟨.hbm, 94, rfl⟩
abbrev main_v58_4 : Ref sig .tc := ⟨.hbm, 95, rfl⟩
abbrev main_v58_5 : Ref sig .tc := ⟨.hbm, 96, rfl⟩
abbrev main_v58_6 : Ref sig .tc := ⟨.hbm, 97, rfl⟩
abbrev main_v58_7 : Ref sig .tc := ⟨.hbm, 98, rfl⟩
abbrev main_v58_8 : Ref sig .tc := ⟨.hbm, 99, rfl⟩
abbrev main_v58_9 : Ref sig .tc := ⟨.hbm, 100, rfl⟩
abbrev main_v58_10 : Ref sig .tc := ⟨.hbm, 101, rfl⟩
abbrev main_while0c_c_15 : Ref sig .tc := ⟨.hbm, 102, rfl⟩
abbrev main_while0c_v64 : Ref sig .tc := ⟨.hbm, 103, rfl⟩
abbrev main_while0b_call7_c : Ref sig .tc := ⟨.hbm, 104, rfl⟩
abbrev main_while0b_call7_c_0 : Ref sig .tc := ⟨.hbm, 105, rfl⟩
abbrev main_while0b_call7_c_1 : Ref sig .tc := ⟨.hbm, 106, rfl⟩
abbrev main_while0b_call7_c_2 : Ref sig .tc := ⟨.hbm, 107, rfl⟩
abbrev main_while0b_call7_v0 : Ref sig .tc := ⟨.hbm, 108, rfl⟩
abbrev main_while0b_v64 : Ref sig .tc := ⟨.hbm, 109, rfl⟩
abbrev main_while0b_call8_c : Ref sig .tc := ⟨.hbm, 110, rfl⟩
abbrev main_while0b_call8_c_0 : Ref sig .tc := ⟨.hbm, 111, rfl⟩
abbrev main_while0b_call8_c_1 : Ref sig .tc := ⟨.hbm, 112, rfl⟩
abbrev main_while0b_call8_c_2 : Ref sig .tc := ⟨.hbm, 113, rfl⟩
abbrev main_while0b_call8_v0 : Ref sig .tc := ⟨.hbm, 114, rfl⟩
abbrev main_while0b_v65 : Ref sig .tc := ⟨.hbm, 115, rfl⟩
abbrev main_while0b_call9_c : Ref sig .tc := ⟨.hbm, 116, rfl⟩
abbrev main_while0b_call9_c_0 : Ref sig .tc := ⟨.hbm, 117, rfl⟩
abbrev main_while0b_call9_c_1 : Ref sig .tc := ⟨.hbm, 118, rfl⟩
abbrev main_while0b_call9_c_2 : Ref sig .tc := ⟨.hbm, 119, rfl⟩
abbrev main_while0b_call9_v0 : Ref sig .tc := ⟨.hbm, 120, rfl⟩
abbrev main_while0b_v66 : Ref sig .tc := ⟨.hbm, 121, rfl⟩
abbrev main_while0b_call10_c : Ref sig .tc := ⟨.hbm, 122, rfl⟩
abbrev main_while0b_call10_c_0 : Ref sig .tc := ⟨.hbm, 123, rfl⟩
abbrev main_while0b_call10_c_1 : Ref sig .tc := ⟨.hbm, 124, rfl⟩
abbrev main_while0b_call10_v0 : Ref sig .tc := ⟨.hbm, 125, rfl⟩
abbrev main_while0b_v67 : Ref sig .tc := ⟨.hbm, 126, rfl⟩
abbrev main_while0b_call11_c : Ref sig .tc := ⟨.hbm, 127, rfl⟩
abbrev main_while0b_call11_c_0 : Ref sig .tc := ⟨.hbm, 128, rfl⟩
abbrev main_while0b_call11_c_1 : Ref sig .tc := ⟨.hbm, 129, rfl⟩
abbrev main_while0b_call11_v0 : Ref sig .tc := ⟨.hbm, 130, rfl⟩
abbrev main_while0b_v68 : Ref sig .tc := ⟨.hbm, 131, rfl⟩
abbrev main_while0b_call12_call0_cst : Ref sig .tc := ⟨.hbm, 132, rfl⟩
abbrev main_while0b_call12_call0_v0 : Ref sig .tc := ⟨.hbm, 133, rfl⟩
abbrev main_while0b_v69 : Ref sig .tc := ⟨.hbm, 134, rfl⟩
abbrev main_while0b_v70 : Ref sig .tc := ⟨.hbm, 135, rfl⟩
abbrev main_while0b_v71 : Ref sig .tc := ⟨.hbm, 136, rfl⟩
abbrev main_while0b_v72 : Ref sig .tc := ⟨.hbm, 137, rfl⟩
abbrev main_while0b_v73 : Ref sig .tc := ⟨.hbm, 138, rfl⟩
abbrev main_while0b_v74 : Ref sig .tc := ⟨.hbm, 139, rfl⟩
abbrev main_while0b_v75 : Ref sig .tc := ⟨.hbm, 140, rfl⟩
abbrev main_while0b_v76 : Ref sig .tc := ⟨.hbm, 141, rfl⟩
abbrev main_while0b_v77 : Ref sig .tc := ⟨.hbm, 142, rfl⟩
abbrev main_while0b_cst_15 : Ref sig .tc := ⟨.hbm, 143, rfl⟩
abbrev main_while0b_call13_v0 : Ref sig .tc := ⟨.hbm, 144, rfl⟩
abbrev main_while0b_call13_v1 : Ref sig .tc := ⟨.hbm, 145, rfl⟩
abbrev main_while0b_call13_v2 : Ref sig .tc := ⟨.hbm, 146, rfl⟩
abbrev main_while0b_v78 : Ref sig .tc := ⟨.hbm, 147, rfl⟩
abbrev main_while0b_v79 : Ref sig .tc := ⟨.hbm, 148, rfl⟩
abbrev main_while0b_v80 : Ref sig .tc := ⟨.hbm, 149, rfl⟩
abbrev main_while0b_v81 : Ref sig .tc := ⟨.hbm, 150, rfl⟩
abbrev main_while0b_cst_16 : Ref sig .tc := ⟨.hbm, 151, rfl⟩
abbrev main_while0b_v82 : Ref sig .tc := ⟨.hbm, 152, rfl⟩
abbrev main_while0b_v83 : Ref sig .tc := ⟨.hbm, 153, rfl⟩
abbrev main_while0b_v84 : Ref sig .tc := ⟨.hbm, 154, rfl⟩
abbrev main_while0b_v85 : Ref sig .tc := ⟨.hbm, 155, rfl⟩
abbrev main_while0b_v86 : Ref sig .tc := ⟨.hbm, 156, rfl⟩
abbrev main_while0b_v87 : Ref sig .tc := ⟨.hbm, 157, rfl⟩
abbrev main_while0b_v88 : Ref sig .tc := ⟨.hbm, 158, rfl⟩
abbrev main_while0b_v89 : Ref sig .tc := ⟨.hbm, 159, rfl⟩
abbrev main_while0b_v90 : Ref sig .tc := ⟨.hbm, 160, rfl⟩
abbrev main_while0b_v91 : Ref sig .tc := ⟨.hbm, 161, rfl⟩
abbrev main_while0b_v92 : Ref sig .tc := ⟨.hbm, 162, rfl⟩
abbrev main_while0b_v93 : Ref sig .tc := ⟨.hbm, 163, rfl⟩
abbrev main_while0b_v94 : Ref sig .tc := ⟨.hbm, 164, rfl⟩
abbrev main_while0b_v95 : Ref sig .tc := ⟨.hbm, 165, rfl⟩
abbrev main_while0b_v96 : Ref sig .tc := ⟨.hbm, 166, rfl⟩
abbrev main_while0b_v97 : Ref sig .tc := ⟨.hbm, 167, rfl⟩
abbrev main_while0b_cst_17 : Ref sig .tc := ⟨.hbm, 168, rfl⟩
abbrev main_while0b_v98 : Ref sig .tc := ⟨.hbm, 169, rfl⟩
abbrev main_while0b_v99 : Ref sig .tc := ⟨.hbm, 170, rfl⟩
abbrev main_while0b_v100 : Ref sig .tc := ⟨.hbm, 171, rfl⟩
abbrev main_while0b_v101 : Ref sig .tc := ⟨.hbm, 172, rfl⟩
abbrev main_while0b_v102 : Ref sig .tc := ⟨.hbm, 173, rfl⟩
abbrev main_while0b_v103 : Ref sig .tc := ⟨.hbm, 174, rfl⟩
abbrev main_while0b_v104 : Ref sig .tc := ⟨.hbm, 175, rfl⟩
abbrev main_while0b_v105 : Ref sig .tc := ⟨.hbm, 176, rfl⟩
abbrev main_while0b_v106 : Ref sig .tc := ⟨.hbm, 177, rfl⟩
abbrev main_while0b_v107 : Ref sig .tc := ⟨.hbm, 178, rfl⟩
abbrev main_while0b_v108 : Ref sig .tc := ⟨.hbm, 179, rfl⟩
abbrev main_while0b_v109 : Ref sig .tc := ⟨.hbm, 180, rfl⟩
abbrev main_while0b_v110 : Ref sig .tc := ⟨.hbm, 181, rfl⟩
abbrev main_while0b_v111 : Ref sig .tc := ⟨.hbm, 182, rfl⟩
abbrev main_while0b_v112 : Ref sig .tc := ⟨.hbm, 183, rfl⟩
abbrev main_while0b_v113 : Ref sig .tc := ⟨.hbm, 184, rfl⟩
abbrev main_while0b_v114 : Ref sig .tc := ⟨.hbm, 185, rfl⟩
abbrev main_while0b_v115 : Ref sig .tc := ⟨.hbm, 186, rfl⟩
abbrev main_while0b_cst_18 : Ref sig .tc := ⟨.hbm, 187, rfl⟩
abbrev main_while0b_v116 : Ref sig .tc := ⟨.hbm, 188, rfl⟩
abbrev main_while0b_v117 : Ref sig .tc := ⟨.hbm, 189, rfl⟩
abbrev main_while0b_v118 : Ref sig .tc := ⟨.hbm, 190, rfl⟩
abbrev main_while0b_v119 : Ref sig .tc := ⟨.hbm, 191, rfl⟩
abbrev main_while0b_v120 : Ref sig .tc := ⟨.hbm, 192, rfl⟩
abbrev main_while0b_v121 : Ref sig .tc := ⟨.hbm, 193, rfl⟩
abbrev main_while0b_v122 : Ref sig .tc := ⟨.hbm, 194, rfl⟩
abbrev main_while0b_v123 : Ref sig .tc := ⟨.hbm, 195, rfl⟩
abbrev main_while0b_v124 : Ref sig .tc := ⟨.hbm, 196, rfl⟩
abbrev main_while0b_v125 : Ref sig .tc := ⟨.hbm, 197, rfl⟩
abbrev main_while0b_v126 : Ref sig .tc := ⟨.hbm, 198, rfl⟩
abbrev main_while0b_v127 : Ref sig .tc := ⟨.hbm, 199, rfl⟩
abbrev main_while0b_v128 : Ref sig .tc := ⟨.hbm, 200, rfl⟩
abbrev main_while0b_v129 : Ref sig .tc := ⟨.hbm, 201, rfl⟩
abbrev main_while0b_v130 : Ref sig .tc := ⟨.hbm, 202, rfl⟩
abbrev main_while0b_v131 : Ref sig .tc := ⟨.hbm, 203, rfl⟩
abbrev main_while0b_v132 : Ref sig .tc := ⟨.hbm, 204, rfl⟩
abbrev main_while0b_v133 : Ref sig .tc := ⟨.hbm, 205, rfl⟩
abbrev main_while0b_v134 : Ref sig .tc := ⟨.hbm, 206, rfl⟩
abbrev main_while0b_v135 : Ref sig .tc := ⟨.hbm, 207, rfl⟩
abbrev main_while0b_v136 : Ref sig .tc := ⟨.hbm, 208, rfl⟩
abbrev main_while0b_v137 : Ref sig .tc := ⟨.hbm, 209, rfl⟩
abbrev main_while0b_call14_v0 : Ref sig .tc := ⟨.hbm, 210, rfl⟩
abbrev main_while0b_call14_c : Ref sig .tc := ⟨.hbm, 211, rfl⟩
abbrev main_while0b_call14_c_0 : Ref sig .tc := ⟨.hbm, 212, rfl⟩
abbrev main_while0b_call14_c_1 : Ref sig .tc := ⟨.hbm, 213, rfl⟩
abbrev main_while0b_call14_c_2 : Ref sig .tc := ⟨.hbm, 214, rfl⟩
abbrev main_while0b_v138 : Ref sig .tc := ⟨.hbm, 215, rfl⟩
abbrev main_while0b_c_19 : Ref sig .tc := ⟨.hbm, 216, rfl⟩
abbrev main_while0b_v139 : Ref sig .tc := ⟨.hbm, 217, rfl⟩
abbrev main_v59 : Ref sig .tc := ⟨.hbm, 218, rfl⟩
abbrev main_v60 : Ref sig .tc := ⟨.hbm, 219, rfl⟩
abbrev main_v61 : Ref sig .tc := ⟨.hbm, 220, rfl⟩
abbrev main_v62 : Ref sig .tc := ⟨.hbm, 221, rfl⟩
abbrev main_v63 : Ref sig .tc := ⟨.hbm, 222, rfl⟩

abbrev nD : Nat := 1
abbrev τ : Topo := Topo.v7x

variable {F : FTy → Type} [FloatOps F]

abbrev main_while0_count : Scf.Loop 32 := ⟨0#32, 128#32, 1#32⟩
-- ==== Norm.lean ====
abbrev S32768x2048 : Shape := ⟨2, ![32768, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S32768x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S32768x2048 : Shape := ⟨2, ![32768, 2048]⟩
abbrev S1x2048 : Shape := ⟨2, ![1, 2048]⟩
abbrev S_ : Shape := ⟨0, ![]⟩
abbrev S32768 : Shape := ⟨1, ![32768]⟩
abbrev S32768x1 : Shape := ⟨2, ![32768, 1]⟩
abbrev S2048 : Shape := ⟨1, ![2048]⟩

abbrev nBuf : Space → Nat
  | .hbm => 20
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S32768x2048, .f32⟩
  | .hbm, ⟨3, _⟩ => ⟨S_, .f32⟩
  | .hbm, ⟨4, _⟩ => ⟨S32768, .f32⟩
  | .hbm, ⟨5, _⟩ => ⟨S32768x1, .f32⟩
  | .hbm, ⟨6, _⟩ => ⟨S_, .f32⟩
  | .hbm, ⟨7, _⟩ => ⟨S32768x1, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S32768x1, .f32⟩
  | .hbm, ⟨13, _⟩ => ⟨S32768x2048, .f32⟩
  | .hbm, ⟨14, _⟩ => ⟨S32768x2048, .f32⟩
  | .hbm, ⟨15, _⟩ => ⟨S2048, .f32⟩
  | .hbm, ⟨16, _⟩ => ⟨S1x2048, .f32⟩
  | .hbm, ⟨17, _⟩ => ⟨S32768x2048, .f32⟩
  | .hbm, ⟨18, _⟩ => ⟨S32768x2048, .f32⟩
  | .hbm, ⟨19, _⟩ => ⟨S32768x2048, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== InF.lean ====
abbrev S32768x2048 : Shape := ⟨2, ![32768, 2048]⟩
abbrev S2048x4096 : Shape := ⟨2, ![2048, 4096]⟩
abbrev S32768x4096 : Shape := ⟨2, ![32768, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S32768x2048, .bf16⟩
  | .hbm, ⟨1, _⟩ => ⟨S2048x4096, .bf16⟩
  | .hbm, ⟨2, _⟩ => ⟨S32768x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InFRefIdeal.lean ====
abbrev S32768x2048 : Shape := ⟨2, ![32768, 2048]⟩
abbrev S2048x4096 : Shape := ⟨2, ![2048, 4096]⟩
abbrev S32768x4096 : Shape := ⟨2, ![32768, 4096]⟩

abbrev nBuf : Space → Nat
  | .hbm => 5
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x4096, .bf16⟩
  | .hbm, ⟨2, _⟩ => ⟨S32768x2048, .f32⟩
  | .hbm, ⟨3, _⟩ => ⟨S2048x4096, .f32⟩
  | .hbm, ⟨4, _⟩ => ⟨S32768x4096, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== InB.lean ====
abbrev S32768x2048 : Shape := ⟨2, ![32768, 2048]⟩
abbrev S2048x7168 : Shape := ⟨2, ![2048, 7168]⟩
abbrev S32768x7168 : Shape := ⟨2, ![32768, 7168]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S32768x2048, .bf16⟩
  | .hbm, ⟨1, _⟩ => ⟨S2048x7168, .bf16⟩
  | .hbm, ⟨2, _⟩ => ⟨S32768x7168, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InBRefIdeal.lean ====
abbrev S32768x2048 : Shape := ⟨2, ![32768, 2048]⟩
abbrev S2048x7168 : Shape := ⟨2, ![2048, 7168]⟩
abbrev S32768x7168 : Shape := ⟨2, ![32768, 7168]⟩

abbrev nBuf : Space → Nat
  | .hbm => 6
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x7168, .bf16⟩
  | .hbm, ⟨2, _⟩ => ⟨S32768x2048, .f32⟩
  | .hbm, ⟨3, _⟩ => ⟨S2048x7168, .f32⟩
  | .hbm, ⟨4, _⟩ => ⟨S32768x7168, .f32⟩
  | .hbm, ⟨5, _⟩ => ⟨S32768x7168, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Merge.lean ====
abbrev S32768x1024 : Shape := ⟨2, ![32768, 1024]⟩
abbrev S1024x2048 : Shape := ⟨2, ![1024, 2048]⟩
abbrev S32768x7168 : Shape := ⟨2, ![32768, 7168]⟩
abbrev S1x4096 : Shape := ⟨2, ![1, 4096]⟩
abbrev S32768x2048 : Shape := ⟨2, ![32768, 2048]⟩
abbrev S1024x1024 : Shape := ⟨2, ![1024, 1024]⟩
abbrev S1x1024 : Shape := ⟨2, ![1, 1024]⟩

abbrev nBuf : Space → Nat
  | .hbm => 7
  | .vmem => 18
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S1024x2048, .bf16⟩
  | .hbm, ⟨3, _⟩ => ⟨S1024x2048, .bf16⟩
  | .hbm, ⟨4, _⟩ => ⟨S32768x7168, .bf16⟩
  | .hbm, ⟨5, _⟩ => ⟨S1x4096, .f32⟩
  | .hbm, ⟨6, _⟩ => ⟨S32768x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1024x1024, .bf16⟩
  | .local _ .vmem, ⟨17, _⟩ => ⟨S1024x1024, .bf16⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== MergeRefIdeal.lean ====
abbrev S32768x1024 : Shape := ⟨2, ![32768, 1024]⟩
abbrev S1024x2048 : Shape := ⟨2, ![1024, 2048]⟩
abbrev S32768x7168 : Shape := ⟨2, ![32768, 7168]⟩
abbrev S1x4096 : Shape := ⟨2, ![1, 4096]⟩
abbrev S32768x2048 : Shape := ⟨2, ![32768, 2048]⟩
abbrev S32768x4096 : Shape := ⟨2, ![32768, 4096]⟩
abbrev S4096 : Shape := ⟨1, ![4096]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S1024x2048, .bf16⟩
  | .hbm, ⟨3, _⟩ => ⟨S1024x2048, .bf16⟩
  | .hbm, ⟨4, _⟩ => ⟨S32768x7168, .bf16⟩
  | .hbm, ⟨5, _⟩ => ⟨S1x4096, .f32⟩
  | .hbm, ⟨6, _⟩ => ⟨S32768x1024, .f32⟩
  | .hbm, ⟨7, _⟩ => ⟨S1024x2048, .f32⟩
  | .hbm, ⟨8, _⟩ => ⟨S32768x2048, .f32⟩
  | .hbm, ⟨9, _⟩ => ⟨S32768x1024, .f32⟩
  | .hbm, ⟨10, _⟩ => ⟨S1024x2048, .f32⟩
  | .hbm, ⟨11, _⟩ => ⟨S32768x2048, .f32⟩
  | .hbm, ⟨12, _⟩ => ⟨S32768x4096, .bf16⟩
  | .hbm, ⟨13, _⟩ => ⟨S32768x4096, .f32⟩
  | .hbm, ⟨14, _⟩ => ⟨S4096, .f32⟩
  | .hbm, ⟨15, _⟩ => ⟨S1x4096, .f32⟩
  | .hbm, ⟨16, _⟩ => ⟨S32768x4096, .f32⟩
  | .hbm, ⟨17, _⟩ => ⟨S32768x4096, .f32⟩
  | .hbm, ⟨18, _⟩ => ⟨S32768x4096, .f32⟩
  | .hbm, ⟨19, _⟩ => ⟨S32768x4096, .f32⟩
  | .hbm, ⟨20, _⟩ => ⟨S_, .f32⟩
  | .hbm, ⟨21, _⟩ => ⟨S32768x4096, .f32⟩
  | .hbm, ⟨22, _⟩ => ⟨S32768x4096, .f32⟩
  | .hbm, ⟨23, _⟩ => ⟨S_, .f32⟩
  | .hbm, ⟨24, _⟩ => ⟨S32768x4096, .f32⟩
  | .hbm, ⟨25, _⟩ => ⟨S32768x4096, .f32⟩
  | .hbm, ⟨26, _⟩ => ⟨S32768x2048, .f32⟩
  | .hbm, ⟨27, _⟩ => ⟨S32768x2048, .f32⟩
  | .hbm, ⟨28, _⟩ => ⟨S32768x2048, .f32⟩
  | .hbm, ⟨29, _⟩ => ⟨S32768x2048, .f32⟩
  | .hbm, ⟨30, _⟩ => ⟨S32768x2048, .f32⟩
  | .hbm, ⟨31, _⟩ => ⟨S32768x2048, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== OutW.lean ====
abbrev S32768x2048 : Shape := ⟨2, ![32768, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S32768x2048, .bf16⟩
  | .hbm, ⟨1, _⟩ => ⟨S2048x2048, .bf16⟩
  | .hbm, ⟨2, _⟩ => ⟨S32768x2048, .f32⟩
  | .hbm, ⟨3, _⟩ => ⟨S32768x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutWRefIdeal.lean ====
abbrev S32768x2048 : Shape := ⟨2, ![32768, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x2048, .bf16⟩
  | .hbm, ⟨2, _⟩ => ⟨S32768x2048, .f32⟩
  | .hbm, ⟨3, _⟩ => ⟨S32768x2048, .f32⟩
  | .hbm, ⟨4, _⟩ => ⟨S2048x2048, .f32⟩
  | .hbm, ⟨5, _⟩ => ⟨S32768x2048, .f32⟩
  | .hbm, ⟨6, _⟩ => ⟨S32768x2048, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Post.lean ====
abbrev S32768x1024 : Shape := ⟨2, ![32768, 1024]⟩
abbrev S1x1024 : Shape := ⟨2, ![1, 1024]⟩
abbrev S32768x7168 : Shape := ⟨2, ![32768, 7168]⟩
abbrev S1024 : Shape := ⟨1, ![1024]⟩
abbrev S1024x1 : Shape := ⟨2, ![1024, 1]⟩
abbrev S_ : Shape := ⟨0, ![]⟩
abbrev S128 : Shape := ⟨1, ![128]⟩
abbrev S1x128 : Shape := ⟨2, ![1, 128]⟩
abbrev S1024x128 : Shape := ⟨2, ![1024, 128]⟩
abbrev S128x1024 : Shape := ⟨2, ![128, 1024]⟩
abbrev S256x1024 : Shape := ⟨2, ![256, 1024]⟩
abbrev S256x128 : Shape := ⟨2, ![256, 128]⟩
abbrev S256x256 : Shape := ⟨2, ![256, 256]⟩
abbrev S256 : Shape := ⟨1, ![256]⟩
abbrev S256x1 : Shape := ⟨2, ![256, 1]⟩

abbrev nBuf : Space → Nat
  | .hbm => 39
  | .vmem => 23
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S32768x1024, .bf16⟩
  | .hbm, ⟨3, _⟩ => ⟨S32768x1024, .bf16⟩
  | .hbm, ⟨4, _⟩ => ⟨S1x1024, .f32⟩
  | .hbm, ⟨5, _⟩ => ⟨S1x1024, .f32⟩
  | .hbm, ⟨6, _⟩ => ⟨S32768x1024, .f32⟩
  | .hbm, ⟨7, _⟩ => ⟨S32768x1024, .f32⟩
  | .hbm, ⟨8, _⟩ => ⟨S32768x7168, .bf16⟩
  | .hbm, ⟨9, _⟩ => ⟨S1x1024, .f32⟩
  | .hbm, ⟨10, _⟩ => ⟨S1024, .i32⟩
  | .hbm, ⟨11, _⟩ => ⟨S1024x1, .i32⟩
  | .hbm, ⟨12, _⟩ => ⟨S_, .i32⟩
  | .hbm, ⟨13, _⟩ => ⟨S_, .i32⟩
  | .hbm, ⟨14, _⟩ => ⟨S1024x1, .i32⟩
  | .hbm, ⟨15, _⟩ => ⟨S1024x1, .i32⟩
  | .hbm, ⟨16, _⟩ => ⟨S1024x1, .i32⟩
  | .hbm, ⟨17, _⟩ => ⟨S_, .i32⟩
  | .hbm, ⟨18, _⟩ => ⟨S1024x1, .i32⟩
  | .hbm, ⟨19, _⟩ => ⟨S1024x1, .i1⟩
  | .hbm, ⟨20, _⟩ => ⟨S1024x1, .i32⟩
  | .hbm, ⟨21, _⟩ => ⟨S1024x1, .i32⟩
  | .hbm, ⟨22, _⟩ => ⟨S_, .i32⟩
  | .hbm, ⟨23, _⟩ => ⟨S1024x1, .i32⟩
  | .hbm, ⟨24, _⟩ => ⟨S1024x1, .i1⟩
  | .hbm, ⟨25, _⟩ => ⟨S1024x1, .i1⟩
  | .hbm, ⟨26, _⟩ => ⟨S_, .i32⟩
  | .hbm, ⟨27, _⟩ => ⟨S1024x1, .i32⟩
  | .hbm, ⟨28, _⟩ => ⟨S1024x1, .i32⟩
  | .hbm, ⟨29, _⟩ => ⟨S1024x1, .i32⟩
  | .hbm, ⟨30, _⟩ => ⟨S128, .i32⟩
  | .hbm, ⟨31, _⟩ => ⟨S1x128, .i32⟩
  | .hbm, ⟨32, _⟩ => ⟨S1024x128, .i32⟩
  | .hbm, ⟨33, _⟩ => ⟨S1024x128, .i32⟩
  | .hbm, ⟨34, _⟩ => ⟨S1024x128, .i1⟩
  | .hbm, ⟨35, _⟩ => ⟨S1024x128, .bf16⟩
  | .hbm, ⟨36, _⟩ => ⟨S128x1024, .bf16⟩
  | .hbm, ⟨37, _⟩ => ⟨S32768x1024, .bf16⟩
  | .hbm, ⟨38, _⟩ => ⟨S32768x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S1x1024, .f32⟩
  | .local _ .vmem, ⟨9, _⟩ => ⟨S1x1024, .f32⟩
  | .local _ .vmem, ⟨10, _⟩ => ⟨S1024x128, .bf16⟩
  | .local _ .vmem, ⟨11, _⟩ => ⟨S128x1024, .bf16⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .bf16⟩
  | .local _ .vmem, ⟨17, _⟩ => ⟨S256x1024, .bf16⟩
  | .local _ .vmem, ⟨18, _⟩ => ⟨S1x1024, .f32⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10_0 : Ref sig .tc := ⟨.hbm, 37, rfl⟩
abbrev main_v10_1 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== PostRefIdeal.lean ====
abbrev S32768x1024 : Shape := ⟨2, ![32768, 1024]⟩
abbrev S1x1024 : Shape := ⟨2, ![1, 1024]⟩
abbrev S32768x7168 : Shape := ⟨2, ![32768, 7168]⟩
abbrev S32768x16x64 : Shape := ⟨3, ![32768, 16, 64]⟩
abbrev S_ : Shape := ⟨0, ![]⟩
abbrev S32768x16 : Shape := ⟨2, ![32768, 16]⟩
abbrev S32768x16x1 : Shape := ⟨3, ![32768, 16, 1]⟩
abbrev S1024 : Shape := ⟨1, ![1024]⟩
abbrev S32768x4x256 : Shape := ⟨3, ![32768, 4, 256]⟩
abbrev S32768x4 : Shape := ⟨2, ![32768, 4]⟩
abbrev S32768x4x1 : Shape := ⟨3, ![32768, 4, 1]⟩

abbrev nBuf : Space → Nat
  | .hbm => 81
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S32768x1024, .bf16⟩
  | .hbm, ⟨3, _⟩ => ⟨S32768x1024, .bf16⟩
  | .hbm, ⟨4, _⟩ => ⟨S1x1024, .f32⟩
  | .hbm, ⟨5, _⟩ => ⟨S1x1024, .f32⟩
  | .hbm, ⟨6, _⟩ => ⟨S32768x1024, .f32⟩
  | .hbm, ⟨7, _⟩ => ⟨S32768x1024, .f32⟩
  | .hbm, ⟨8, _⟩ => ⟨S32768x7168, .bf16⟩
  | .hbm, ⟨9, _⟩ => ⟨S1x1024, .f32⟩
  | .hbm, ⟨10, _⟩ => ⟨S32768x1024, .f32⟩
  | .hbm, ⟨11, _⟩ => ⟨S32768x16x64, .f32⟩
  | .hbm, ⟨12, _⟩ => ⟨S_, .f32⟩
  | .hbm, ⟨13, _⟩ => ⟨S32768x16, .f32⟩
  | .hbm, ⟨14, _⟩ => ⟨S32768x16x1, .f32⟩
  | .hbm, ⟨15, _⟩ => ⟨S_, .f32⟩
  | .hbm, ⟨16, _⟩ => ⟨S32768x16x1, .f32⟩
  | .hbm, ⟨17, _⟩ => ⟨S32768x16x1, .f32⟩
  | .hbm, ⟨18, _⟩ => ⟨S32768x16x64, .f32⟩
  | .hbm, ⟨19, _⟩ => ⟨S32768x16x64, .f32⟩
  | .hbm, ⟨20, _⟩ => ⟨S32768x16x64, .f32⟩
  | .hbm, ⟨21, _⟩ => ⟨S_, .f32⟩
  | .hbm, ⟨22, _⟩ => ⟨S32768x16, .f32⟩
  | .hbm, ⟨23, _⟩ => ⟨S32768x16x1, .f32⟩
  | .hbm, ⟨24, _⟩ => ⟨S_, .f32⟩
  | .hbm, ⟨25, _⟩ => ⟨S32768x16x1, .f32⟩
  | .hbm, ⟨26, _⟩ => ⟨S32768x16x1, .f32⟩
  | .hbm, ⟨27, _⟩ => ⟨S32768x16x64, .f32⟩
  | .hbm, ⟨28, _⟩ => ⟨S32768x16x64, .f32⟩
  | .hbm, ⟨29, _⟩ => ⟨S_, .f32⟩
  | .hbm, ⟨30, _⟩ => ⟨S32768x16x1, .f32⟩
  | .hbm, ⟨31, _⟩ => ⟨S32768x16x1, .f32⟩
  | .hbm, ⟨32, _⟩ => ⟨S32768x16x1, .f32⟩
  | .hbm, ⟨33, _⟩ => ⟨S32768x16x64, .f32⟩
  | .hbm, ⟨34, _⟩ => ⟨S32768x16x64, .f32⟩
  | .hbm, ⟨35, _⟩ => ⟨S32768x1024, .f32⟩
  | .hbm, ⟨36, _⟩ => ⟨S1024, .f32⟩
  | .hbm, ⟨37, _⟩ => ⟨S1x1024, .f32⟩
  | .hbm, ⟨38, _⟩ => ⟨S32768x1024, .f32⟩
  | .hbm, ⟨39, _⟩ => ⟨S32768x1024, .f32⟩
  | .hbm, ⟨40, _⟩ => ⟨S1024, .f32⟩
  | .hbm, ⟨41, _⟩ => ⟨S1x1024, .f32⟩
  | .hbm, ⟨42, _⟩ => ⟨S32768x1024, .f32⟩
  | .hbm, ⟨43, _⟩ => ⟨S32768x1024, .f32⟩
  | .hbm, ⟨44, _⟩ => ⟨S32768x1024, .f32⟩
  | .hbm, ⟨45, _⟩ => ⟨S32768x1024, .f32⟩
  | .hbm, ⟨46, _⟩ => ⟨S32768x1024, .f32⟩
  | .hbm, ⟨47, _⟩ => ⟨S32768x1024, .f32⟩
  | .hbm, ⟨48, _⟩ => ⟨S32768x1024, .f32⟩
  | .hbm, ⟨49, _⟩ => ⟨S32768x4x256, .f32⟩
  | .hbm, ⟨50, _⟩ => ⟨S32768x4x256, .f32⟩
  | .hbm, ⟨51, _⟩ => ⟨S_, .f32⟩
  | .hbm, ⟨52, _⟩ => ⟨S32768x4, .f32⟩
  | .hbm, ⟨53, _⟩ => ⟨S32768x4x1, .f32⟩
  | .hbm, ⟨54, _⟩ => ⟨S_, .f32⟩
  | .hbm, ⟨55, _⟩ => ⟨S32768x4x1, .f32⟩
  | .hbm, ⟨56, _⟩ => ⟨S32768x4x1, .f32⟩
  | .hbm, ⟨57, _⟩ => ⟨S_, .f32⟩
  | .hbm, ⟨58, _⟩ => ⟨S32768x4x1, .f32⟩
  | .hbm, ⟨59, _⟩ => ⟨S32768x4x1, .f32⟩
  | .hbm, ⟨60, _⟩ => ⟨S32768x4x1, .f32⟩
  | .hbm, ⟨61, _⟩ => ⟨S32768x4x256, .f32⟩
  | .hbm, ⟨62, _⟩ => ⟨S32768x4x256, .f32⟩
  | .hbm, ⟨63, _⟩ => ⟨S32768x1024, .f32⟩
  | .hbm, ⟨64, _⟩ => ⟨S1024, .f32⟩
  | .hbm, ⟨65, _⟩ => ⟨S1x1024, .f32⟩
  | .hbm, ⟨66, _⟩ => ⟨S32768x1024, .f32⟩
  | .hbm, ⟨67, _⟩ => ⟨S32768x1024, .f32⟩
  | .hbm, ⟨68, _⟩ => ⟨S32768x1024, .bf16⟩
  | .hbm, ⟨69, _⟩ => ⟨S32768x1024, .f32⟩
  | .hbm, ⟨70, _⟩ => ⟨S32768x1024, .bf16⟩
  | .hbm, ⟨71, _⟩ => ⟨S32768x1024, .f32⟩
  | .hbm, ⟨72, _⟩ => ⟨S32768x1024, .f32⟩
  | .hbm, ⟨73, _⟩ => ⟨S_, .f32⟩
  | .hbm, ⟨74, _⟩ => ⟨S32768x1024, .f32⟩
  | .hbm, ⟨75, _⟩ => ⟨S32768x1024, .f32⟩
  | .hbm, ⟨76, _⟩ => ⟨S_, .f32⟩
  | .hbm, ⟨77, _⟩ => ⟨S32768x1024, .f32⟩
  | .hbm, ⟨78, _⟩ => ⟨S32768x1024, .f32⟩
  | .hbm, ⟨79, _⟩ => ⟨S32768x1024, .f32⟩
  | .hbm, ⟨80, _⟩ => ⟨S32768x1024, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_4 : Ref sig .tc := ⟨.hbm, 51, rfl⟩
abbrev main_v36 : Ref sig .tc := ⟨.hbm, 52, rfl⟩
abbrev main_v37 : Ref sig .tc := ⟨.hbm, 53, rfl⟩
abbrev main_cst_5 : Ref sig .tc := ⟨.hbm, 54, rfl⟩
abbrev main_v38 : Ref sig .tc := ⟨.hbm, 55, rfl⟩
abbrev main_v39 : Ref sig .tc := ⟨.hbm, 56, rfl⟩
abbrev main_cst_6 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_7 : Ref sig .tc := ⟨.hbm, 73, rfl⟩
abbrev main_v55 : Ref sig .tc := ⟨.hbm, 74, rfl⟩
abbrev main_v56 : Ref sig .tc := ⟨.hbm, 75, rfl⟩
abbrev main_cst_8 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩

abbrev nD : Nat := 1
abbrev τ : Topo := Topo.v7x

variable {F : FTy → Type} [FloatOps F]
-- ==== Proof.MlSpec.lean ====
/- One chunk of the mLSTM recurrence for one head, on plain functions: what the chunk's outputs and the state after it are,
   from the chunk's queries, keys, values, input gates, summed log forget gates and the state before it.  Positions are
   compared by a test `le t s` ("s is not after t"), so that a chunk read backwards is the same text. -/
module

public import Idealize.ShloMosaic.Lib.Pointwise

@[expose] public section

noncomputable section

namespace Cert.Proof.Ml

open Idealize.ShloMosaic

/-- The state of one head: the matrix memory (key feature, value feature), the normaliser and the running maximum. -/
structure St where
  C : Fin 128 → Fin 256 → EReal
  n : Fin 128 → EReal
  m : EReal

/-- A chunk of one head: queries, keys, values, input gates and summed log forget gates by position. -/
structure Ch where
  q : Fin 128 → Fin 128 → EReal
  k : Fin 128 → Fin 128 → EReal
  v : Fin 128 → Fin 256 → EReal
  ig : Fin 128 → EReal
  b : Fin 128 → EReal

/-- The state at the start. -/
def St.zero : St := ⟨fun _ _ => 0, fun _ => 0, 0⟩

variable (le : Fin 128 → Fin 128 → Bool) (x : Ch) (bl : EReal) (st : St)

/-- The log weight of position `s` at position `t`. -/
def dm (t s : Fin 128) : EReal := if le t s then x.b t - x.b s + x.ig s else ⊥

/-- The stabiliser at position `t`. -/
def mt (t : Fin 128) : EReal := max (x.b t + st.m) (⨆ s, dm le x t s)

/-- The weighted score. -/
def sc (t s : Fin 128) : EReal := (∑ d, x.q t d * x.k s d) * Ideal.exp (dm le x t s - mt le x st t)

/-- The weight of the state at position `t`. -/
def ei (t : Fin 128) : EReal := Ideal.exp (x.b t + st.m - mt le x st t)

/-- The numerator. -/
def num (t : Fin 128) (f : Fin 256) : EReal := (∑ s, sc le x st t s * x.v s f) + ei le x st t * ∑ d, x.q t d * st.C d f

/-- The denominator before its absolute value is taken. -/
def den (t : Fin 128) : EReal := (∑ s, sc le x st t s) + ei le x st t * ∑ d, x.q t d * st.n d

/-- The chunk's output. -/
def hOut (t : Fin 128) (f : Fin 256) : EReal :=
  Ideal.div (num le x st t f) (max (max (den le x st t) (-den le x st t)) (Ideal.exp (-mt le x st t)))

/-- The log weight of position `s` at the chunk's end, `bl` the whole chunk's summed log forget gate. -/
def gs (s : Fin 128) : EReal := bl - x.b s + x.ig s

/-- The running maximum after the chunk. -/
def mNew : EReal := max (bl + st.m) (⨆ s, gs x bl s)

/-- The weight of position `s` in the state after the chunk. -/
def ws (s : Fin 128) : EReal := Ideal.exp (gs x bl s - mNew x bl st)

/-- The weight of the state before the chunk. -/
def dec : EReal := Ideal.exp (bl + st.m - mNew x bl st)

/-- The state after the chunk. -/
def next : St where
  C d f := dec x bl st * st.C d f + ∑ s, x.k s d * (x.v s f * ws x bl st s)
  n d := dec x bl st * st.n d + ∑ s, x.k s d * ws x bl st s
  m := mNew x bl st

/-- The chunk with its positions renamed by `e`. -/
def Ch.re (e : Fin 128 ≃ Fin 128) : Ch := ⟨fun t => x.q (e t), fun t => x.k (e t), fun t => x.v (e t), fun t => x.ig (e t), fun t => x.b (e t)⟩

variable (e : Fin 128 ≃ Fin 128)

/-- Renaming the positions renames the masked decays. -/
theorem dm_re (t s : Fin 128) : dm (fun t s => le (e t) (e s)) (x.re e) t s = dm le x (e t) (e s) := rfl

/-- Renaming the positions renames the stabilisers. -/
theorem mt_re (t : Fin 128) : mt (fun t s => le (e t) (e s)) (x.re e) st t = mt le x st (e t) := by
  unfold mt
  rw [← e.iSup_comp (g := fun s => dm le x (e t) s)]
  rfl

/-- Renaming the positions renames the scores. -/
theorem sc_re (t s : Fin 128) : sc (fun t s => le (e t) (e s)) (x.re e) st t s = sc le x st (e t) (e s) := by
  unfold sc
  rw [mt_re]
  rfl

/-- Renaming the positions renames the factors of the carried state. -/
theorem ei_re (t : Fin 128) : ei (fun t s => le (e t) (e s)) (x.re e) st t = ei le x st (e t) := by
  unfold ei
  rw [mt_re]
  rfl

/-- Renaming the positions renames the numerators. -/
theorem num_re (t : Fin 128) (f : Fin 256) : num (fun t s => le (e t) (e s)) (x.re e) st t f = num le x st (e t) f := by
  unfold num
  simp only [sc_re, ei_re]
  rw [← e.sum_comp (fun s => sc le x st (e t) s * x.v s f)]
  rfl

/-- Renaming the positions renames the denominators. -/
theorem den_re (t : Fin 128) : den (fun t s => le (e t) (e s)) (x.re e) st t = den le x st (e t) := by
  unfold den
  simp only [sc_re, ei_re]
  rw [← e.sum_comp (fun s => sc le x st (e t) s)]
  rfl

/-- Renaming the positions renames the outputs. -/
theorem hOut_re (t : Fin 128) (f : Fin 256) : hOut (fun t s => le (e t) (e s)) (x.re e) st t f = hOut le x st (e t) f := by
  unfold hOut
  rw [num_re, den_re, mt_re]

/-- Renaming the positions leaves the next stabiliser as it is. -/
theorem mNew_re : mNew (x.re e) bl st = mNew x bl st := by
  unfold mNew
  rw [← e.iSup_comp (g := fun s => gs x bl s)]
  rfl

/-- Renaming the positions renames the weights of the positions. -/
theorem ws_re (s : Fin 128) : ws (x.re e) bl st s = ws x bl st (e s) := by
  unfold ws
  rw [mNew_re]
  rfl

/-- Renaming the positions leaves the next state as it is. -/
theorem next_re : next (x.re e) bl st = next x bl st := by
  have hd : dec (x.re e) bl st = dec x bl st := by unfold dec; rw [mNew_re]
  unfold next
  congr 1
  · funext d f
    rw [hd, ← e.sum_comp (fun s => x.k s d * (x.v s f * ws x bl st s))]
    simp only [ws_re]
    rfl
  · funext d
    rw [hd, ← e.sum_comp (fun s => x.k s d * ws x bl st s)]
    simp only [ws_re]
    rfl
  · exact mNew_re x bl st e

/-- A fold of `max` from the bottom is the supremum. -/
theorem fold_max_eq {n : Nat} (f : Fin n → EReal) : Finset.univ.fold max ⊥ f = ⨆ i, f i := by
  rw [← Finset.sup_univ_eq_iSup]
  rfl

/-- A fold of `min` from the top is the infimum. -/
theorem fold_min_eq {n : Nat} (f : Fin n → EReal) : Finset.univ.fold min ⊤ f = ⨅ i, f i := by
  rw [← Finset.inf_univ_eq_iInf]
  rfl

/-- The log forget gates summed up to each position. -/
def cum (lf : Fin 128 → EReal) (t : Fin 128) : EReal := ∑ s, if le t s then lf s else 0

/-- The forward order. -/
def fwd (t s : Fin 128) : Bool := decide (s ≤ t)

/-- The backward order. -/
def bwd (t s : Fin 128) : Bool := decide (t ≤ s)

/-- The forward order is the backward order of the positions counted from the end. -/
theorem fwd_eq : fwd = fun t s => bwd (Fin.revPerm t) (Fin.revPerm s) := by
  funext t s
  simp only [fwd, bwd, Fin.revPerm_apply, Fin.rev_le_rev]

/-- When no log forget gate is positive, the sum that no other is below is the one over all the positions. -/
theorem iInf_cum (lf : Fin 128 → EReal) (h : ∀ s, lf s ≤ 0) (l : Fin 128) (hl : ∀ s, le l s) : ⨅ t, cum le lf t = cum le lf l := by
  refine le_antisymm (iInf_le _ l) (le_iInf fun t => Finset.sum_le_sum fun s _ => ?_)
  rw [if_pos (hl s)]
  split
  · exact le_rfl
  · exact h s

/-- The state after the first `n` chunks. -/
def seqSt (x : Fin 128 → Ch) : ℕ → St
  | 0 => St.zero
  | n + 1 => if h : n < 128 then next (x ⟨n, h⟩) ((x ⟨n, h⟩).b 127) (seqSt x n) else seqSt x n

/-- The state after one more chunk. -/
theorem seqSt_succ (x : Fin 128 → Ch) (n : Fin 128) : seqSt x (n.val + 1) = next (x n) ((x n).b 127) (seqSt x n.val) := by
  rw [seqSt, dif_pos n.isLt]

/-- The scan's result at an index, `x` the chunks of every batch row and head. -/
def scanAt (le : Fin 128 → Fin 128 → Bool) (x : Fin 2 → Fin 4 → Fin 128 → Ch) (b : Fin 2) (r : Fin 16384) (l : Fin 1024) : EReal :=
  hOut le (x b ⟨l.val / 256, by omega⟩ ⟨r.val / 128, by omega⟩) (seqSt (x b ⟨l.val / 256, by omega⟩) (r.val / 128)) ⟨r.val % 128, by omega⟩ ⟨l.val % 256, by omega⟩

end Cert.Proof.Ml

end
-- ==== Proof.MlHead.lean ====
/- What the mLSTM kernel's body computes for one head, as vector operations in the body's order with the head's blocks as
   arguments, and what these vectors are at an index: the plain functions of `MlSpec`. -/
module

public import proofs.«01_k».proof.Proof.Gen.FwdIdeal.Skeleton
public import proofs.«01_k».proof.Proof.MlSpec
public import Idealize.ShloMosaic.Lib.Pointwise

@[expose] public section

set_option maxRecDepth 16384

noncomputable section

namespace Cert.Proof.Ml

open Cert.FwdIdeal Cert.FwdIdeal.Gen Idealize.ShloMosaic

/-- Lane `c` of every row, as a column. -/
def vCol (c : BitVec 32) (x : FVec Ideal S128x128 .f32) : FVec Ideal S128x1 .f32 :=
  shapeCast S128x1 (multiReduction .add [1] S128 (select (cmpi .eq (iota .tc S128x128 32 [1] iota_S128x128_d1_w32) (broadcast S128x128 c)) x
    (broadcast S128x128 (Scalar.ofBits .f32 0x00000000#32))) 0x00000000#32 reduces_S128x128_S128 (.inl rfl) rfl) shapeCasts_S128_S128x1

/-- Row `c`, as a row. -/
def vRow (c : BitVec 32) (x : FVec Ideal S128x128 .f32) : FVec Ideal S1x128 .f32 :=
  shapeCast S1x128 (multiReduction .add [0] S128 (select (cmpi .eq (iota .tc S128x128 32 [0] iota_S128x128_d0_w32) (broadcast S128x128 c)) x
    (broadcast S128x128 (Scalar.ofBits .f32 0x00000000#32))) 0x00000000#32 reduces_S128x128_S128_2 (.inl rfl) rfl) shapeCasts_S128_S1x128

/-- A row's maximum. -/
def vMax (r : FVec Ideal S1x128 .f32) : FVec Ideal S1x1 .f32 :=
  shapeCast S1x1 (multiReduction .maximumf [1] S1 r 0xFF800000#32 reduces_S1x128_S1 (.inl rfl) rfl) shapeCasts_S1_S1x1

/-- A row's minimum. -/
def vMin (r : FVec Ideal S1x128 .f32) : FVec Ideal S1x1 .f32 :=
  shapeCast S1x1 (multiReduction .minimumf [1] S1 r 0x7F800000#32 reduces_S1x128_S1 (.inl rfl) rfl) shapeCasts_S1_S1x1

/-- The keys' block widened. -/
def vK (k : Vec Ideal S1x128x128 .bf16) : FVec Ideal S128x128 .f32 := extf .f32 (shapeCast S128x128 k shapeCasts_S1x128x128_S128x128) bitsLt_bf16_f32

/-- The queries' block widened and scaled. -/
def vQ (q : Vec Ideal S1x128x128 .bf16) : FVec Ideal S128x128 .f32 := mulf (vK q) (broadcast S128x128 (Scalar.ofBits .f32 0x3DB504F3#32))

/-- The values' block widened. -/
def vV (v : Vec Ideal S1x128x256 .bf16) : FVec Ideal S128x256 .f32 := extf .f32 (shapeCast S128x256 v shapeCasts_S1x128x256_S128x256) bitsLt_bf16_f32

/-- The log weights. -/
def vDm (M : IVec S128x128 1) (bc : FVec Ideal S128x1 .f32) (br ir : FVec Ideal S1x128 .f32) : FVec Ideal S128x128 .f32 :=
  select M (addf (subf (broadcastTo S128x128 bc broadcasts_S128x1_S128x128) (broadcastTo S128x128 br broadcasts_S1x128_S128x128))
    (broadcastTo S128x128 ir broadcasts_S1x128_S128x128)) (broadcast S128x128 (Scalar.ofBits .f32 0xFF800000#32))

/-- The log weight of the state. -/
def vIn (bc : FVec Ideal S128x1 .f32) (mp : FVec Ideal S1x1 .f32) : FVec Ideal S128x1 .f32 :=
  addf bc (broadcastTo S128x1 mp broadcasts_S1x1_S128x1)

/-- The stabilisers. -/
def vMt (M : IVec S128x128 1) (bc : FVec Ideal S128x1 .f32) (br ir : FVec Ideal S1x128 .f32) (mp : FVec Ideal S1x1 .f32) : FVec Ideal S128x1 .f32 :=
  maximumf (vIn bc mp) (shapeCast S128x1 (multiReduction .maximumf [1] S128 (vDm M bc br ir) 0xFF800000#32 reduces_S128x128_S128 (.inl rfl) rfl) shapeCasts_S128_S128x1)

/-- The weighted scores. -/
def vSc (M : IVec S128x128 1) (bc : FVec Ideal S128x1 .f32) (br ir : FVec Ideal S1x128 .f32) (mp : FVec Ideal S1x1 .f32)
    (q k : FVec Ideal S128x128 .f32) : FVec Ideal S128x128 .f32 :=
  mulf (matmul dot_S128x128_S128x128_S128x128_1_1_0_0_n_n none (truncf .bf16 q bitsLt_bf16_f32) (truncf .bf16 k bitsLt_bf16_f32) (constant S128x128 .f32 0x00000000#32))
    (exp (subf (vDm M bc br ir) (broadcastTo S128x128 (vMt M bc br ir mp) broadcasts_S128x1_S128x128)))

/-- The weights of the state. -/
def vEi (M : IVec S128x128 1) (bc : FVec Ideal S128x1 .f32) (br ir : FVec Ideal S1x128 .f32) (mp : FVec Ideal S1x1 .f32) : FVec Ideal S128x1 .f32 :=
  exp (subf (vIn bc mp) (vMt M bc br ir mp))

/-- The numerators. -/
def vNum (S : FVec Ideal S128x128 .f32) (E : FVec Ideal S128x1 .f32) (q : FVec Ideal S128x128 .f32) (v : FVec Ideal S128x256 .f32)
    (C : Vec Ideal S1x128x256 .f32) : FVec Ideal S128x256 .f32 :=
  addf (matmul dot_S128x128_S128x256_S128x256_1_0_0_1_n_n none (truncf .bf16 S bitsLt_bf16_f32) (truncf .bf16 v bitsLt_bf16_f32) (constant S128x256 .f32 0x00000000#32))
    (mulf (broadcastTo S128x256 E broadcasts_S128x1_S128x256)
      (matmul dot_S128x128_S128x256_S128x256_1_0_0_1_n_n none (truncf .bf16 q bitsLt_bf16_f32)
        (truncf .bf16 (shapeCast S128x256 C shapeCasts_S1x128x256_S128x256) bitsLt_bf16_f32) (constant S128x256 .f32 0x00000000#32)))

/-- The sum of every row, as a column. -/
def vSum (x : FVec Ideal S128x128 .f32) : FVec Ideal S128x1 .f32 :=
  shapeCast S128x1 (multiReduction .add [1] S128 x 0x00000000#32 reduces_S128x128_S128 (.inl rfl) rfl) shapeCasts_S128_S128x1

/-- The denominators. -/
def vDen (S : FVec Ideal S128x128 .f32) (E : FVec Ideal S128x1 .f32) (q : FVec Ideal S128x128 .f32) (n : Vec Ideal S1x128 .f32) : FVec Ideal S128x1 .f32 :=
  addf (vSum S) (mulf E (vSum (mulf q (broadcastTo S128x128 n broadcasts_S1x128_S128x128))))

/-- The block of outputs. -/
def vH (M : IVec S128x128 1) (bc : FVec Ideal S128x1 .f32) (br ir : FVec Ideal S1x128 .f32) (mp : FVec Ideal S1x1 .f32)
    (q k : FVec Ideal S128x128 .f32) (v : FVec Ideal S128x256 .f32) (C : Vec Ideal S1x128x256 .f32) (n : Vec Ideal S1x128 .f32) : FVec Ideal S1x128x256 .f32 :=
  shapeCast S1x128x256 (divf (vNum (vSc M bc br ir mp q k) (vEi M bc br ir mp) q v C)
    (broadcastTo S128x256 (maximumf (absf (vDen (vSc M bc br ir mp q k) (vEi M bc br ir mp) q n))
      (exp (subf (broadcast S128x1 (Scalar.ofBits .f32 0x00000000#32)) (vMt M bc br ir mp)))) broadcasts_S128x1_S128x256)) shapeCasts_S128x256_S1x128x256

/-- The running maximum after the chunk. -/
def vMn (br ir : FVec Ideal S1x128 .f32) (mp : FVec Ideal S1x1 .f32) : FVec Ideal S1x1 .f32 :=
  maximumf (addf (vMin br) mp) (vMax (addf (subf (broadcastTo S1x128 (vMin br) broadcasts_S1x1_S1x128) br) ir))

/-- The weights of the positions in the state after the chunk. -/
def vWs (bc ic : FVec Ideal S128x1 .f32) (br ir : FVec Ideal S1x128 .f32) (mp : FVec Ideal S1x1 .f32) : FVec Ideal S128x1 .f32 :=
  exp (subf (addf (subf (broadcastTo S128x1 (vMin br) broadcasts_S1x1_S128x1) bc) ic) (broadcastTo S128x1 (vMn br ir mp) broadcasts_S1x1_S128x1))

/-- The weight of the state before the chunk. -/
def vDec (br ir : FVec Ideal S1x128 .f32) (mp : FVec Ideal S1x1 .f32) : FVec Ideal S1x1 .f32 :=
  exp (subf (addf (vMin br) mp) (vMn br ir mp))

/-- The matrix memory after the chunk. -/
def vC (bc ic : FVec Ideal S128x1 .f32) (br ir : FVec Ideal S1x128 .f32) (mp : FVec Ideal S1x1 .f32)
    (k : FVec Ideal S128x128 .f32) (v : FVec Ideal S128x256 .f32) (C : Vec Ideal S1x128x256 .f32) : FVec Ideal S1x128x256 .f32 :=
  shapeCast S1x128x256 (addf
    (mulf (broadcastTo S128x256 (vDec br ir mp) broadcasts_S1x1_S128x256) (shapeCast S128x256 C shapeCasts_S1x128x256_S128x256))
    (matmul dot_S128x128_S128x256_S128x256_1_0_0_1_n_n none (truncf .bf16 (transpose S128x128 [1, 0] k transposes_S128x128_p1_0_S128x128) bitsLt_bf16_f32)
      (truncf .bf16 (mulf v (broadcastTo S128x256 (vWs bc ic br ir mp) broadcasts_S128x1_S128x256)) bitsLt_bf16_f32) (constant S128x256 .f32 0x00000000#32)))
    shapeCasts_S128x256_S1x128x256

/-- The normaliser after the chunk. -/
def vN (bc ic : FVec Ideal S128x1 .f32) (br ir : FVec Ideal S1x128 .f32) (mp : FVec Ideal S1x1 .f32)
    (k : FVec Ideal S128x128 .f32) (n : Vec Ideal S1x128 .f32) : FVec Ideal S1x128 .f32 :=
  shapeCast S1x128 (addf (mulf (broadcastTo S1x128 (vDec br ir mp) broadcasts_S1x1_S1x128) n)
    (shapeCast S1x128 (multiReduction .add [0] S128 (mulf k (broadcastTo S128x128 (vWs bc ic br ir mp) broadcasts_S128x1_S128x128)) 0x00000000#32
      reduces_S128x128_S128_2 (.inl rfl) rfl) shapeCasts_S128_S1x128)) shapeCasts_S1x128_S1x128

/-- The running maximum after the chunk, in every lane. -/
def vM (br ir : FVec Ideal S1x128 .f32) (mp : FVec Ideal S1x1 .f32) : FVec Ideal S1x128 .f32 :=
  shapeCast S1x128 (broadcastTo S1x128 (shapeCast S1x1 (vMn br ir mp) shapeCasts_S1x1_S1x1) broadcasts_S1x1_S1x128) shapeCasts_S1x128_S1x128

/-- The gates' logits. -/
def vG (gt : Vec Ideal S1x128x128 .f32) (bi : Vec Ideal S1x128 .f32) : FVec Ideal S128x128 .f32 :=
  addf (shapeCast S128x128 gt shapeCasts_S1x128x128_S128x128) (broadcastTo S128x128 bi broadcasts_S1x128_S128x128)

/-- The logarithm of a logit's sigmoid. -/
def vLs (g : FVec Ideal S128x128 .f32) : FVec Ideal S128x128 .f32 :=
  subf (minimumf g (broadcast S128x128 (Scalar.ofBits .f32 0x00000000#32)))
    (log (addf (broadcast S128x128 (Scalar.ofBits .f32 0x3F800000#32))
      (exp (subf (broadcast S128x128 (Scalar.ofBits .f32 0x00000000#32)) (absf g)))))

/-- The mask's sums of a column's entries. -/
def vTri (M : IVec S128x128 1) (y : FVec Ideal S128x128 .bf16) : FVec Ideal S128x128 .f32 :=
  matmul dot_S128x128_S128x128_S128x128_1_0_0_1_n_n none
    (truncf .bf16 (select M (broadcast S128x128 (Scalar.ofBits .f32 0x3F800000#32)) (broadcast S128x128 (Scalar.ofBits .f32 0x00000000#32))) bitsLt_bf16_f32)
    y (constant S128x128 .f32 0x00000000#32)

/-- What a coarser type leaves of an array. -/
def vRes (y : FVec Ideal S128x128 .f32) : FVec Ideal S128x128 .f32 := subf y (extf .f32 (truncf .bf16 y bitsLt_bf16_f32) bitsLt_bf16_f32)

/-- The summed log forget gates, the log gates taken in three parts. -/
def vBc (M : IVec S128x128 1) (g : FVec Ideal S128x128 .f32) : FVec Ideal S128x128 .f32 :=
  addf (vTri M (truncf .bf16 (vLs g) bitsLt_bf16_f32))
    (addf (vTri M (truncf .bf16 (vRes (vLs g)) bitsLt_bf16_f32)) (vTri M (truncf .bf16 (vRes (vRes (vLs g))) bitsLt_bf16_f32)))

/-- An array turned over. -/
def vT (y : FVec Ideal S128x128 .f32) : FVec Ideal S128x128 .f32 := transpose S128x128 [1, 0] y transposes_S128x128_p1_0_S128x128

/-! ## At an index -/

/-- The pattern of minus infinity is the bottom of the extended reals. -/
theorem f_bot : Ideal.ofBits FTy.f32 0xFF800000#32 = ⊥ := by simp [Ideal.ofBits, Ideal.ieee]

/-- The pattern of plus infinity is the top of the extended reals. -/
theorem f_top : Ideal.ofBits FTy.f32 0x7F800000#32 = ⊤ := by simp [Ideal.ofBits, Ideal.ieee]

/-- The word of sixty-four. -/
theorem f_64 : Ideal.ofBits FTy.f32 0x42800000#32 = ((64 : ℝ) : EReal) := by simp [Ideal.ofBits, Ideal.ieee, -EReal.coe_mul]; norm_num

/-- The word of a sixty-fourth. -/
theorem f_inv64 : Ideal.ofBits FTy.f32 0x3C800000#32 = ((1 / 64 : ℝ) : EReal) := by simp [Ideal.ofBits, Ideal.ieee, -EReal.coe_mul]; norm_num

/-- The lane test is the test of the positions. -/
theorem sel_lane (c x : Fin 128) (a : EReal) :
    Scalar.select (IntOp.cmpi CmpIPredicate.eq (BitVec.ofNat 32 x.val) (BitVec.ofNat 32 c.val)) a 0 = if x = c then a else 0 := by
  have h : (IntOp.cmpi CmpIPredicate.eq (BitVec.ofNat 32 x.val) (BitVec.ofNat 32 c.val) = 1) ↔ x = c :=
    (by decide +kernel : ∀ x c : Fin 128, (IntOp.cmpi CmpIPredicate.eq (BitVec.ofNat 32 x.val) (BitVec.ofNat 32 c.val) = 1) ↔ x = c) x c
  unfold Scalar.select
  simp only [h]

/-- A lane taken out as a column. -/
theorem vCol_apply (c : Fin 128) (x : FVec Ideal S128x128 .f32) (t : Fin 128) : vCol (BitVec.ofNat 32 c.val) x (ix2 t 0) = x (ix2 t c) := by
  unfold vCol
  pointwise
  simp only [sel_lane, Finset.sum_ite_eq', Finset.mem_univ, if_true]

/-- A row taken out as a row. -/
theorem vRow_apply (c : Fin 128) (x : FVec Ideal S128x128 .f32) (t : Fin 128) : vRow (BitVec.ofNat 32 c.val) x (ix2 0 t) = x (ix2 c t) := by
  unfold vRow
  pointwise
  simp only [sel_lane, Finset.sum_ite_eq', Finset.mem_univ, if_true]

/-- The largest entry of a row. -/
theorem vMax_apply (r : FVec Ideal S1x128 .f32) : vMax r (ix2 0 0) = ⨆ i, r (ix2 0 i) := by
  unfold vMax
  pointwise
  rw [f_bot, fold_max_eq]

/-- The smallest entry of a row. -/
theorem vMin_apply (r : FVec Ideal S1x128 .f32) : vMin r (ix2 0 0) = ⨅ i, r (ix2 0 i) := by
  unfold vMin
  pointwise
  rw [f_top, fold_min_eq]

/-- The logarithm of the sigmoid of `z`, the way the kernel takes it. -/
def lsg (z : EReal) : EReal := min z 0 - Ideal.log (1 + Ideal.exp (0 - max z (-z)))

/-- The pattern of one is one. -/
theorem f_one : Ideal.ofBits FTy.f32 0x3F800000#32 = 1 := by pointwise

/-- The gates of a chunk: the projection and the bias. -/
theorem vG_apply (gt : Vec Ideal S1x128x128 .f32) (bi : Vec Ideal S1x128 .f32) (t l : Fin 128) :
    vG gt bi (ix2 t l) = gt (ix3 0 t l) + bi (ix2 0 l) := by
  unfold vG
  pointwise

/-- The transposed array. -/
theorem vT_apply (y : FVec Ideal S128x128 .f32) (t l : Fin 128) : vT y (ix2 t l) = y (ix2 l t) := by
  unfold vT
  pointwise

/-- The log sigmoid, entry by entry. -/
theorem vLs_apply (g : FVec Ideal S128x128 .f32) (t l : Fin 128) : vLs g (ix2 t l) = lsg (g (ix2 t l)) := by
  unfold vLs lsg
  pointwise
  rfl

/-- What a coarser type leaves of an entry: the entry less itself. -/
theorem vRes_apply (y : FVec Ideal S128x128 .f32) (t l : Fin 128) : vRes y (ix2 t l) = y (ix2 t l) - y (ix2 t l) := by
  unfold vRes
  pointwise

/-- The sum of the array's rows that the mask keeps. -/
theorem vTri_apply (le : Fin 128 → Fin 128 → Bool) (M : IVec S128x128 1) (h : ∀ t s, M (ix2 t s) = 1 ↔ le t s = true)
    (y : FVec Ideal S128x128 .bf16) (t l : Fin 128) :
    vTri M y (ix2 t l) = ∑ s, if le t s then (y (ix2 s l) : EReal) else 0 := by
  unfold vTri
  pointwise
  refine Finset.sum_congr rfl fun s _ => ?_
  simp only [Scalar.select, h]

/-- The logarithm of one is zero. -/
theorem log_one : Ideal.log 1 = 0 := by
  rw [show (1 : EReal) = ((1 : ℝ) : EReal) from rfl, Ideal.log_coe, if_neg (by norm_num), Real.log_one, EReal.coe_zero]

/-- The larger of two reals, as an extended real. -/
theorem coe_max (a b : ℝ) : ((max a b : ℝ) : EReal) = max (a : EReal) b := EReal.coe_strictMono.monotone.map_max

/-- The smaller of two reals, as an extended real. -/
theorem coe_min (a b : ℝ) : ((min a b : ℝ) : EReal) = min (a : EReal) b := EReal.coe_strictMono.monotone.map_min

/-- A log sigmoid is not positive. -/
theorem lsg_le (z : EReal) : lsg z ≤ 0 := by
  unfold lsg
  induction z with
  | bot => simp
  | top => simp [log_one]
  | coe r =>
    have h : (0 : EReal) - max (r : EReal) (-(r : EReal)) = ((-|r| : ℝ) : EReal) := by
      rw [← EReal.coe_neg, ← coe_max, zero_sub, ← EReal.coe_neg]; rfl
    have hp : ¬ (1 + Real.exp (-|r|)) ≤ 0 := by have := Real.exp_pos (-|r|); linarith
    rw [h, Ideal.exp_coe, show (1 : EReal) = ((1 : ℝ) : EReal) from rfl, ← EReal.coe_add, Ideal.log_coe, if_neg hp,
      ← EReal.coe_zero, ← coe_min, ← EReal.coe_sub]
    refine EReal.coe_le_coe_iff.mpr ?_
    have := Real.log_nonneg (show 1 ≤ 1 + Real.exp (-|r|) by have := Real.exp_pos (-|r|); linarith)
    have := min_le_right r 0
    linarith

/-- The logarithm of the sigmoid of `z`, the way the reference takes it. -/
theorem lsg_eq (z : EReal) : lsg z = -(max (-z) 0 + Ideal.log1p (Ideal.exp (-max (-z) (- -z)))) := by
  unfold lsg Ideal.log1p
  induction z with
  | bot => simp [log_one]
  | top => simp [log_one]
  | coe r =>
    have h : (0 : EReal) - max (r : EReal) (-(r : EReal)) = ((-|r| : ℝ) : EReal) := by
      rw [← EReal.coe_neg, ← coe_max, zero_sub, ← EReal.coe_neg]; rfl
    have h' : -max (-(r : EReal)) (- -(r : EReal)) = ((-|r| : ℝ) : EReal) := by
      rw [neg_neg, max_comm, ← h, zero_sub]
    have hp : ¬ (1 + Real.exp (-|r|)) ≤ 0 := by have := Real.exp_pos (-|r|); linarith
    rw [h, h', Ideal.exp_coe, show (1 : EReal) = ((1 : ℝ) : EReal) from rfl, ← EReal.coe_add, Ideal.log_coe, if_neg hp,
      ← EReal.coe_zero, ← coe_min, ← EReal.coe_sub, ← EReal.coe_neg, ← coe_max, ← EReal.coe_add, ← EReal.coe_neg]
    refine EReal.coe_eq_coe_iff.mpr ?_
    have : min r 0 = - max (-r) 0 := by
      rcases le_total r 0 with h0 | h0
      · rw [min_eq_left h0, max_eq_left (by linarith), neg_neg]
      · rw [min_eq_right h0, max_eq_right (by linarith), neg_zero]
    rw [this]; ring

/-- A sum with the bottom among its terms is the bottom. -/
theorem sum_bot {ι : Type} [Fintype ι] [DecidableEq ι] (f : ι → EReal) (i : ι) (h : f i = ⊥) : ∑ j, f j = ⊥ := by
  rw [← Finset.add_sum_erase _ _ (Finset.mem_univ i), h, EReal.bot_add]

/-- What the coarser type leaves adds nothing to a sum: it is zero, unless the sum is the bottom already. -/
theorem sum_parts (p : Fin 128 → Bool) (f : Fin 128 → EReal) (hf : ∀ s, f s ≤ 0) :
    (∑ s, if p s then f s else 0) + ((∑ s, if p s then f s - f s else 0) + ∑ s, if p s then f s - f s - (f s - f s) else 0) = ∑ s, if p s then f s else 0 := by
  by_cases h : ∃ s, p s = true ∧ f s = ⊥
  · obtain ⟨s, hs, hb⟩ := h
    rw [sum_bot (fun s => if p s then f s else 0) s (by simp only [hs, if_true, hb]), EReal.bot_add]
  · have h2 : ∀ s, p s = true → f s - f s = 0 := fun s hs =>
      EReal.sub_self (fun e => by have := hf s; rw [e] at this; exact absurd this (by simp)) fun e => h ⟨s, hs, e⟩
    have h3 : ∀ s, (if p s then f s - f s else 0) = 0 := fun s => by
      split
      · rename_i hs; exact h2 s hs
      · rfl
    have h4 : ∀ s, (if p s then f s - f s - (f s - f s) else 0) = 0 := fun s => by
      split
      · rename_i hs; rw [h2 s hs, sub_zero]
      · rfl
    simp only [h3, h4, Finset.sum_const_zero, add_zero]

/-- The summed log forget gates at an index. -/
theorem vBc_apply (le : Fin 128 → Fin 128 → Bool) (M : IVec S128x128 1) (h : ∀ t s, M (ix2 t s) = 1 ↔ le t s = true)
    (g : FVec Ideal S128x128 .f32) (t l : Fin 128) : vBc M g (ix2 t l) = cum le (fun s => lsg (g (ix2 s l))) t := by
  unfold vBc cum
  rw [← sum_parts (le t) (fun s => lsg (g (ix2 s l))) fun s => lsg_le _]
  pointwise
  simp only [vTri_apply le M h]
  pointwise
  simp only [vRes_apply, vLs_apply]

/-- The vectors a head's operations start from stand for the chunk `x` and the state `st`. -/
structure Hd (le : Fin 128 → Fin 128 → Bool) (x : Ch) (st : St) (M : IVec S128x128 1) (bc ic : FVec Ideal S128x1 .f32) (br ir : FVec Ideal S1x128 .f32)
    (mp : FVec Ideal S1x1 .f32) (q k : FVec Ideal S128x128 .f32) (v : FVec Ideal S128x256 .f32) (C : Vec Ideal S1x128x256 .f32)
    (n : Vec Ideal S1x128 .f32) : Prop where
  M : ∀ t s, M (ix2 t s) = 1 ↔ le t s = true
  bc : ∀ t, bc (ix2 t 0) = x.b t
  ic : ∀ t, ic (ix2 t 0) = x.ig t
  br : ∀ t, br (ix2 0 t) = x.b t
  ir : ∀ t, ir (ix2 0 t) = x.ig t
  mp : mp (ix2 0 0) = st.m
  q : ∀ t d, q (ix2 t d) = x.q t d
  k : ∀ t d, k (ix2 t d) = x.k t d
  v : ∀ t f, v (ix2 t f) = x.v t f
  C : ∀ d f, C (ix3 0 d f) = st.C d f
  n : ∀ d, n (ix2 0 d) = st.n d

variable {le : Fin 128 → Fin 128 → Bool} {x : Ch} {st : St} {M : IVec S128x128 1} {bc ic : FVec Ideal S128x1 .f32} {br ir : FVec Ideal S1x128 .f32}
  {mp : FVec Ideal S1x1 .f32} {q k : FVec Ideal S128x128 .f32} {v : FVec Ideal S128x256 .f32} {C : Vec Ideal S1x128x256 .f32} {n : Vec Ideal S1x128 .f32}

/-- The stage's masked decays are the plain ones. -/
theorem vDm_apply (H : Hd le x st M bc ic br ir mp q k v C n) (t s : Fin 128) : vDm M bc br ir (ix2 t s) = dm le x t s := by
  unfold vDm dm
  pointwise
  simp only [f_bot, Scalar.select, H.M, H.bc, H.br, H.ir]

/-- The stage's weight of the carried state is the plain one. -/
theorem vIn_apply (H : Hd le x st M bc ic br ir mp q k v C n) (t : Fin 128) : vIn bc mp (ix2 t 0) = x.b t + st.m := by
  unfold vIn
  pointwise
  simp only [H.bc, H.mp]

/-- The stage's stabiliser is the plain one. -/
theorem vMt_apply (H : Hd le x st M bc ic br ir mp q k v C n) (t : Fin 128) : vMt M bc br ir mp (ix2 t 0) = mt le x st t := by
  unfold vMt mt
  pointwise
  simp only [f_bot, fold_max_eq, vDm_apply H, vIn_apply H]

/-- The stage's scores are the plain ones. -/
theorem vSc_apply (H : Hd le x st M bc ic br ir mp q k v C n) (t s : Fin 128) : vSc M bc br ir mp q k (ix2 t s) = sc le x st t s := by
  unfold vSc sc
  pointwise
  simp only [vDm_apply H, vMt_apply H, H.q, H.k]

/-- The stage's factor of the carried state is the plain one. -/
theorem vEi_apply (H : Hd le x st M bc ic br ir mp q k v C n) (t : Fin 128) : vEi M bc br ir mp (ix2 t 0) = ei le x st t := by
  unfold vEi ei
  pointwise
  simp only [vIn_apply H, vMt_apply H]

/-- The stage's numerator is the plain one. -/
theorem vNum_apply (H : Hd le x st M bc ic br ir mp q k v C n) (t : Fin 128) (f : Fin 256) :
    vNum (vSc M bc br ir mp q k) (vEi M bc br ir mp) q v C (ix2 t f) = num le x st t f := by
  unfold vNum num
  pointwise
  simp only [vSc_apply H, vEi_apply H, H.q, H.v, H.C]

/-- The sum of a row. -/
theorem vSum_apply (y : FVec Ideal S128x128 .f32) (t : Fin 128) : vSum y (ix2 t 0) = ∑ s, y (ix2 t s) := by
  unfold vSum
  pointwise

/-- The stage's denominator is the plain one. -/
theorem vDen_apply (H : Hd le x st M bc ic br ir mp q k v C n) (t : Fin 128) :
    vDen (vSc M bc br ir mp q k) (vEi M bc br ir mp) q n (ix2 t 0) = den le x st t := by
  unfold vDen den
  pointwise [vSum_apply]
  simp only [vSc_apply H, vEi_apply H, H.q, H.n]

/-- The block of outputs is the chunk's outputs. -/
theorem vH_apply (H : Hd le x st M bc ic br ir mp q k v C n) (t : Fin 128) (f : Fin 256) :
    vH M bc br ir mp q k v C n (ix3 0 t f) = hOut le x st t f := by
  unfold vH hOut
  pointwise
  simp only [vNum_apply H, vDen_apply H, vMt_apply H, sub_eq_add_neg, zero_add]
  rfl

variable {bl : EReal}

/-- The stage's next stabiliser is the plain one. -/
theorem vMn_apply (H : Hd le x st M bc ic br ir mp q k v C n) (hb : ⨅ t, x.b t = bl) : vMn br ir mp (ix2 0 0) = mNew x bl st := by
  unfold vMn mNew gs
  pointwise [vMax_apply, vMin_apply]
  simp only [H.br, H.ir, H.mp, hb]

/-- The stage's weights of the positions are the plain ones. -/
theorem vWs_apply (H : Hd le x st M bc ic br ir mp q k v C n) (hb : ⨅ t, x.b t = bl) (s : Fin 128) : vWs bc ic br ir mp (ix2 s 0) = ws x bl st s := by
  unfold vWs ws gs
  pointwise [vMin_apply]
  simp only [H.br, H.bc, H.ic, vMn_apply H hb, hb]

/-- The stage's decay of the carried state is the plain one. -/
theorem vDec_apply (H : Hd le x st M bc ic br ir mp q k v C n) (hb : ⨅ t, x.b t = bl) : vDec br ir mp (ix2 0 0) = dec x bl st := by
  unfold vDec dec
  pointwise [vMin_apply]
  simp only [H.br, H.mp, vMn_apply H hb, hb]

/-- The matrix memory after the chunk. -/
theorem vC_apply (H : Hd le x st M bc ic br ir mp q k v C n) (hb : ⨅ t, x.b t = bl) (d : Fin 128) (f : Fin 256) :
    vC bc ic br ir mp k v C (ix3 0 d f) = (next x bl st).C d f := by
  unfold vC next
  pointwise
  simp only [vDec_apply H hb, vWs_apply H hb, H.k, H.v, H.C]

/-- The normaliser after the chunk. -/
theorem vN_apply (H : Hd le x st M bc ic br ir mp q k v C n) (hb : ⨅ t, x.b t = bl) (d : Fin 128) :
    vN bc ic br ir mp k n (ix2 0 d) = (next x bl st).n d := by
  unfold vN next
  pointwise
  simp only [vDec_apply H hb, vWs_apply H hb, H.k, H.n]

/-- The running maximum after the chunk. -/
theorem vM_apply (H : Hd le x st M bc ic br ir mp q k v C n) (hb : ⨅ t, x.b t = bl) (l : Fin 128) :
    vM br ir mp (ix2 0 l) = (next x bl st).m := by
  unfold vM next
  pointwise
  simp only [vMn_apply H hb]

end Cert.Proof.Ml

end
-- ==== Proof.MlRows.lean ====
/- Reading what four stores side by side leave (one per head), and loading one head's part of a block. -/
module

public import proofs.«01_k».proof.Proof.MlHead
public import Idealize.ShloMosaic.Lib.Pipeline.ValueKit

@[expose] public section

set_option maxRecDepth 16384

noncomputable section

namespace Cert.Proof.Ml

open Cert.FwdIdeal Cert.FwdIdeal.Gen Idealize.ShloMosaic

variable {s : Shape} {e : EltTy}

/-- A place under the newest store reads its payload. -/
theorem canon_hit {off size : Fin s.rank → ℕ} (inb : ∀ a, off a + size a ≤ s.size a) (w : (Rect.unit off size inb).shape.Idx → Elt Ideal e)
    (L : List (View.Piece (Elt Ideal) s e)) (y : s.Idx) (x : (Rect.unit off size inb).shape.Idx) (hx : ∀ a, (y a).val = off a + (x a).val) :
    View.canon ((⟨Rect.unit off size inb, w⟩ : View.Piece (Elt Ideal) s e) :: L) y = w x := by
  have h := (Rect.unit off size inb).emb_eq_of_coords x y fun a => by
    rw [hx a]; show _ = off a + 1 * _; rw [Nat.one_mul]
  rw [← h, View.canon_cons_emb]

/-- A place beside the newest store reads the older ones. -/
theorem canon_miss {off size : Fin s.rank → ℕ} (inb : ∀ a, off a + size a ≤ s.size a) (w : (Rect.unit off size inb).shape.Idx → Elt Ideal e)
    (L : List (View.Piece (Elt Ideal) s e)) (y : s.Idx) (a : Fin s.rank) (h : (y a).val < off a ∨ off a + size a ≤ (y a).val) :
    View.canon ((⟨Rect.unit off size inb, w⟩ : View.Piece (Elt Ideal) s e) :: L) y = View.canon L y :=
  View.canon_cons_of_not_mem _ L ((Rect.unit off size inb).not_mem_set_of_axis y a (off a) (size a) rfl rfl rfl h)

/-- Four rows of a scratch. -/
theorem canon_rows (i0 i1 i2 i3) (y0 y1 y2 y3 : Vec Ideal S1x128 .f32) (L : List (View.Piece (Elt Ideal) S8x128 .f32)) (h : Fin 4) (l : Fin 128) :
    View.canon ((⟨Rect.unit ![3, 0] ![1, 128] i3, y3⟩ : View.Piece (Elt Ideal) S8x128 .f32) :: ⟨Rect.unit ![2, 0] ![1, 128] i2, y2⟩
      :: ⟨Rect.unit ![1, 0] ![1, 128] i1, y1⟩ :: ⟨Rect.unit ![0, 0] ![1, 128] i0, y0⟩ :: L) (ix2 (h.castLE (by decide)) l)
      = (![y0, y1, y2, y3] : Fin 4 → Vec Ideal S1x128 .f32) h (ix2 0 l) := by
  fin_cases h
  · refine (canon_miss i3 _ _ _ (0 : Fin 2) (.inl (show (0 : ℕ) < 3 by decide))).trans ((canon_miss i2 _ _ _ (0 : Fin 2) (.inl (show (0 : ℕ) < 2 by decide))).trans
      ((canon_miss i1 _ _ _ (0 : Fin 2) (.inl (show (0 : ℕ) < 1 by decide))).trans (canon_hit i0 y0 _ _ (ix2 0 l) (Fin.forall_fin_two.mpr ⟨rfl, (Nat.zero_add _).symm⟩))))
  · refine (canon_miss i3 _ _ _ (0 : Fin 2) (.inl (show (1 : ℕ) < 3 by decide))).trans ((canon_miss i2 _ _ _ (0 : Fin 2) (.inl (show (1 : ℕ) < 2 by decide))).trans
      (canon_hit i1 y1 _ _ (ix2 0 l) (Fin.forall_fin_two.mpr ⟨rfl, (Nat.zero_add _).symm⟩)))
  · exact (canon_miss i3 _ _ _ (0 : Fin 2) (.inl (show (2 : ℕ) < 3 by decide))).trans
      (canon_hit i2 y2 _ _ (ix2 0 l) (Fin.forall_fin_two.mpr ⟨rfl, (Nat.zero_add _).symm⟩))
  · exact canon_hit i3 y3 _ _ (ix2 0 l) (Fin.forall_fin_two.mpr ⟨rfl, (Nat.zero_add _).symm⟩)

/-- Four rows of a scratch over whatever it held. -/
theorem read_rows {sig : RefSig} {κ : Kind} {sp : Space} (v : View sig κ sp S8x128 .f32) (b : v.ty.Contents (Elt Ideal))
    (i0 i1 i2 i3) (y0 y1 y2 y3 : Vec Ideal S1x128 .f32) (h : Fin 4) (l : Fin 128) :
    v.read (Elt Ideal) (v.writes (Elt Ideal) b [⟨Rect.unit ![3, 0] ![1, 128] i3, y3⟩, ⟨Rect.unit ![2, 0] ![1, 128] i2, y2⟩,
      ⟨Rect.unit ![1, 0] ![1, 128] i1, y1⟩, ⟨Rect.unit ![0, 0] ![1, 128] i0, y0⟩]) (ix2 (h.castLE (by decide)) l)
      = (![y0, y1, y2, y3] : Fin 4 → Vec Ideal S1x128 .f32) h (ix2 0 l) := by
  rw [View.read_writes_apply_eq_canon v b, canon_rows]
  fin_cases h
  · refine ⟨⟨Rect.unit ![0, 0] ![1, 128] i0, y0⟩, by simp, ?_⟩
    rw [Rect.mem_set_unit]
    exact Fin.forall_fin_two.mpr ⟨⟨Nat.zero_le _, Nat.lt_succ_self _⟩, ⟨Nat.zero_le _, (Nat.zero_add 128).symm ▸ l.isLt⟩⟩
  · refine ⟨⟨Rect.unit ![1, 0] ![1, 128] i1, y1⟩, by simp, ?_⟩
    rw [Rect.mem_set_unit]
    exact Fin.forall_fin_two.mpr ⟨⟨le_rfl, Nat.lt_succ_self _⟩, ⟨Nat.zero_le _, (Nat.zero_add 128).symm ▸ l.isLt⟩⟩
  · refine ⟨⟨Rect.unit ![2, 0] ![1, 128] i2, y2⟩, by simp, ?_⟩
    rw [Rect.mem_set_unit]
    exact Fin.forall_fin_two.mpr ⟨⟨le_rfl, Nat.lt_succ_self _⟩, ⟨Nat.zero_le _, (Nat.zero_add 128).symm ▸ l.isLt⟩⟩
  · refine ⟨⟨Rect.unit ![3, 0] ![1, 128] i3, y3⟩, by simp, ?_⟩
    rw [Rect.mem_set_unit]
    exact Fin.forall_fin_two.mpr ⟨⟨le_rfl, Nat.lt_succ_self _⟩, ⟨Nat.zero_le _, (Nat.zero_add 128).symm ▸ l.isLt⟩⟩

/-- A fact of three indices, one by one. -/
theorem forall3 {p : Fin 3 → Prop} (h0 : p 0) (h1 : p 1) (h2 : p 2) : ∀ a, p a := fun a => by
  fin_cases a
  · exact h0
  · exact h1
  · exact h2

/-- Four slabs of a scratch. -/
theorem canon_slabs (i0 i1 i2 i3) (y0 y1 y2 y3 : Vec Ideal S1x128x256 .f32) (L : List (View.Piece (Elt Ideal) S4x128x256 .f32)) (h : Fin 4)
    (d : Fin 128) (f : Fin 256) :
    View.canon ((⟨Rect.unit ![3, 0, 0] ![1, 128, 256] i3, y3⟩ : View.Piece (Elt Ideal) S4x128x256 .f32) :: ⟨Rect.unit ![2, 0, 0] ![1, 128, 256] i2, y2⟩
      :: ⟨Rect.unit ![1, 0, 0] ![1, 128, 256] i1, y1⟩ :: ⟨Rect.unit ![0, 0, 0] ![1, 128, 256] i0, y0⟩ :: L) (ix3 h d f)
      = (![y0, y1, y2, y3] : Fin 4 → Vec Ideal S1x128x256 .f32) h (ix3 0 d f) := by
  fin_cases h
  · refine (canon_miss i3 _ _ _ (0 : Fin 3) (.inl (show (0 : ℕ) < 3 by decide))).trans ((canon_miss i2 _ _ _ (0 : Fin 3) (.inl (show (0 : ℕ) < 2 by decide))).trans
      ((canon_miss i1 _ _ _ (0 : Fin 3) (.inl (show (0 : ℕ) < 1 by decide))).trans
        (canon_hit i0 y0 _ _ (ix3 0 d f) (forall3 rfl (Nat.zero_add _).symm (Nat.zero_add _).symm))))
  · refine (canon_miss i3 _ _ _ (0 : Fin 3) (.inl (show (1 : ℕ) < 3 by decide))).trans ((canon_miss i2 _ _ _ (0 : Fin 3) (.inl (show (1 : ℕ) < 2 by decide))).trans
      (canon_hit i1 y1 _ _ (ix3 0 d f) (forall3 rfl (Nat.zero_add _).symm (Nat.zero_add _).symm)))
  · exact (canon_miss i3 _ _ _ (0 : Fin 3) (.inl (show (2 : ℕ) < 3 by decide))).trans
      (canon_hit i2 y2 _ _ (ix3 0 d f) (forall3 rfl (Nat.zero_add _).symm (Nat.zero_add _).symm))
  · exact canon_hit i3 y3 _ _ (ix3 0 d f) (forall3 rfl (Nat.zero_add _).symm (Nat.zero_add _).symm)

/-- The lane of a head's feature among the values. -/
def ln (h : Fin 4) (f : Fin 256) : Fin 1024 := ⟨256 * h.val + f.val, by omega⟩

/-- The lane of a head's feature among the keys or queries. -/
def lk (h : Fin 4) (d : Fin 128) : Fin 512 := ⟨128 * h.val + d.val, by omega⟩

/-- Four blocks of lanes. -/
theorem canon_lanes (i0 i1 i2 i3) (y0 y1 y2 y3 : Vec Ideal S1x128x256 .f32) (L : List (View.Piece (Elt Ideal) S1x128x1024 .f32)) (h : Fin 4)
    (t : Fin 128) (f : Fin 256) :
    View.canon ((⟨Rect.unit ![0, 0, 768] ![1, 128, 256] i3, y3⟩ : View.Piece (Elt Ideal) S1x128x1024 .f32) :: ⟨Rect.unit ![0, 0, 512] ![1, 128, 256] i2, y2⟩
      :: ⟨Rect.unit ![0, 0, 256] ![1, 128, 256] i1, y1⟩ :: ⟨Rect.unit ![0, 0, 0] ![1, 128, 256] i0, y0⟩ :: L) (ix3 0 t (ln h f))
      = (![y0, y1, y2, y3] : Fin 4 → Vec Ideal S1x128x256 .f32) h (ix3 0 t f) := by
  have hf := f.isLt
  fin_cases h
  · refine (canon_miss i3 _ _ _ (2 : Fin 3) (.inl (show 256 * 0 + f.val < 768 by omega))).trans
      ((canon_miss i2 _ _ _ (2 : Fin 3) (.inl (show 256 * 0 + f.val < 512 by omega))).trans
      ((canon_miss i1 _ _ _ (2 : Fin 3) (.inl (show 256 * 0 + f.val < 256 by omega))).trans
        (canon_hit i0 y0 _ _ (ix3 0 t f) (forall3 rfl (Nat.zero_add _).symm rfl))))
  · refine (canon_miss i3 _ _ _ (2 : Fin 3) (.inl (show 256 * 1 + f.val < 768 by omega))).trans
      ((canon_miss i2 _ _ _ (2 : Fin 3) (.inl (show 256 * 1 + f.val < 512 by omega))).trans
      (canon_hit i1 y1 _ _ (ix3 0 t f) (forall3 rfl (Nat.zero_add _).symm rfl)))
  · exact (canon_miss i3 _ _ _ (2 : Fin 3) (.inl (show 256 * 2 + f.val < 768 by omega))).trans
      (canon_hit i2 y2 _ _ (ix3 0 t f) (forall3 rfl (Nat.zero_add _).symm rfl))
  · exact canon_hit i3 y3 _ _ (ix3 0 t f) (forall3 rfl (Nat.zero_add _).symm rfl)

/-! ## Loads -/

/-- A load's value at an index. -/
theorem ld_at {off size : Fin s.rank → ℕ} (inb : ∀ a, off a + size a ≤ s.size a) (X : Vec Ideal s e) (x : (Rect.unit off size inb).shape.Idx) (y : s.Idx)
    (hx : ∀ a, (y a).val = off a + (x a).val) : View.ld X (Rect.unit off size inb) x = X y := by
  have h := (Rect.unit off size inb).emb_eq_of_coords x y fun a => by
    rw [hx a]; show _ = off a + 1 * _; rw [Nat.one_mul]
  rw [← h]
  rfl

/-- A head's queries or keys out of a block. -/
def gQ (X : Vec Ideal S1x128x512 .bf16) (h : Fin 4) : Vec Ideal S1x128x128 .bf16 :=
  View.ld X (Rect.unit (s := S1x128x512) ![0, 0, 128 * h.val] ![1, 128, 128]
    (forall3 (Nat.le_refl 1) (Nat.le_refl 128) (show 128 * h.val + 128 ≤ 512 by omega)))

/-- A head's columns of the queries or the keys. -/
theorem gQ_apply (X : Vec Ideal S1x128x512 .bf16) (h : Fin 4) (t d : Fin 128) : gQ X h (ix3 0 t d) = X (ix3 0 t (lk h d)) :=
  ld_at _ X _ _ (forall3 rfl (Nat.zero_add _).symm rfl)

/-- A head's values out of a block. -/
def gV (X : Vec Ideal S1x128x1024 .bf16) (h : Fin 4) : Vec Ideal S1x128x256 .bf16 :=
  View.ld X (Rect.unit (s := S1x128x1024) ![0, 0, 256 * h.val] ![1, 128, 256]
    (forall3 (Nat.le_refl 1) (Nat.le_refl 128) (show 256 * h.val + 256 ≤ 1024 by omega)))

/-- A head's columns of the values. -/
theorem gV_apply (X : Vec Ideal S1x128x1024 .bf16) (h : Fin 4) (t : Fin 128) (f : Fin 256) : gV X h (ix3 0 t f) = X (ix3 0 t (ln h f)) :=
  ld_at _ X _ _ (forall3 rfl (Nat.zero_add _).symm rfl)

/-- A head's matrix memory out of the scratch. -/
def gC (X : Vec Ideal S4x128x256 .f32) (h : Fin 4) : Vec Ideal S1x128x256 .f32 :=
  View.ld X (Rect.unit (s := S4x128x256) ![h.val, 0, 0] ![1, 128, 256]
    (forall3 (show h.val + 1 ≤ 4 by omega) (Nat.le_refl 128) (Nat.le_refl 256)))

/-- A head's matrix memory. -/
theorem gC_apply (X : Vec Ideal S4x128x256 .f32) (h : Fin 4) (d : Fin 128) (f : Fin 256) : gC X h (ix3 0 d f) = X (ix3 h d f) :=
  ld_at _ X _ _ (forall3 rfl (Nat.zero_add _).symm (Nat.zero_add _).symm)

/-- A head's row of a scratch. -/
def gR (X : Vec Ideal S8x128 .f32) (h : Fin 4) : Vec Ideal S1x128 .f32 :=
  View.ld X (Rect.unit (s := S8x128) ![h.val, 0] ![1, 128]
    (Fin.forall_fin_two.mpr ⟨(show h.val + 1 ≤ 8 by omega), Nat.le_refl 128⟩))

/-- A head's row of the scratch. -/
theorem gR_apply (X : Vec Ideal S8x128 .f32) (h : Fin 4) (l : Fin 128) : gR X h (ix2 0 l) = X (ix2 (h.castLE (by decide)) l) :=
  ld_at _ X _ _ (Fin.forall_fin_two.mpr ⟨rfl, (Nat.zero_add _).symm⟩)

/-! ## One head of a grid point -/

/-- The blocks a grid point reads: queries, keys, values, gates' logits and the gates' bias. -/
structure Blk where
  q : Vec Ideal S1x128x512 .bf16
  k : Vec Ideal S1x128x512 .bf16
  v : Vec Ideal S1x128x1024 .bf16
  g : Vec Ideal S1x128x128 .f32
  b : Vec Ideal S1x128 .f32

/-- The scratch: matrix memories, normalisers and running maxima of the four heads. -/
structure Scr where
  C : Vec Ideal S4x128x256 .f32
  n : Vec Ideal S8x128 .f32
  m : Vec Ideal S8x128 .f32

/-- The chunk of head `h`, its input gate in lane `li` and its forget gate in lane `lf`. -/
def Blk.ch (le : Fin 128 → Fin 128 → Bool) (li lf : Fin 128) (B : Blk) (h : Fin 4) : Ch where
  q t d := B.q (ix3 0 t (lk h d)) * Ideal.ofBits .f32 0x3DB504F3#32
  k t d := B.k (ix3 0 t (lk h d))
  v t f := B.v (ix3 0 t (ln h f))
  ig t := B.g (ix3 0 t li) + B.b (ix2 0 li)
  b := cum le fun s => lsg (B.g (ix3 0 s lf) + B.b (ix2 0 lf))

/-- The scratch holds the states `st`. -/
def Scr.Is (X : Scr) (st : Fin 4 → St) : Prop := ∀ h : Fin 4,
  (∀ d f, X.C (ix3 h d f) = (st h).C d f) ∧ (∀ d, X.n (ix2 (h.castLE (by decide)) d) = (st h).n d)
    ∧ ∀ l, X.m (ix2 (h.castLE (by decide)) l) = (st h).m

/-- The body's vectors of head `h` stand for its chunk and its state. -/
theorem hd_of {le : Fin 128 → Fin 128 → Bool} {M : IVec S128x128 1} (hM : ∀ t s, M (ix2 t s) = 1 ↔ le t s = true) (li lf : Fin 128) (B : Blk) (X : Scr)
    (st : Fin 4 → St) (hX : X.Is st) (h : Fin 4) :
    Hd le (B.ch le li lf h) (st h) M (vCol (BitVec.ofNat 32 lf.val) (vBc M (vG B.g B.b))) (vCol (BitVec.ofNat 32 li.val) (vG B.g B.b))
      (vRow (BitVec.ofNat 32 lf.val) (vT (vBc M (vG B.g B.b)))) (vRow (BitVec.ofNat 32 li.val) (vT (vG B.g B.b))) (vMax (gR X.m h))
      (vQ (gQ B.q h)) (vK (gQ B.k h)) (vV (gV B.v h)) (gC X.C h) (gR X.n h) where
  M := hM
  bc t := by rw [vCol_apply, vBc_apply le M hM]; simp only [vG_apply]; rfl
  ic t := by rw [vCol_apply, vG_apply]; rfl
  br t := by rw [vRow_apply, vT_apply, vBc_apply le M hM]; simp only [vG_apply]; rfl
  ir t := by rw [vRow_apply, vT_apply, vG_apply]; rfl
  mp := by rw [vMax_apply]; simp only [gR_apply, (hX h).2.2, ciSup_const]
  q t d := by unfold vQ vK; pointwise [gQ_apply]; rfl
  k t d := by unfold vK; pointwise [gQ_apply]; rfl
  v t f := by unfold vV; pointwise [gV_apply]; rfl
  C d f := by rw [gC_apply]; exact (hX h).1 d f
  n d := by rw [gR_apply]; exact (hX h).2.1 d

section Point

variable (M : IVec S128x128 1) (li lf : BitVec 32) (B : Blk) (X : Scr) (h : Fin 4)

/-- Head `h`'s block of outputs at a grid point. -/
def kH : Vec Ideal S1x128x256 .f32 :=
  vH M (vCol lf (vBc M (vG B.g B.b))) (vRow lf (vT (vBc M (vG B.g B.b)))) (vRow li (vT (vG B.g B.b))) (vMax (gR X.m h))
    (vQ (gQ B.q h)) (vK (gQ B.k h)) (vV (gV B.v h)) (gC X.C h) (gR X.n h)

/-- Head `h`'s matrix memory after a grid point. -/
def kC : Vec Ideal S1x128x256 .f32 :=
  vC (vCol lf (vBc M (vG B.g B.b))) (vCol li (vG B.g B.b)) (vRow lf (vT (vBc M (vG B.g B.b)))) (vRow li (vT (vG B.g B.b))) (vMax (gR X.m h))
    (vK (gQ B.k h)) (vV (gV B.v h)) (gC X.C h)

/-- Head `h`'s normaliser after a grid point. -/
def kN : Vec Ideal S1x128 .f32 :=
  vN (vCol lf (vBc M (vG B.g B.b))) (vCol li (vG B.g B.b)) (vRow lf (vT (vBc M (vG B.g B.b)))) (vRow li (vT (vG B.g B.b))) (vMax (gR X.m h))
    (vK (gQ B.k h)) (gR X.n h)

/-- Head `h`'s running maximum after a grid point. -/
def kM : Vec Ideal S1x128 .f32 :=
  vM (vRow lf (vT (vBc M (vG B.g B.b)))) (vRow li (vT (vG B.g B.b))) (vMax (gR X.m h))

end Point

end Cert.Proof.Ml

end
-- ==== Proof.FwdPoint.lean ====
/- The forward mLSTM scan's kernel, one grid point: what it leaves in its output block and in its scratch is, head by head,
   the generic head of `MlRows` of the point's blocks and the scratch before it. -/
module

public import proofs.«01_k».proof.Proof.Gen.FwdIdeal.Value
public import proofs.«01_k».proof.Proof.MlRows
public import Idealize.ShloMosaic.Lib.Pipeline.ReadBack

@[expose] public section

set_option maxRecDepth 16384

noncomputable section

namespace Cert.Proof.Fwd

open Cert.FwdIdeal Cert.FwdIdeal.Gen Cert.FwdIdeal.Value Idealize.ShloMosaic Idealize.ShloMosaic.TcCoe Idealize.SL.Sem Cert.Proof.Ml

variable (m : (ℓ : Loc nD τ sig) → Buf (Elt Ideal) ℓ) (c : Dev nD) (t : Fin cfg0.N)

/-- The input gate's lane of a head. -/
def li (h : Fin 4) : Fin 128 := ⟨h.val, by omega⟩

/-- The forget gate's lane of a head. -/
def lf (h : Fin 4) : Fin 128 := ⟨8 + h.val, by omega⟩

/-- The blocks point `t` reads. -/
def blk : Blk := ⟨iblk m c 0 t, iblk m c 1 t, iblk m c 2 t, iblk m c 3 t, iblk m c 4 t⟩

/-- The scratch after point `t`. -/
def scr (n : ℕ) (hn : n < cfg0.N) : Scr := ⟨(outsAt0 m c n hn).2.1, (outsAt0 m c n hn).2.2.1, (outsAt0 m c n hn).2.2.2⟩

/-- The scratch a batch row starts from. -/
def scr0 : Scr := ⟨k0_pay3 (F := Ideal), k0_pay4 (F := Ideal), k0_pay5 (F := Ideal)⟩

/-- What a point leaves, `X` the scratch it starts from. -/
def Leaves (X : Scr) : Prop := ∀ h : Fin 4,
  (∀ p f, (outsAt0 m c t.val t.isLt).1 (ix3 0 p (ln h f)) = kH k0_pay6 (BitVec.ofNat 32 (li h).val) (BitVec.ofNat 32 (lf h).val) (blk m c t) X h (ix3 0 p f))
  ∧ (∀ d f, (outsAt0 m c t.val t.isLt).2.1 (ix3 h d f) = kC k0_pay6 (BitVec.ofNat 32 (li h).val) (BitVec.ofNat 32 (lf h).val) (blk m c t) X h (ix3 0 d f))
  ∧ (∀ d, (outsAt0 m c t.val t.isLt).2.2.1 (ix2 (h.castLE (by decide)) d) = kN k0_pay6 (BitVec.ofNat 32 (li h).val) (BitVec.ofNat 32 (lf h).val) (blk m c t) X h (ix2 0 d))
  ∧ ∀ d, (outsAt0 m c t.val t.isLt).2.2.2 (ix2 (h.castLE (by decide)) d) = kM k0_pay6 (BitVec.ofNat 32 (li h).val) (BitVec.ofNat 32 (lf h).val) (blk m c t) X h (ix2 0 d)

set_option maxHeartbeats 2000000

/-- A point that continues a batch row. -/
theorem leaves_B (h0 : ¬t.val % 128 = 0) : Leaves m c t (scr m c (t.val - 1) (by have := t.isLt; omega)) := by
  refine fun h => ⟨fun p f => ?_, fun d f => ?_, fun d => ?_, fun d => ?_⟩
  · rw [outsAt0_B m c t h0]
    frame_out
    simp only [read_unread_whole]
    refine (canon_lanes _ _ _ _ _ _ _ _ _ h p f).trans ?_
    exact congrFun (by fin_cases h <;> rfl) _
  · rw [outsAt0_B m c t h0]
    frame_out
    simp only [read_unread_whole]
    refine (canon_slabs _ _ _ _ _ _ _ _ _ h d f).trans ?_
    exact congrFun (by fin_cases h <;> rfl) _
  · rw [outsAt0_B m c t h0]
    frame_out
    refine (read_rows _ _ _ _ _ _ _ _ _ _ h d).trans ?_
    simp only [read_unread_whole]
    exact congrFun (by fin_cases h <;> rfl) _
  · rw [outsAt0_B m c t h0]
    frame_out
    refine (read_rows _ _ _ _ _ _ _ _ _ _ h d).trans ?_
    simp only [read_unread_whole]
    exact congrFun (by fin_cases h <;> rfl) _

/-- A point that starts a batch row. -/
theorem leaves_A (h0 : t.val % 128 = 0) : Leaves m c t scr0 := by
  refine fun h => ⟨fun p f => ?_, fun d f => ?_, fun d => ?_, fun d => ?_⟩
  · rw [outsAt0_A m c t h0]
    frame_out
    simp (disch := decide) only [↓ View.readCov_skip, ↓ View.readCov_fill]
    refine (canon_lanes _ _ _ _ _ _ _ _ _ h p f).trans ?_
    exact congrFun (by fin_cases h <;> rfl) _
  · rw [outsAt0_A m c t h0]
    frame_out
    simp (disch := decide) only [↓ View.readCov_skip, ↓ View.readCov_fill]
    refine (canon_slabs _ _ _ _ _ _ _ _ _ h d f).trans ?_
    exact congrFun (by fin_cases h <;> rfl) _
  · rw [outsAt0_A m c t h0]
    frame_out
    simp (disch := decide) only [↓ View.readCov_skip, ↓ View.readCov_fill]
    refine (canon_rows _ _ _ _ _ _ _ _ _ h d).trans ?_
    exact congrFun (by fin_cases h <;> rfl) _
  · rw [outsAt0_A m c t h0]
    frame_out
    simp (disch := decide) only [↓ View.readCov_skip, ↓ View.readCov_fill]
    refine (canon_rows _ _ _ _ _ _ _ _ _ h d).trans ?_
    exact congrFun (by fin_cases h <;> rfl) _

end Cert.Proof.Fwd

end
-- ==== Proof.MlHost.lean ====
/- What one trip of the reference's scan computes for all heads at once, as array operations in the reference's order, and
   what these arrays are at an index: the plain functions of `MlSpec`. -/
module

public import proofs.«01_k».proof.Proof.Gen.FwdRefIdeal.Run
public import proofs.«01_k».proof.Proof.MlHead
public import Idealize.ShloMosaic.Lib.Pointwise
public import Idealize.ShloMosaic.Lib.DynamicIndex

@[expose] public section

set_option maxRecDepth 16384

noncomputable section

namespace Cert.Proof.Ml

open Cert.FwdRefIdeal Cert.FwdRefIdeal.Gen Idealize.ShloMosaic

/-- A chunk of the queries or keys. -/
def hQ (i : IVec S_ 32) (X : Vec Ideal S128x2x4x128x128 .f32) : Vec Ideal S2x4x128x128 .f32 :=
  shapeCast S2x4x128x128 (Host.dynamicSlice S1x2x4x128x128 X (fun k => (((![i, constantI S_ 32 0#32, constantI S_ 32 0#32, constantI S_ 32 0#32, constantI S_ 32 0#32] : Fin 5 → (⟨S_, .i32⟩ : BufTy).Contents (Elt Ideal))) k (Shape.Idx.first h_S_)).toInt) sliceFits_S128x2x4x128x128_S1x2x4x128x128) shapeCasts_S1x2x4x128x128_S2x4x128x128

/-- A chunk of the values. -/
def hV (i : IVec S_ 32) (X : Vec Ideal S128x2x4x128x256 .f32) : Vec Ideal S2x4x128x256 .f32 :=
  shapeCast S2x4x128x256 (Host.dynamicSlice S1x2x4x128x256 X (fun k => (((![i, constantI S_ 32 0#32, constantI S_ 32 0#32, constantI S_ 32 0#32, constantI S_ 32 0#32] : Fin 5 → (⟨S_, .i32⟩ : BufTy).Contents (Elt Ideal))) k (Shape.Idx.first h_S_)).toInt) sliceFits_S128x2x4x128x256_S1x2x4x128x256) shapeCasts_S1x2x4x128x256_S2x4x128x256

/-- A chunk of the gates. -/
def hG (i : IVec S_ 32) (X : Vec Ideal S128x2x4x128 .f32) : Vec Ideal S2x4x128 .f32 :=
  shapeCast S2x4x128 (Host.dynamicSlice S1x2x4x128 X (fun k => (((![i, constantI S_ 32 0#32, constantI S_ 32 0#32, constantI S_ 32 0#32] : Fin 4 → (⟨S_, .i32⟩ : BufTy).Contents (Elt Ideal))) k (Shape.Idx.first h_S_)).toInt) sliceFits_S128x2x4x128_S1x2x4x128) shapeCasts_S1x2x4x128_S2x4x128

/-- The counter as a slice's start. -/
theorem start_at (n : Fin 128) (k : ℕ) (z : Fin k → IVec S_ 32) (hz : ∀ a, z a = constantI S_ 32 0#32) (a : Fin (k + 1)) :
    ((Fin.cons (α := fun _ => IVec S_ 32) (fun _ => BitVec.ofNat 32 n.val) z : Fin (k + 1) → IVec S_ 32) a (Shape.Idx.first h_S_)).toInt
      = ((Fin.cons (α := fun _ => ℕ) n.val (fun _ => 0) : Fin (k + 1) → ℕ) a : Int) := by
  refine Fin.cases ?_ (fun a => ?_) a
  · exact (by decide +kernel : ∀ n : Fin 128, (BitVec.ofNat 32 n.val).toInt = (n.val : Int)) n
  · show ((z a) (Shape.Idx.first h_S_)).toInt = ((0 : ℕ) : Int)
    rw [hz]
    rfl

/-- A chunk of the queries or the keys. -/
theorem hQ_apply (n : Fin 128) (X : Vec Ideal S128x2x4x128x128 .f32) (b : Fin 2) (h : Fin 4) (t d : Fin 128) :
    hQ (fun _ => BitVec.ofNat 32 n.val) X (ix4 b h t d) = X (ix5 n b h t d) := by
  refine (congrFun (congrArg (fun z => shapeCast S2x4x128x128 z shapeCasts_S1x2x4x128x128_S2x4x128x128)
    (Host.dynamicSlice_eq_extractStridedSlice S1x2x4x128x128 X _ (Fin.cons (α := fun _ => ℕ) n.val (fun _ => 0)) _
      ⟨rfl, Fin.cases (show n.val + 1 ≤ 128 by omega) fun a => by fin_cases a <;> exact Nat.le_of_eq (Nat.zero_add _)⟩
      (start_at n 4 ![constantI S_ 32 0#32, constantI S_ 32 0#32, constantI S_ 32 0#32, constantI S_ 32 0#32] (fun a => by fin_cases a <;> rfl)))) _).trans ?_
  pointwise
  exact congrArg X (funext fun a => Fin.ext (by fin_cases a <;> first | rfl | exact Nat.zero_add _))

/-- A chunk of the values. -/
theorem hV_apply (n : Fin 128) (X : Vec Ideal S128x2x4x128x256 .f32) (b : Fin 2) (h : Fin 4) (t : Fin 128) (d : Fin 256) :
    hV (fun _ => BitVec.ofNat 32 n.val) X (ix4 b h t d) = X (ix5 n b h t d) := by
  refine (congrFun (congrArg (fun z => shapeCast S2x4x128x256 z shapeCasts_S1x2x4x128x256_S2x4x128x256)
    (Host.dynamicSlice_eq_extractStridedSlice S1x2x4x128x256 X _ (Fin.cons (α := fun _ => ℕ) n.val (fun _ => 0)) _
      ⟨rfl, Fin.cases (show n.val + 1 ≤ 128 by omega) fun a => by fin_cases a <;> exact Nat.le_of_eq (Nat.zero_add _)⟩
      (start_at n 4 ![constantI S_ 32 0#32, constantI S_ 32 0#32, constantI S_ 32 0#32, constantI S_ 32 0#32] (fun a => by fin_cases a <;> rfl)))) _).trans ?_
  pointwise
  exact congrArg X (funext fun a => Fin.ext (by fin_cases a <;> first | rfl | exact Nat.zero_add _))

/-- A chunk of the gates. -/
theorem hG_apply (n : Fin 128) (X : Vec Ideal S128x2x4x128 .f32) (b : Fin 2) (h : Fin 4) (t : Fin 128) :
    hG (fun _ => BitVec.ofNat 32 n.val) X (ix3 b h t) = X (ix4 n b h t) := by
  refine (congrFun (congrArg (fun z => shapeCast S2x4x128 z shapeCasts_S1x2x4x128_S2x4x128)
    (Host.dynamicSlice_eq_extractStridedSlice S1x2x4x128 X _ (Fin.cons (α := fun _ => ℕ) n.val (fun _ => 0)) _
      ⟨rfl, Fin.cases (show n.val + 1 ≤ 128 by omega) fun a => by fin_cases a <;> exact Nat.le_of_eq (Nat.zero_add _)⟩
      (start_at n 3 ![constantI S_ 32 0#32, constantI S_ 32 0#32, constantI S_ 32 0#32] (fun a => by fin_cases a <;> rfl)))) _).trans ?_
  pointwise
  exact congrArg X (funext fun a => Fin.ext (by fin_cases a <;> first | rfl | exact Nat.zero_add _))

/-- The summed log forget gates. -/
def hB (X : Vec Ideal S2x4x128 .f32) : Vec Ideal S2x4x128 .f32 :=
  Host.reduceWindowAdd (F := Ideal) ![1, 1, 128] ![1, 1, 1] ![0, 0, 127] ![0, 0, 0] X (broadcastInDim S_ ![] bcast_S_S_ (constant S_ .f32 0x00000000#32)) reduceWindows_S2x4x128_S2x4x128_w1s1p0_0_w1s1p0_0_w128s1p127_0 h_S_

/-- A left fold of additions is the start plus the sum. -/
theorem foldl_sum {ι : Type} (l : List ι) (g : ι → EReal) (v : EReal) : l.foldl (fun r n => r + g n) v = v + (l.map g).sum := by
  induction l generalizing v with
  | nil => simp
  | cons a l ih => rw [List.foldl_cons, ih, List.map_cons, List.sum_cons, add_assoc]

/-- A sum over the window that ends at `t` is the sum over the positions up to `t`. -/
theorem sum_window (f : Fin 128 → EReal) (t : Fin 128) :
    ∑ u : Fin 128, (if h : 127 ≤ t.val + u.val then f ⟨t.val + u.val - 127, by omega⟩ else 0) = ∑ s, if fwd t s then f s else 0 := by
  have e1 : ∀ u : Fin 128, (if h : 127 ≤ t.val + u.val then f ⟨t.val + u.val - 127, by omega⟩ else 0)
      = if 127 ≤ t.val + u.val then f (u - (127 - t)) else 0 := fun u => by
    by_cases h : 127 ≤ t.val + u.val
    · rw [dif_pos h, if_pos h]
      refine congrArg f (Fin.ext ?_)
      show t.val + u.val - 127 = _
      rw [Fin.sub_val_of_le, Fin.sub_val_of_le]
      · show _ = u.val - (127 - t.val); omega
      · exact Fin.le_def.mpr (show t.val ≤ 127 by omega)
      · rw [Fin.le_def, Fin.sub_val_of_le]
        · show 127 - t.val ≤ u.val; omega
        · exact Fin.le_def.mpr (show t.val ≤ 127 by omega)
    · rw [dif_neg h, if_neg h]
  simp only [e1, fwd, decide_eq_true_eq]
  rw [← Finset.sum_filter, ← Finset.sum_filter]
  refine Finset.sum_bij' (fun u _ => u - (127 - t)) (fun s _ => s + (127 - t)) (fun u hu => ?_) (fun s hs => ?_) (fun u _ => sub_add_cancel _ _)
    (fun s _ => add_sub_cancel_right _ _) fun _ _ => rfl
  · simp only [Finset.mem_filter, Finset.mem_univ, true_and] at hu ⊢
    rw [Fin.le_def, Fin.sub_def]
    have : (127 - t : Fin 128).val = 127 - t.val := by
      rw [Fin.sub_val_of_le (Fin.le_def.mpr (show t.val ≤ 127 by omega))]; rfl
    simp only [this]
    omega
  · simp only [Finset.mem_filter, Finset.mem_univ, true_and] at hs ⊢
    rw [Fin.le_def] at hs
    have : (127 - t : Fin 128).val = 127 - t.val := by
      rw [Fin.sub_val_of_le (Fin.le_def.mpr (show t.val ≤ 127 by omega))]; rfl
    rw [Fin.add_def]
    simp only [this]
    omega

/-- The running sum of a chunk is the plain one. -/
theorem hB_apply (X : Vec Ideal S2x4x128 .f32) (b : Fin 2) (h : Fin 4) (t : Fin 128) :
    hB X (ix3 b h t) = cum fwd (fun s => X (ix3 b h s)) t := by
  unfold hB Host.reduceWindowAdd
  rw [Ideal.hostReduceWindowAdd_def]
  unfold Ideal.hostReduceWindowAdd Host.reduceWindow
  simp only
  rw [foldl_sum]
  have h0 : broadcastInDim S_ ![] bcast_S_S_ (constant (F := Ideal) S_ FTy.f32 0#32) (Shape.Idx.first h_S_) = 0 := by pointwise
  rw [← List.ofFn_eq_map, List.sum_ofFn, h0, zero_add]
  refine (Finset.sum_congr rfl fun i _ => ?_).trans ((Equiv.sum_comp (Shape.rowMajor ⟨3, ![1, 1, 128]⟩).symm
    fun w => if h' : 127 ≤ t.val + (w 2).val then X (ix3 b h ⟨t.val + (w 2).val - 127, by have := (w 2).isLt; have : (w 2).val < 128 := this; omega⟩) else 0).trans ?_)
  · have w0 : ((Shape.rowMajor ⟨3, ![1, 1, 128]⟩).symm i (0 : Fin 3)).val < 1 := ((Shape.rowMajor ⟨3, ![1, 1, 128]⟩).symm i (0 : Fin 3)).isLt
    have w1 : ((Shape.rowMajor ⟨3, ![1, 1, 128]⟩).symm i (1 : Fin 3)).val < 1 := ((Shape.rowMajor ⟨3, ![1, 1, 128]⟩).symm i (1 : Fin 3)).isLt
    have w2 : ((Shape.rowMajor ⟨3, ![1, 1, 128]⟩).symm i (2 : Fin 3)).val < 128 := ((Shape.rowMajor ⟨3, ![1, 1, 128]⟩).symm i (2 : Fin 3)).isLt
    by_cases h' : 127 ≤ t.val + ((Shape.rowMajor ⟨3, ![1, 1, 128]⟩).symm i (2 : Fin 3)).val
    · rw [dif_pos h', dif_pos]
      · refine congrArg X (funext fun a => Fin.ext ?_)
        fin_cases a
        · show b.val * 1 + ((Shape.rowMajor ⟨3, ![1, 1, 128]⟩).symm i (0 : Fin 3)).val - 0 = b.val; omega
        · show h.val * 1 + ((Shape.rowMajor ⟨3, ![1, 1, 128]⟩).symm i (1 : Fin 3)).val - 0 = h.val; omega
        · show t.val * 1 + ((Shape.rowMajor ⟨3, ![1, 1, 128]⟩).symm i (2 : Fin 3)).val - 127 = t.val + ((Shape.rowMajor ⟨3, ![1, 1, 128]⟩).symm i (2 : Fin 3)).val - 127; omega
      · intro a
        fin_cases a
        · show 0 ≤ b.val * 1 + ((Shape.rowMajor ⟨3, ![1, 1, 128]⟩).symm i (0 : Fin 3)).val ∧ b.val * 1 + ((Shape.rowMajor ⟨3, ![1, 1, 128]⟩).symm i (0 : Fin 3)).val - 0 < 2; omega
        · show 0 ≤ h.val * 1 + ((Shape.rowMajor ⟨3, ![1, 1, 128]⟩).symm i (1 : Fin 3)).val ∧ h.val * 1 + ((Shape.rowMajor ⟨3, ![1, 1, 128]⟩).symm i (1 : Fin 3)).val - 0 < 4; omega
        · show 127 ≤ t.val * 1 + ((Shape.rowMajor ⟨3, ![1, 1, 128]⟩).symm i (2 : Fin 3)).val ∧ t.val * 1 + ((Shape.rowMajor ⟨3, ![1, 1, 128]⟩).symm i (2 : Fin 3)).val - 127 < 128; omega
    · rw [dif_neg h', dif_neg]
      intro hall
      have := (hall (2 : Fin 3)).1
      have : 127 ≤ t.val * 1 + ((Shape.rowMajor ⟨3, ![1, 1, 128]⟩).symm i (2 : Fin 3)).val := this
      omega
  · rw [sum_idx3]
    simp only [Fin.sum_univ_one]
    exact sum_window (fun s => X (ix3 b h s)) t

/-- The log weights. -/
def hDm (M : IVec S128x128 1) (G B : FVec Ideal S2x4x128 .f32) : FVec Ideal S2x4x128x128 .f32 :=
  select (broadcastInDim S2x4x128x128 ![2, 3] bcast_S128x128_S2x4x128x128_2_3 M) (addf (F := Ideal) (subf (broadcastInDim S2x4x128x128 ![0, 1, 2, 3] bcast_S2x4x128x1_S2x4x128x128_0_1_2_3 (broadcastInDim S2x4x128x1 ![0, 1, 2] bcast_S2x4x128_S2x4x128x1_0_1_2 (B))) (broadcastInDim S2x4x128x128 ![0, 1, 2, 3] bcast_S2x4x1x128_S2x4x128x128_0_1_2_3 (broadcastInDim S2x4x1x128 ![0, 1, 3] bcast_S2x4x128_S2x4x1x128_0_1_3 (B)))) (broadcastInDim S2x4x128x128 ![0, 1, 2, 3] bcast_S2x4x1x128_S2x4x128x128_0_1_2_3 (broadcastInDim S2x4x1x128 ![0, 1, 3] bcast_S2x4x128_S2x4x1x128_0_1_3 (G))))
    (broadcastInDim S2x4x128x128 ![] bcast_S_S2x4x128x128 (id (constant S_ .f32 0xFF800000#32)))

/-- The log weight of the state. -/
def hIn (B : FVec Ideal S2x4x128 .f32) (m : FVec Ideal S2x4 .f32) : FVec Ideal S2x4x128 .f32 := addf (F := Ideal) B (broadcastInDim S2x4x128 ![0, 1, 2] bcast_S2x4x1_S2x4x128_0_1_2 (broadcastInDim S2x4x1 ![0, 1] bcast_S2x4_S2x4x1_0_1 (m)))

/-- The stabilisers. -/
def hMt (M : IVec S128x128 1) (G B : FVec Ideal S2x4x128 .f32) (m : FVec Ideal S2x4 .f32) : FVec Ideal S2x4x128 .f32 :=
  maximumf (F := Ideal) (hIn B m) (Host.reduce FloatOps.maximumf (hDm M G B) (constant S_ .f32 0xFF800000#32) reducesTo_S2x4x128x128_S2x4x128_d3 h_S_)

/-- The weighted scores. -/
def hSc (M : IVec S128x128 1) (Q K : FVec Ideal S2x4x128x128 .f32) (G B : FVec Ideal S2x4x128 .f32) (m : FVec Ideal S2x4 .f32) : FVec Ideal S2x4x128x128 .f32 :=
  mulf (F := Ideal) (Host.dotGeneral dot_S2x4x128x128_S2x4x128x128_S2x4x128x128_3_3_2_2_01_01 none Q K) (Host.exp (subf (hDm M G B) (broadcastInDim S2x4x128x128 ![0, 1, 2, 3] bcast_S2x4x128x1_S2x4x128x128_0_1_2_3 (broadcastInDim S2x4x128x1 ![0, 1, 2] bcast_S2x4x128_S2x4x128x1_0_1_2 (hMt M G B m)))))

/-- The weights of the state. -/
def hEi (M : IVec S128x128 1) (G B : FVec Ideal S2x4x128 .f32) (m : FVec Ideal S2x4 .f32) : FVec Ideal S2x4x128 .f32 := Host.exp (F := Ideal) (subf (hIn B m) (hMt M G B m))

/-- The outputs. -/
def hH (M : IVec S128x128 1) (Q K : FVec Ideal S2x4x128x128 .f32) (V : FVec Ideal S2x4x128x256 .f32) (G B : FVec Ideal S2x4x128 .f32) (C : FVec Ideal S2x4x256x128 .f32) (n : FVec Ideal S2x4x128 .f32) (m : FVec Ideal S2x4 .f32) : FVec Ideal S2x4x128x256 .f32 :=
  Host.divf (F := Ideal) (addf (Host.dotGeneral dot_S2x4x128x128_S2x4x128x256_S2x4x128x256_3_2_2_3_01_01 none (hSc M Q K G B m) V)
      (mulf (broadcastInDim S2x4x128x256 ![0, 1, 2, 3] bcast_S2x4x128x1_S2x4x128x256_0_1_2_3 (broadcastInDim S2x4x128x1 ![0, 1, 2] bcast_S2x4x128_S2x4x128x1_0_1_2 (hEi M G B m)))
        (Host.dotGeneral dot_S2x4x128x128_S2x4x256x128_S2x4x128x256_3_3_2_2_01_01 none Q C)))
    (broadcastInDim S2x4x128x256 ![0, 1, 2, 3] bcast_S2x4x128x1_S2x4x128x256_0_1_2_3 (broadcastInDim S2x4x128x1 ![0, 1, 2] bcast_S2x4x128_S2x4x128x1_0_1_2 (maximumf (Host.absf (addf (Host.reduceAdd (hSc M Q K G B m) (constant S_ .f32 0x00000000#32) reducesTo_S2x4x128x128_S2x4x128_d3 h_S_) (mulf (hEi M G B m) (Host.dotGeneral dot_S2x4x128_S2x4x128x128_S2x4x128_2_3_n_2_01_01 none n Q)))) (Host.exp (Host.negf (hMt M G B m))))))

/-- The whole chunk's summed log forget gate. -/
def hBl (B : FVec Ideal S2x4x128 .f32) : FVec Ideal S2x4 .f32 := shapeCast S2x4 (extractStridedSlice S2x4x1 ![0, 0, 127] B slices_S2x4x128_S2x4x1_0_0_127) shapeCasts_S2x4x1_S2x4

/-- The log weights at the chunk's end. -/
def hGs (G B : FVec Ideal S2x4x128 .f32) : FVec Ideal S2x4x128 .f32 := addf (F := Ideal) (subf (broadcastInDim S2x4x128 ![0, 1, 2] bcast_S2x4x1_S2x4x128_0_1_2 (broadcastInDim S2x4x1 ![0, 1] bcast_S2x4_S2x4x1_0_1 (hBl B))) B) G

/-- The running maximum after the chunk. -/
def hMn (G B : FVec Ideal S2x4x128 .f32) (m : FVec Ideal S2x4 .f32) : FVec Ideal S2x4 .f32 :=
  maximumf (F := Ideal) (addf (hBl B) m) (Host.reduce FloatOps.maximumf (hGs G B) (constant S_ .f32 0xFF800000#32) reducesTo_S2x4x128_S2x4_d2 h_S_)

/-- The weights of the positions in the state after the chunk. -/
def hWs (G B : FVec Ideal S2x4x128 .f32) (m : FVec Ideal S2x4 .f32) : FVec Ideal S2x4x128 .f32 := Host.exp (F := Ideal) (subf (hGs G B) (broadcastInDim S2x4x128 ![0, 1, 2] bcast_S2x4x1_S2x4x128_0_1_2 (broadcastInDim S2x4x1 ![0, 1] bcast_S2x4_S2x4x1_0_1 (hMn G B m))))

/-- The weight of the state before the chunk. -/
def hDec (G B : FVec Ideal S2x4x128 .f32) (m : FVec Ideal S2x4 .f32) : FVec Ideal S2x4 .f32 := Host.exp (F := Ideal) (subf (addf (hBl B) m) (hMn G B m))

/-- The matrix memory after the chunk. -/
def hC (K : FVec Ideal S2x4x128x128 .f32) (V : FVec Ideal S2x4x128x256 .f32) (G B : FVec Ideal S2x4x128 .f32) (C : FVec Ideal S2x4x256x128 .f32) (m : FVec Ideal S2x4 .f32) : FVec Ideal S2x4x256x128 .f32 :=
  addf (F := Ideal) (mulf (broadcastInDim S2x4x256x128 ![0, 1, 2, 3] bcast_S2x4x1x1_S2x4x256x128_0_1_2_3 (broadcastInDim S2x4x1x1 ![0, 1] bcast_S2x4_S2x4x1x1_0_1 (hDec G B m))) C)
    (Host.dotGeneral dot_S2x4x128x256_S2x4x128x128_S2x4x256x128_2_2_3_3_01_01 none (mulf V (broadcastInDim S2x4x128x256 ![0, 1, 2, 3] bcast_S2x4x128x1_S2x4x128x256_0_1_2_3 (broadcastInDim S2x4x128x1 ![0, 1, 2] bcast_S2x4x128_S2x4x128x1_0_1_2 (hWs G B m)))) K)

/-- The normaliser after the chunk. -/
def hN (K : FVec Ideal S2x4x128x128 .f32) (G B : FVec Ideal S2x4x128 .f32) (n : FVec Ideal S2x4x128 .f32) (m : FVec Ideal S2x4 .f32) : FVec Ideal S2x4x128 .f32 :=
  addf (F := Ideal) (mulf (broadcastInDim S2x4x128 ![0, 1, 2] bcast_S2x4x1_S2x4x128_0_1_2 (broadcastInDim S2x4x1 ![0, 1] bcast_S2x4_S2x4x1_0_1 (hDec G B m))) n) (Host.dotGeneral dot_S2x4x128_S2x4x128x128_S2x4x128_2_2_n_3_01_01 none (hWs G B m) K)

/-! ## At an index -/

/-- The arrays hold, for head `h` of batch row `b`, the chunk `x` and the state `st`; the mask is the order `le`. -/
structure Hh (le : Fin 128 → Fin 128 → Bool) (x : Ch) (st : St) (b : Fin 2) (h : Fin 4) (M : IVec S128x128 1) (Q K : FVec Ideal S2x4x128x128 .f32) (V : FVec Ideal S2x4x128x256 .f32) (G B : FVec Ideal S2x4x128 .f32)
    (C : FVec Ideal S2x4x256x128 .f32) (n : FVec Ideal S2x4x128 .f32) (m : FVec Ideal S2x4 .f32) : Prop where
  hM : ∀ t s, M (ix2 t s) = 1 ↔ le t s = true
  hQ : ∀ t d, Q (ix4 b h t d) = x.q t d
  hK : ∀ t d, K (ix4 b h t d) = x.k t d
  hV : ∀ t f, V (ix4 b h t f) = x.v t f
  hG : ∀ t, G (ix3 b h t) = x.ig t
  hB : ∀ t, B (ix3 b h t) = x.b t
  hC : ∀ f d, C (ix4 b h f d) = st.C d f
  hn : ∀ d, n (ix3 b h d) = st.n d
  hm : m (ix2 b h) = st.m

section
variable {le : Fin 128 → Fin 128 → Bool} {x : Ch} {st : St} {b : Fin 2} {h : Fin 4} {M : IVec S128x128 1} {Q K : FVec Ideal S2x4x128x128 .f32} {V : FVec Ideal S2x4x128x256 .f32} {G B : FVec Ideal S2x4x128 .f32}
  {C : FVec Ideal S2x4x256x128 .f32} {n : FVec Ideal S2x4x128 .f32} {m : FVec Ideal S2x4 .f32} (H : Hh le x st b h M Q K V G B C n m)
include H

/-- The arrays' masked decays are the plain ones. -/
theorem hDm_apply (t s : Fin 128) : hDm M G B (ix4 b h t s) = dm le x t s := by
  unfold hDm dm
  pointwise
  rw [H.hB, H.hB, H.hG, show (id (constant (F := Ideal) S_ FTy.f32 4286578688#32) ix0 : EReal) = ⊥ from f_bot]
  simp only [Scalar.select, H.hM]

/-- The arrays' weight of the carried state is the plain one. -/
theorem hIn_apply (t : Fin 128) : hIn B m (ix3 b h t) = x.b t + st.m := by
  unfold hIn
  pointwise
  rw [H.hB, H.hm]

/-- The arrays' stabiliser is the plain one. -/
theorem hMt_apply (t : Fin 128) : hMt M G B m (ix3 b h t) = mt le x st t := by
  unfold hMt mt
  pointwise
  rw [f_bot, fold_max_eq, hIn_apply H]
  simp only [hDm_apply H]

/-- The arrays' scores are the plain ones. -/
theorem hSc_apply (t s : Fin 128) : hSc M Q K G B m (ix4 b h t s) = sc le x st t s := by
  unfold hSc sc
  pointwise
  simp only [hDm_apply H, hMt_apply H, H.hQ, H.hK]

/-- The arrays' factor of the carried state is the plain one. -/
theorem hEi_apply (t : Fin 128) : hEi M G B m (ix3 b h t) = ei le x st t := by
  unfold hEi ei
  pointwise
  rw [hIn_apply H, hMt_apply H]

/-- The arrays' outputs are the plain ones. -/
theorem hH_apply (t : Fin 128) (f : Fin 256) : hH M Q K V G B C n m (ix4 b h t f) = hOut le x st t f := by
  unfold hH hOut num den
  pointwise
  simp only [hSc_apply H, hEi_apply H, hMt_apply H, H.hV, H.hQ, H.hC, H.hn, mul_comm (st.n _)]
  rfl

/-- The last running sum. -/
theorem hBl_apply : hBl B (ix2 b h) = x.b 127 := by
  unfold hBl
  pointwise
  exact H.hB 127

/-- The arrays' logits of the positions' weights are the plain ones. -/
theorem hGs_apply (s : Fin 128) : hGs G B (ix3 b h s) = gs x (x.b 127) s := by
  unfold hGs gs
  pointwise
  rw [hBl_apply H, H.hB, H.hG]

/-- The arrays' next stabiliser is the plain one. -/
theorem hMn_apply : hMn G B m (ix2 b h) = mNew x (x.b 127) st := by
  unfold hMn mNew
  pointwise
  rw [f_bot, fold_max_eq, hBl_apply H, H.hm]
  simp only [hGs_apply H]

/-- The arrays' weights of the positions are the plain ones. -/
theorem hWs_apply (s : Fin 128) : hWs G B m (ix3 b h s) = ws x (x.b 127) st s := by
  unfold hWs ws
  pointwise
  rw [hGs_apply H, hMn_apply H]

/-- The arrays' decay of the carried state is the plain one. -/
theorem hDec_apply : hDec G B m (ix2 b h) = dec x (x.b 127) st := by
  unfold hDec dec
  pointwise
  rw [hBl_apply H, hMn_apply H, H.hm]

/-- The arrays' next matrix memory is the plain one. -/
theorem hC_apply (f : Fin 256) (d : Fin 128) : hC K V G B C m (ix4 b h f d) = (next x (x.b 127) st).C d f := by
  unfold hC next
  pointwise
  simp only [hDec_apply H, hWs_apply H, H.hV, H.hK, H.hC, mul_comm _ (x.k _ _)]

/-- The arrays' next normaliser is the plain one. -/
theorem hN_apply (d : Fin 128) : hN K G B n m (ix3 b h d) = (next x (x.b 127) st).n d := by
  unfold hN next
  pointwise
  simp only [hDec_apply H, hWs_apply H, H.hK, H.hn, mul_comm _ (x.k _ _)]

end

/-! ## A trip and the whole scan -/

/-- The chunk's outputs put into their place. -/
def hO (i : IVec S_ 32) (O : Vec Ideal S128x2x4x128x256 .f32) (Y : FVec Ideal S2x4x128x256 .f32) : Vec Ideal S128x2x4x128x256 .f32 :=
  Host.dynamicUpdateSlice O (broadcastInDim S1x2x4x128x256 ![1, 2, 3, 4] bcast_S2x4x128x256_S1x2x4x128x256_1_2_3_4 Y) (fun k => (((![i, constantI S_ 32 0#32, constantI S_ 32 0#32, constantI S_ 32 0#32, constantI S_ 32 0#32] : Fin 5 → (⟨S_, .i32⟩ : BufTy).Contents (Elt Ideal))) k (Shape.Idx.first h_S_)).toInt) updateFits_S128x2x4x128x256_S1x2x4x128x256

/-- Chunk `n` lies inside the outputs. -/
theorem fits (n : Fin 128) (a : Fin 5) :
    (Fin.cons (α := fun _ => ℕ) n.val (fun _ => 0) : Fin 5 → ℕ) a + (![1, 2, 4, 128, 256] : Fin 5 → ℕ) a ≤ (![128, 2, 4, 128, 256] : Fin 5 → ℕ) a :=
  match a with
  | ⟨0, _⟩ => show n.val + 1 ≤ 128 by omega
  | ⟨1, _⟩ => Nat.le_of_eq (Nat.zero_add _)
  | ⟨2, _⟩ => Nat.le_of_eq (Nat.zero_add _)
  | ⟨3, _⟩ => Nat.le_of_eq (Nat.zero_add _)
  | ⟨4, _⟩ => Nat.le_of_eq (Nat.zero_add _)

/-- An array with chunk `n` overwritten. -/
theorem upd_at (start : Fin 5 → Int) (n : Fin 128) (hs : ∀ a, start a = ((Fin.cons (α := fun _ => ℕ) n.val (fun _ => 0) : Fin 5 → ℕ) a : Int))
    (O : Vec Ideal S128x2x4x128x256 .f32) (Y : Vec Ideal S1x2x4x128x256 .f32) (j : Fin 128) (b : Fin 2) (h : Fin 4) (t : Fin 128) (f : Fin 256) :
    Host.dynamicUpdateSlice O Y start updateFits_S128x2x4x128x256_S1x2x4x128x256 (ix5 j b h t f) = if j = n then Y (ix5 0 b h t f) else O (ix5 j b h t f) := by
  rw [Host.dynamicUpdateSlice_apply]
  have e : ∀ a : Fin 5, Host.clampedStart S128x2x4x128x256 S1x2x4x128x256 rfl start a = (Fin.cons (α := fun _ => ℕ) n.val (fun _ => 0) : Fin 5 → ℕ) a := fun a =>
    Host.clampedStart_of_le (s := S128x2x4x128x256) (t := S1x2x4x128x256) rfl _ a _ (hs a) (fits n a)
  by_cases hj : j = n
  · subst hj
    rw [if_pos rfl, dif_pos]
    · rw [Shape.Idx.norm_def]
      refine congrArg Y (funext fun a => Fin.ext ?_)
      have ea := e a
      match a, ea with
      | ⟨0, _⟩, ea => exact (congrArg (j.val - ·) ea).trans (Nat.sub_self _)
      | ⟨1, _⟩, ea => exact congrArg (b.val - ·) ea
      | ⟨2, _⟩, ea => exact congrArg (h.val - ·) ea
      | ⟨3, _⟩, ea => exact congrArg (t.val - ·) ea
      | ⟨4, _⟩, ea => exact congrArg (f.val - ·) ea
    · intro a
      have ea := e a
      rw [ea]
      match a with
      | ⟨0, _⟩ => exact ⟨le_rfl, Nat.lt_succ_self _⟩
      | ⟨1, _⟩ => exact ⟨Nat.zero_le _, (Nat.zero_add 2).symm ▸ b.isLt⟩
      | ⟨2, _⟩ => exact ⟨Nat.zero_le _, (Nat.zero_add 4).symm ▸ h.isLt⟩
      | ⟨3, _⟩ => exact ⟨Nat.zero_le _, (Nat.zero_add 128).symm ▸ t.isLt⟩
      | ⟨4, _⟩ => exact ⟨Nat.zero_le _, (Nat.zero_add 256).symm ▸ f.isLt⟩
  · rw [if_neg hj, dif_neg]
    intro hall
    have h0 := hall (0 : Fin 5)
    have e0 := e 0
    rw [e0] at h0
    have h1 : n.val ≤ j.val ∧ j.val < n.val + 1 := h0
    exact hj (Fin.ext (by omega))

/-- The outputs with chunk `n` overwritten. -/
theorem hO_apply (n : Fin 128) (O : Vec Ideal S128x2x4x128x256 .f32) (Y : FVec Ideal S2x4x128x256 .f32) (j : Fin 128) (b : Fin 2) (h : Fin 4) (t : Fin 128) (f : Fin 256) :
    hO (fun _ => BitVec.ofNat 32 n.val) O Y (ix5 j b h t f) = if j = n then Y (ix4 b h t f) else O (ix5 j b h t f) := by
  refine (upd_at _ n (start_at n 4 ![constantI S_ 32 0#32, constantI S_ 32 0#32, constantI S_ 32 0#32, constantI S_ 32 0#32] (fun a => by fin_cases a <;> rfl)) O _ j b h t f).trans ?_
  pointwise

/-- What the scan reads: every chunk's queries, keys, values, input gates and log forget gates, and the mask. -/
structure Rd where
  Q : Vec Ideal S128x2x4x128x128 .f32
  K : Vec Ideal S128x2x4x128x128 .f32
  V : Vec Ideal S128x2x4x128x256 .f32
  G : Vec Ideal S128x2x4x128 .f32
  L : Vec Ideal S128x2x4x128 .f32
  M : IVec S128x128 1

/-- What the scan carries: the counter, the state of every head and the outputs so far. -/
structure Car where
  i : IVec S_ 32
  C : FVec Ideal S2x4x256x128 .f32
  n : FVec Ideal S2x4x128 .f32
  m : FVec Ideal S2x4 .f32
  O : Vec Ideal S128x2x4x128x256 .f32

/-- One trip of the scan. -/
def Rd.trip (R : Rd) (s : Car) : Car where
  i := addi s.i (constantI S_ 32 1#32)
  C := hC (hQ s.i R.K) (hV s.i R.V) (hG s.i R.G) (hB (hG s.i R.L)) s.C s.m
  n := hN (hQ s.i R.K) (hG s.i R.G) (hB (hG s.i R.L)) s.n s.m
  m := hMn (hG s.i R.G) (hB (hG s.i R.L)) s.m
  O := hO s.i s.O (hH R.M (hQ s.i R.Q) (hQ s.i R.K) (hV s.i R.V) (hG s.i R.G) (hB (hG s.i R.L)) s.C s.n s.m)

/-- Chunk `n` of head `h` of batch row `b`. -/
def Rd.ch (R : Rd) (b : Fin 2) (h : Fin 4) (n : Fin 128) : Ch where
  q t d := R.Q (ix5 n b h t d)
  k t d := R.K (ix5 n b h t d)
  v t f := R.V (ix5 n b h t f)
  ig t := R.G (ix4 n b h t)
  b t := cum fwd (fun s => R.L (ix4 n b h s)) t

/-- The carried arrays after `k` chunks are the plain recurrence's. -/
structure Rd.Inv (R : Rd) (s : Car) (k : ℕ) : Prop where
  hi : s.i = fun _ => BitVec.ofNat 32 k
  hC : ∀ b h f d, s.C (ix4 b h f d) = (seqSt (R.ch b h) k).C d f
  hn : ∀ b h d, s.n (ix3 b h d) = (seqSt (R.ch b h) k).n d
  hm : ∀ b h, s.m (ix2 b h) = (seqSt (R.ch b h) k).m
  hO : ∀ j b h t f, j.val < k → s.O (ix5 j b h t f) = hOut fwd (R.ch b h j) (seqSt (R.ch b h) j.val) t f

/-- A trip keeps the invariant. -/
theorem Rd.trip_inv (R : Rd) (hM : ∀ t s, R.M (ix2 t s) = 1 ↔ fwd t s = true) (s : Car) (k : Fin 128) (I : R.Inv s k.val) : R.Inv (R.trip s) (k.val + 1) := by
  have H : ∀ b h, Hh fwd (R.ch b h k) (seqSt (R.ch b h) k.val) b h R.M (hQ s.i R.Q) (hQ s.i R.K) (hV s.i R.V) (hG s.i R.G) (hB (hG s.i R.L)) s.C s.n s.m :=
    fun b h => by
      refine ⟨hM, ?_, ?_, ?_, ?_, ?_, I.hC b h, I.hn b h, I.hm b h⟩ <;> rw [I.hi]
      · exact fun t d => hQ_apply ..
      · exact fun t d => hQ_apply ..
      · exact fun t d => hV_apply ..
      · exact fun t => hG_apply ..
      · intro t
        rw [hB_apply]
        exact congrArg (fun g => cum fwd g t) (funext fun s => hG_apply ..)
  refine ⟨?_, ?_, ?_, ?_, ?_⟩
  · show addi s.i (constantI S_ 32 1#32) = _
    rw [I.hi]
    funext i
    exact (by decide +kernel : ∀ k : Fin 128, BitVec.ofNat 32 k.val + 1#32 = BitVec.ofNat 32 (k.val + 1)) k
  · intro b h f d
    rw [seqSt_succ]
    exact hC_apply (H b h) f d
  · intro b h d
    rw [seqSt_succ]
    exact hN_apply (H b h) d
  · intro b h
    rw [seqSt_succ]
    exact hMn_apply (H b h)
  · intro j b h t f hj
    show Ml.hO s.i s.O _ (ix5 j b h t f) = _
    rw [I.hi, hO_apply]
    by_cases e : j = k
    · rw [if_pos e, ← I.hi, hH_apply (H b h), e]
    · rw [if_neg e]
      exact I.hO j b h t f (by omega)

/-- The scan. -/
theorem Rd.loop_inv (R : Rd) (hM : ∀ t s, R.M (ix2 t s) = 1 ↔ fwd t s = true) (s : ℕ → Car) (h0 : R.Inv (s 0) 0)
    (hs : ∀ k, s (k + 1) = R.trip (s k)) : ∀ k, k ≤ 128 → R.Inv (s k) k
  | 0, _ => h0
  | k + 1, hk => by
    rw [hs]
    exact R.trip_inv hM (s k) ⟨k, hk⟩ (R.loop_inv hM s h0 hs k (by omega))

/-! ## The chunks of the arrays -/

/-- Position `t` of chunk `n`. -/
def row (n t : Fin 128) : Fin 16384 := ⟨n.val * 128 + t.val, by omega⟩

/-- Chunk `n` of head `h` of batch row `b`, of the projections `P`, the gates' projections `W` and the gates' biases `I`; a head's
    input gate is in lane `li h` and its forget gate in lane `lf h`. -/
def arrCh (le : Fin 128 → Fin 128 → Bool) (li lf : Fin 4 → Fin 128) (P : Vec Ideal S2x16384x7168 .bf16) (W : Vec Ideal S2x16384x4096 .f32)
    (I : Vec Ideal S1x128 .f32) (b : Fin 2) (h : Fin 4) (n : Fin 128) : Ch where
  q t d := P (ix3 b (row n t) ⟨h.val * 128 + d.val, by omega⟩) * Ideal.ofBits .f32 0x3DB504F3#32
  k t d := P (ix3 b (row n t) ⟨512 + (h.val * 128 + d.val), by omega⟩)
  v t f := P (ix3 b (row n t) ⟨1024 + (h.val * 256 + f.val), by omega⟩)
  ig t := W (ix3 b (row n t) ⟨3584 + (li h).val, by omega⟩) + I (ix2 0 (li h))
  b := cum le fun s => lsg (W (ix3 b (row n s) ⟨3584 + (lf h).val, by omega⟩) + I (ix2 0 (lf h)))

/-- Counted from the end, position `t` of chunk `n` is a position of the chunk counted from the end. -/
theorem row_rev (n t : Fin 128) : (row n t).rev = row n.rev t.rev :=
  Fin.ext (by simp only [row, Fin.val_rev]; omega)

/-! ## The reference's gates and mask -/

/-- The logarithm of the sigmoid, as the reference takes it. -/
def rLs (x : FVec Ideal S2x16384x2x4 .f32) : FVec Ideal S2x16384x2x4 .f32 :=
  Host.negf (select (cmpf .une (subf (Host.negf x) (broadcastInDim S2x16384x2x4 ![] bcast_S_S2x16384x2x4 (constant S_ .f32 0x00000000#32)))
      (subf (Host.negf x) (broadcastInDim S2x16384x2x4 ![] bcast_S_S2x16384x2x4 (constant S_ .f32 0x00000000#32))))
    (addf (Host.negf x) (broadcastInDim S2x16384x2x4 ![] bcast_S_S2x16384x2x4 (constant S_ .f32 0x00000000#32)))
    (addf (maximumf (Host.negf x) (broadcastInDim S2x16384x2x4 ![] bcast_S_S2x16384x2x4 (constant S_ .f32 0x00000000#32)))
      (Host.log1p (Host.exp (Host.negf (Host.absf (subf (Host.negf x) (broadcastInDim S2x16384x2x4 ![] bcast_S_S2x16384x2x4 (constant S_ .f32 0x00000000#32)))))))))

/-- It is the log sigmoid, entry by entry. -/
theorem rLs_apply (x : FVec Ideal S2x16384x2x4 .f32) (b : Fin 2) (r : Fin 16384) (d : Fin 2) (h : Fin 4) : rLs x (ix4 b r d h) = lsg (x (ix4 b r d h)) := by
  unfold rLs
  rw [lsg_eq]
  pointwise
  rw [if_neg (fun h => h rfl)]
  rfl

/-- The forget gates' logits. -/
def rF (W : Vec Ideal S2x16384x4096 .f32) (I : Vec Ideal S1x128 .f32) : FVec Ideal S2x16384x2x4 .f32 :=
  addf (shapeCast S2x16384x2x4 (extractStridedSlice S2x16384x8 ![0, 0, 8] (extractStridedSlice S2x16384x16 ![0, 0, 3584] W slices_S2x16384x4096_S2x16384x16_0_0_3584) slices_S2x16384x16_S2x16384x8_0_0_8) shapeCasts_S2x16384x8_S2x16384x2x4)
    (broadcastInDim S2x16384x2x4 ![0, 1, 2, 3] bcast_S1x1x2x4_S2x16384x2x4_0_1_2_3 (broadcastInDim S1x1x2x4 ![2, 3] bcast_S2x4_S1x1x2x4_2_3
      (shapeCast S2x4 (shapeCast S8 (extractStridedSlice S1x8 ![0, 8] I slices_S1x128_S1x8_0_8) shapeCasts_S1x8_S8) shapeCasts_S8_S2x4)))

/-- The mask. -/
def rM : IVec S128x128 1 :=
  select (cmpi .sge (addi (iotaInDim S128x128 32 0) (broadcastInDim S128x128 ![] bcast_S_S128x128 (constantI S_ 32 0#32))) (iotaInDim S128x128 32 1))
    (broadcastInDim S128x128 ![] bcast_S_S128x128 (constantI S_ 1 1#1)) (broadcastInDim S128x128 ![] bcast_S_S128x128 (constantI S_ 1 0#1))

/-- The mask is the forward order. -/
theorem rM_apply (t s : Fin 128) : rM (ix2 t s) = 1 ↔ fwd t s = true := by
  unfold rM
  pointwise
  exact (by decide +kernel : ∀ t s : Fin 128,
    Scalar.select (IntOp.cmpi CmpIPredicate.sge (IntOp.addi (BitVec.ofNat 32 t.val) 0#32) (BitVec.ofNat 32 s.val)) 1#1 0#1 = 1 ↔ fwd t s = true) t s

end Cert.Proof.Ml

end
-- ==== Proof.FwdRef.lean ====
/- The forward mLSTM scan's reference: what its scan starts from, and that its scan is the plain recurrence. -/
module

public import proofs.«01_k».proof.Proof.Gen.FwdRefIdeal.Run
public import proofs.«01_k».proof.Proof.MlHost

@[expose] public section

set_option maxRecDepth 16384

noncomputable section

namespace Cert.Proof.Fwd

open Idealize.ShloMosaic Idealize.ShloMosaic.TcCoe
open Idealize.SL Idealize.SL.RA Idealize.SL.BI
open scoped Idealize.SL.BI
open Idealize.SL.BI.BIBase Idealize.SL.Sem
open Cert.FwdRefIdeal Cert.FwdRefIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)
open Cert.FwdRefIdeal.Value Cert.Proof.Ml

variable (m : (ℓ : Loc nD τ sig) → Buf (Elt Ideal) ℓ) (c : Dev nD)

set_option maxHeartbeats 2000000

/-- The arguments: the projections, the gates' projections and the gates' biases. -/
abbrev pP : Vec Ideal S2x16384x7168 .bf16 := m ((c.tc : Thread nD τ).loc main_arg0)
/-- The gates' projections. -/
abbrev pW : Vec Ideal S2x16384x4096 .f32 := m ((c.tc : Thread nD τ).loc main_arg1)
/-- The gates' biases. -/
abbrev pI : Vec Ideal S1x128 .f32 := m ((c.tc : Thread nD τ).loc main_arg2)

/-- The log forget gates, chunk by chunk. -/
def rL (W : Vec Ideal S2x16384x4096 .f32) (I : Vec Ideal S1x128 .f32) : Vec Ideal S128x2x4x128 .f32 :=
  transpose S128x2x4x128 [2, 0, 1, 3] (shapeCast S2x4x128x128 (shapeCast S2x4x16384 (extractStridedSlice S1x2x4x16384 ![0, 0, 0, 0]
    (transpose S2x2x4x16384 [2, 0, 3, 1] (rLs (rF W I)) transposes_S2x16384x2x4_S2x2x4x16384_2_0_3_1) slices_S2x2x4x16384_S1x2x4x16384_0_0_0_0)
    shapeCasts_S1x2x4x16384_S2x4x16384) shapeCasts_S2x4x16384_S2x4x128x128) transposes_S2x4x128x128_S128x2x4x128_2_0_1_3

/-- The log forget gates, entry by entry. -/
theorem rL_apply (W : Vec Ideal S2x16384x4096 .f32) (I : Vec Ideal S1x128 .f32) (n : Fin 128) (b : Fin 2) (h : Fin 4) (t : Fin 128) :
    rL W I (ix4 n b h t) = lsg (W (ix3 b (row n t) ⟨3584 + (8 + h.val), by omega⟩) + I (ix2 0 ⟨8 + h.val, by omega⟩)) := by
  unfold rL
  pointwise [rLs_apply, rF]
  rfl

/-- The scan reads the log forget gates. -/
theorem ent4 : (entryContents preI m c (Proc.devRef .tc main_v53_4) : Vec Ideal S128x2x4x128 .f32) = rL (pW m c) (pI m c) := by
  simp only [entryContents, afterL_cons, afterL_nil]
  after_reads_simp
  rfl

/-- The scan reads the mask. -/
theorem ent5 : (entryContents preI m c (Proc.devRef .tc main_v53_5) : IVec S128x128 1) = rM := by
  simp only [entryContents, afterL_cons, afterL_nil]
  after_reads_simp
  rfl

/-- The scan reads the scaled queries. -/
theorem ent0 (n : Fin 128) (b : Fin 2) (h : Fin 4) (t d : Fin 128) :
    (entryContents preI m c (Proc.devRef .tc main_v53_0) : Vec Ideal S128x2x4x128x128 .f32) (ix5 n b h t d) = pP m c (ix3 b (row n t) ⟨h.val * 128 + d.val, by omega⟩) * Ideal.ofBits .f32 0x3DB504F3#32 := by
  simp only [entryContents, afterL_cons, afterL_nil]
  after_reads_simp
  simp only [id]
  pointwise
  rfl
/-- The scan reads the keys. -/
theorem ent1 (n : Fin 128) (b : Fin 2) (h : Fin 4) (t d : Fin 128) :
    (entryContents preI m c (Proc.devRef .tc main_v53_1) : Vec Ideal S128x2x4x128x128 .f32) (ix5 n b h t d) = pP m c (ix3 b (row n t) ⟨512 + (h.val * 128 + d.val), by omega⟩) := by
  simp only [entryContents, afterL_cons, afterL_nil]
  after_reads_simp
  simp only [id]
  pointwise
  rfl
/-- The scan reads the values. -/
theorem ent2 (n : Fin 128) (b : Fin 2) (h : Fin 4) (t : Fin 128) (d : Fin 256) :
    (entryContents preI m c (Proc.devRef .tc main_v53_2) : Vec Ideal S128x2x4x128x256 .f32) (ix5 n b h t d) = pP m c (ix3 b (row n t) ⟨1024 + (h.val * 256 + d.val), by omega⟩) := by
  simp only [entryContents, afterL_cons, afterL_nil]
  after_reads_simp
  simp only [id]
  pointwise
  rfl
/-- The scan reads the input gates' logits. -/
theorem ent3 (n : Fin 128) (b : Fin 2) (h : Fin 4) (t : Fin 128) :
    (entryContents preI m c (Proc.devRef .tc main_v53_3) : Vec Ideal S128x2x4x128 .f32) (ix4 n b h t) = pW m c (ix3 b (row n t) ⟨3584 + h.val, by omega⟩) + pI m c (ix2 0 ⟨h.val, by omega⟩) := by
  simp only [entryContents, afterL_cons, afterL_nil]
  after_reads_simp
  simp only [id]
  pointwise
  rfl
/-- The scan starts from a matrix memory of zeros. -/
theorem ent7 (b : Fin 2) (h : Fin 4) (f : Fin 256) (d : Fin 128) :
    (entryContents preI m c (Proc.devRef .tc main_v53_7) : Vec Ideal S2x4x256x128 .f32) (ix4 b h f d) = (0 : EReal) := by
  simp only [entryContents, afterL_cons, afterL_nil]
  after_reads_simp
  simp only [id]
  pointwise

/-- The scan starts from a normaliser of zeros. -/
theorem ent8 (b : Fin 2) (h : Fin 4) (d : Fin 128) :
    (entryContents preI m c (Proc.devRef .tc main_v53_8) : Vec Ideal S2x4x128 .f32) (ix3 b h d) = (0 : EReal) := by
  simp only [entryContents, afterL_cons, afterL_nil]
  after_reads_simp
  simp only [id]
  pointwise

/-- The scan starts from a stabiliser of zero. -/
theorem ent9 (b : Fin 2) (h : Fin 4) :
    (entryContents preI m c (Proc.devRef .tc main_v53_9) : Vec Ideal S2x4 .f32) (ix2 b h) = (0 : EReal) := by
  simp only [entryContents, afterL_cons, afterL_nil]
  after_reads_simp
  simp only [id]
  pointwise

/-- What the carried buffers hold after `k` trips. -/
@[irreducible] def W (k : ℕ) : Valuation τ sig (Elt Ideal) := STEP^[k] (entryContents preI m c)

/-- The contents after `k` trips are the trip taken `k` times. -/
theorem W_eq (k : ℕ) : W m c k = STEP^[k] (entryContents preI m c) := by unfold W; rfl

/-- The contents before the first trip. -/
theorem W_zero : W m c 0 = entryContents preI m c := W_eq m c 0

/-- The contents after one more trip. -/
theorem W_succ (k : ℕ) : W m c (k + 1) = STEP (W m c k) := by rw [W_eq, W_eq]; exact Function.iterate_succ_apply' STEP k _

/-- What the scan reads, of the carried buffers. -/
def rd (V : Valuation τ sig (Elt Ideal)) : Rd :=
  ⟨V (Proc.devRef .tc main_v53_0), V (Proc.devRef .tc main_v53_1), V (Proc.devRef .tc main_v53_2), V (Proc.devRef .tc main_v53_3),
    V (Proc.devRef .tc main_v53_4), V (Proc.devRef .tc main_v53_5)⟩

/-- What the scan carries, of the carried buffers. -/
def car (V : Valuation τ sig (Elt Ideal)) : Car :=
  ⟨V (Proc.devRef .tc main_v53_6), V (Proc.devRef .tc main_v53_7), V (Proc.devRef .tc main_v53_8), V (Proc.devRef .tc main_v53_9), V (Proc.devRef .tc main_v53_10)⟩

/-- A trip leaves what the scan reads as it was. -/
theorem rd_step (V : Valuation τ sig (Elt Ideal)) : rd (STEP V) = rd V := by
  unfold rd
  rw [STEP_main_v53_0, STEP_main_v53_1, STEP_main_v53_2, STEP_main_v53_3, STEP_main_v53_4, STEP_main_v53_5]

/-- What the scan reads is the same at every trip. -/
theorem rd_W (k : ℕ) : rd (W m c k) = rd (W m c 0) := by
  induction k with
  | zero => rfl
  | succ k ih => rw [W_succ, rd_step, ih]

/-- The loop's body is the trip. -/
theorem car_step (V : Valuation τ sig (Elt Ideal)) : car (STEP V) = (rd V).trip (car V) := by
  unfold car
  rw [STEP_main_v53_6, STEP_main_v53_7, STEP_main_v53_8, STEP_main_v53_9, STEP_main_v53_10]
  rfl

/-- The chunks of the forward scan. -/
abbrev ch (P : Vec Ideal S2x16384x7168 .bf16) (G : Vec Ideal S2x16384x4096 .f32) (I : Vec Ideal S1x128 .f32) (b : Fin 2) (h : Fin 4) (n : Fin 128) : Ch :=
  arrCh fwd (fun h => ⟨h.val, by omega⟩) (fun h => ⟨8 + h.val, by omega⟩) P G I b h n

/-- The chunks that the scan reads are those of the arguments. -/
theorem rd_ch (b : Fin 2) (h : Fin 4) (n : Fin 128) : (rd (W m c 0)).ch b h n = ch (pP m c) (pW m c) (pI m c) b h n := by
  rw [W_zero]
  unfold Rd.ch ch arrCh
  congr 1
  · funext t d; exact ent0 m c n b h t d
  · funext t d; exact ent1 m c n b h t d
  · funext t d; exact ent2 m c n b h t d
  · funext t; exact ent3 m c n b h t
  · refine congrArg (cum fwd) (funext fun s => ?_)
    exact (congrFun (ent4 m c) _).trans (rL_apply ..)

/-- The scan is the plain recurrence. -/
theorem inv (k : ℕ) (hk : k ≤ 128) : (rd (W m c 0)).Inv (car (W m c k)) k := by
  refine (rd (W m c 0)).loop_inv (fun t s => ?_) (fun k => car (W m c k)) ?_ (fun k => ?_) k hk
  · rw [W_zero]
    exact (iff_of_eq (congrArg (fun z : BitVec 1 => z = 1) (congrFun (ent5 m c) (ix2 t s)))).trans (rM_apply t s)
  · show (rd (W m c 0)).Inv (car (W m c 0)) 0
    rw [W_zero]
    refine ⟨ctr_entry m c, fun b h f d => ent7 m c b h f d, fun b h d => ent8 m c b h d, fun b h => ent9 m c b h, fun j _ _ _ _ hj => absurd hj (by omega)⟩
  · show car (W m c (k + 1)) = _
    rw [W_succ, car_step, rd_W]

/-- The reference's result is the outputs put in order. -/
theorem out_apply (V : Valuation τ sig (Elt Ideal)) (b : Fin 2) (r : Fin 16384) (l : Fin 1024) :
    (out_main_v57 V : Vec Ideal S2x16384x1024 .f32) (ix3 b r l)
      = (car V).O (ix5 ⟨r.val / 128, by omega⟩ b ⟨l.val / 256, by omega⟩ ⟨r.val % 128, by omega⟩ ⟨l.val % 256, by omega⟩) := by
  unfold out_main_v57
  pointwise
  rfl

/-- The reference's result at an index. -/
theorem ref_apply (b : Fin 2) (r : Fin 16384) (l : Fin 1024) :
    (out_main_v57 (W m c 128) : Vec Ideal S2x16384x1024 .f32) (ix3 b r l) = scanAt fwd (ch (pP m c) (pW m c) (pI m c)) b r l := by
  have e : (fun b h n => (rd (W m c 0)).ch b h n) = ch (pP m c) (pW m c) (pI m c) := funext fun b => funext fun h => funext fun n => rd_ch m c b h n
  rw [out_apply, (inv m c 128 le_rfl).hO _ _ _ _ _ (show r.val / 128 < 128 by omega), ← e]
  rfl

end Cert.Proof.Fwd

end
-- ==== Proof.MlStep.lean ====
/- One grid point of the mLSTM kernel for one head: its block of outputs and the state it leaves are the plain functions of
   `MlSpec` of the point's chunk and the state before it. -/
module

public import proofs.«01_k».proof.Proof.MlRows

@[expose] public section

set_option maxRecDepth 16384

noncomputable section

namespace Cert.Proof.Ml

open Idealize.ShloMosaic

/-- The chunk's summed log forget gates are nowhere below the one over all its positions. -/
theorem inf_b (le : Fin 128 → Fin 128 → Bool) (li lf : Fin 128) (B : Blk) (h : Fin 4) (l : Fin 128) (hl : ∀ s, le l s) :
    ⨅ t, (B.ch le li lf h).b t = (B.ch le li lf h).b l :=
  iInf_cum le (fun s => lsg (B.g (ix3 0 s lf) + B.b (ix2 0 lf))) (fun _ => lsg_le _) l hl

/-- What a point computes for one head. -/
theorem point {le : Fin 128 → Fin 128 → Bool} {M : IVec ⟨2, ![128, 128]⟩ 1} (hM : ∀ t s, M (ix2 t s) = 1 ↔ le t s = true) (li lf : Fin 128) (B : Blk) (X : Scr)
    (st : Fin 4 → St) (hX : X.Is st) (h : Fin 4) (l : Fin 128) (hl : ∀ s, le l s) :
    (∀ p f, kH M (BitVec.ofNat 32 li.val) (BitVec.ofNat 32 lf.val) B X h (ix3 0 p f) = hOut le (B.ch le li lf h) (st h) p f)
    ∧ (∀ d f, kC M (BitVec.ofNat 32 li.val) (BitVec.ofNat 32 lf.val) B X h (ix3 0 d f) = (next (B.ch le li lf h) ((B.ch le li lf h).b l) (st h)).C d f)
    ∧ (∀ d, kN M (BitVec.ofNat 32 li.val) (BitVec.ofNat 32 lf.val) B X h (ix2 0 d) = (next (B.ch le li lf h) ((B.ch le li lf h).b l) (st h)).n d)
    ∧ ∀ d, kM M (BitVec.ofNat 32 li.val) (BitVec.ofNat 32 lf.val) B X h (ix2 0 d) = (next (B.ch le li lf h) ((B.ch le li lf h).b l) (st h)).m :=
  have H := hd_of hM li lf B X st hX h
  have hb := inf_b le li lf B h l hl
  ⟨fun p f => vH_apply H p f, fun d f => vC_apply H hb d f, fun d => vN_apply H hb d, fun d => vM_apply H hb d⟩

end Cert.Proof.Ml

end
-- ==== Proof.FwdScan.lean ====
/- The forward mLSTM scan: what the kernel's points leave is the plain recurrence of the arrays' chunks, so the kernel's result
   is the reference's. -/
module

public import proofs.«01_k».proof.Proof.FwdPoint
public import proofs.«01_k».proof.Proof.FwdRef
public import proofs.«01_k».proof.Proof.MlStep
public import proofs.«01_k».proof.Defs

@[expose] public section

set_option maxRecDepth 16384

noncomputable section

namespace Cert.Proof.Fwd

open Cert.FwdIdeal Cert.FwdIdeal.Gen Cert.FwdIdeal.Value Idealize.ShloMosaic Idealize.ShloMosaic.TcCoe Idealize.SL.Sem Cert.Proof.Ml
open Idealize.ShloMosaic.Pipeline (Dat)

variable (m : (ℓ : Loc nD τ sig) → Buf (Elt Ideal) ℓ) (ρ : Dev nD → PrngReg) (c : Dev nD) (t : Fin cfg0.N)

/-- The kernel's mask is the order of the direction. -/
theorem mask_apply (t s : Fin 128) : k0_pay6 (ix2 t s) = 1 ↔ fwd t s = true := by
  unfold k0_pay6
  pointwise
  exact (by decide +kernel : ∀ t s : Fin 128, IntOp.cmpi CmpIPredicate.sle (BitVec.ofNat 32 s.val) (BitVec.ofNat 32 t.val) = 1 ↔ fwd t s = true) t s

/-- A batch row starts from the zero state. -/
theorem scr0_is : scr0.Is fun _ => St.zero := by
  refine fun h => ⟨fun d f => ?_, fun d => ?_, fun l => ?_⟩
  · show k0_pay3 (F := Ideal) (ix3 h d f) = 0
    unfold k0_pay3
    pointwise
  · show k0_pay4 (F := Ideal) (ix2 (h.castLE (by decide)) d) = 0
    unfold k0_pay4
    pointwise
  · show k0_pay5 (F := Ideal) (ix2 (h.castLE (by decide)) l) = 0
    unfold k0_pay5
    pointwise

/-- The windows' blocks at a point. -/
theorem idx (t : Fin cfg0.N) :
    (win0_0.index t (0 : Fin 3) = t.val / 128 ∧ win0_0.index t (1 : Fin 3) = t.val % 128 ∧ win0_0.index t (2 : Fin 3) = 0)
    ∧ (win0_1.index t (0 : Fin 3) = t.val / 128 ∧ win0_1.index t (1 : Fin 3) = t.val % 128 ∧ win0_1.index t (2 : Fin 3) = 1)
    ∧ (win0_2.index t (0 : Fin 3) = t.val / 128 ∧ win0_2.index t (1 : Fin 3) = t.val % 128 ∧ win0_2.index t (2 : Fin 3) = 1)
    ∧ (win0_3.index t (0 : Fin 3) = t.val / 128 ∧ win0_3.index t (1 : Fin 3) = t.val % 128 ∧ win0_3.index t (2 : Fin 3) = 28)
    ∧ (win0_4.index t (0 : Fin 2) = 0 ∧ win0_4.index t (1 : Fin 2) = 0)
    ∧ (win0_5.index t (0 : Fin 3) = t.val / 128 ∧ win0_5.index t (1 : Fin 3) = t.val % 128 ∧ win0_5.index t (2 : Fin 3) = 0) :=
  (by decide +kernel : ∀ t : Fin grid0.N,
    (win0_0.index t (0 : Fin 3) = t.val / 128 ∧ win0_0.index t (1 : Fin 3) = t.val % 128 ∧ win0_0.index t (2 : Fin 3) = 0)
    ∧ (win0_1.index t (0 : Fin 3) = t.val / 128 ∧ win0_1.index t (1 : Fin 3) = t.val % 128 ∧ win0_1.index t (2 : Fin 3) = 1)
    ∧ (win0_2.index t (0 : Fin 3) = t.val / 128 ∧ win0_2.index t (1 : Fin 3) = t.val % 128 ∧ win0_2.index t (2 : Fin 3) = 1)
    ∧ (win0_3.index t (0 : Fin 3) = t.val / 128 ∧ win0_3.index t (1 : Fin 3) = t.val % 128 ∧ win0_3.index t (2 : Fin 3) = 28)
    ∧ (win0_4.index t (0 : Fin 2) = 0 ∧ win0_4.index t (1 : Fin 2) = 0)
    ∧ (win0_5.index t (0 : Fin 3) = t.val / 128 ∧ win0_5.index t (1 : Fin 3) = t.val % 128 ∧ win0_5.index t (2 : Fin 3) = 0)) t

/-- The chunks the kernel reads. -/
abbrev kch (b : Fin 2) (h : Fin 4) (n : Fin 128) : Ch := ch (V m c main_arg0) (V m c main_arg1) (V m c main_arg2) b h n

/-- The batch row of a point. -/
def pb (n : ℕ) (hn : n < cfg0.N) : Fin 2 := ⟨n / 128, by have : n < 256 := hn; omega⟩

/-- The chunk of a point. -/
def pn (n : ℕ) : Fin 128 := ⟨n % 128, by omega⟩

/-- The point's blocks hold its chunk. -/
theorem blk_ch (h : Fin 4) : (blk m c t).ch fwd (li h) (lf h) h = kch m c (pb t.val t.isLt) h (pn t.val) := by
  obtain ⟨⟨a0, a1, a2⟩, ⟨b0, b1, b2⟩, ⟨c0, c1, c2⟩, ⟨d0, d1, d2⟩, ⟨e0, e1⟩, -⟩ := idx t
  have hg : ∀ (s l : Fin 128), iblk m c 3 t (ix3 0 s l) = V m c main_arg1 (ix3 (pb t.val t.isLt) (row (pn t.val) s) ⟨3584 + l.val, by omega⟩) := fun s l => by
    show V m c main_arg1 (((cfg0.win 3).blk t).view.emb (ix3 0 s l)) = _
    refine congrArg _ (funext fun a => Fin.ext ?_)
    match a with
    | ⟨0, _⟩ => show win0_3.index t (0 : Fin 3) * 1 + 1 * 0 = t.val / 128; omega
    | ⟨1, _⟩ => show win0_3.index t (1 : Fin 3) * 128 + 1 * s.val = t.val % 128 * 128 + s.val; omega
    | ⟨2, _⟩ => show win0_3.index t (2 : Fin 3) * 128 + 1 * l.val = 3584 + l.val; omega
  have hi : ∀ l : Fin 128, iblk m c 4 t (ix2 0 l) = V m c main_arg2 (ix2 0 l) := fun l => by
    show V m c main_arg2 (((cfg0.win 4).blk t).view.emb (ix2 0 l)) = _
    refine congrArg _ (funext fun a => Fin.ext ?_)
    match a with
    | ⟨0, _⟩ => show win0_4.index t (0 : Fin 2) * 1 + 1 * 0 = 0; omega
    | ⟨1, _⟩ => show win0_4.index t (1 : Fin 2) * 128 + 1 * l.val = l.val; omega
  unfold Blk.ch kch ch arrCh
  congr 1
  · funext p d
    refine congrArg (· * Ideal.ofBits .f32 0x3DB504F3#32) ?_
    show V m c main_arg0 (((cfg0.win 0).blk t).view.emb (ix3 0 p (lk h d))) = _
    refine congrArg _ (funext fun a => Fin.ext ?_)
    match a with
    | ⟨0, _⟩ => show win0_0.index t (0 : Fin 3) * 1 + 1 * 0 = t.val / 128; omega
    | ⟨1, _⟩ => show win0_0.index t (1 : Fin 3) * 128 + 1 * p.val = t.val % 128 * 128 + p.val; omega
    | ⟨2, _⟩ => show win0_0.index t (2 : Fin 3) * 512 + 1 * (lk h d).val = h.val * 128 + d.val; have : (lk h d).val = 128 * h.val + d.val := rfl; omega
  · funext p d
    show V m c main_arg0 (((cfg0.win 1).blk t).view.emb (ix3 0 p (lk h d))) = _
    refine congrArg _ (funext fun a => Fin.ext ?_)
    match a with
    | ⟨0, _⟩ => show win0_1.index t (0 : Fin 3) * 1 + 1 * 0 = t.val / 128; omega
    | ⟨1, _⟩ => show win0_1.index t (1 : Fin 3) * 128 + 1 * p.val = t.val % 128 * 128 + p.val; omega
    | ⟨2, _⟩ => show win0_1.index t (2 : Fin 3) * 512 + 1 * (lk h d).val = 512 + (h.val * 128 + d.val); have : (lk h d).val = 128 * h.val + d.val := rfl; omega
  · funext p f
    show V m c main_arg0 (((cfg0.win 2).blk t).view.emb (ix3 0 p (ln h f))) = _
    refine congrArg _ (funext fun a => Fin.ext ?_)
    match a with
    | ⟨0, _⟩ => show win0_2.index t (0 : Fin 3) * 1 + 1 * 0 = t.val / 128; omega
    | ⟨1, _⟩ => show win0_2.index t (1 : Fin 3) * 128 + 1 * p.val = t.val % 128 * 128 + p.val; omega
    | ⟨2, _⟩ => show win0_2.index t (2 : Fin 3) * 1024 + 1 * (ln h f).val = 1024 + (h.val * 256 + f.val); have : (ln h f).val = 256 * h.val + f.val := rfl; omega
  · funext p
    exact congrArg₂ (· + ·) (hg p (li h)) (hi (li h))
  · refine congrArg (cum fwd) (funext fun s => congrArg lsg ?_)
    exact congrArg₂ (· + ·) (hg s (lf h)) (hi (lf h))

/-- What a point leaves, when its scratch holds the states its chunk starts from. -/
theorem leaves_is (X : Scr) (hL : Leaves m c t X) (hX : X.Is fun h => seqSt (kch m c (pb t.val t.isLt) h) (t.val % 128)) :
    (∀ h p f, (outsAt0 m c t.val t.isLt).1 (ix3 0 p (ln h f)) = hOut fwd (kch m c (pb t.val t.isLt) h (pn t.val)) (seqSt (kch m c (pb t.val t.isLt) h) (t.val % 128)) p f)
    ∧ (scr m c t.val t.isLt).Is fun h => seqSt (kch m c (pb t.val t.isLt) h) (t.val % 128 + 1) := by
  have hn : ∀ h, seqSt (kch m c (pb t.val t.isLt) h) (t.val % 128 + 1) = _ := fun h => seqSt_succ (kch m c (pb t.val t.isLt) h) (pn t.val)
  have P := fun h => point mask_apply (li h) (lf h) (blk m c t) X _ hX h 127 (fun s => by simp [fwd]; omega)
  simp only [blk_ch] at P
  refine ⟨fun h p f => ((hL h).1 p f).trans ((P h).1 p f), fun h => ?_⟩
  dsimp only
  rw [hn]
  exact ⟨fun d f => ((hL h).2.1 d f).trans ((P h).2.1 d f), fun d => ((hL h).2.2.1 d).trans ((P h).2.2.1 d), fun d => ((hL h).2.2.2 d).trans ((P h).2.2.2 d)⟩

/-- Every point leaves the plain recurrence's outputs and states. -/
theorem leaves_all : ∀ (n : ℕ) (hn : n < cfg0.N),
    (∀ h p f, (outsAt0 m c n hn).1 (ix3 0 p (ln h f)) = hOut fwd (kch m c (pb n hn) h (pn n)) (seqSt (kch m c (pb n hn) h) (n % 128)) p f)
    ∧ (scr m c n hn).Is fun h => seqSt (kch m c (pb n hn) h) (n % 128 + 1)
  | 0, hn => leaves_is m c ⟨0, hn⟩ scr0 (leaves_A m c ⟨0, hn⟩ rfl) scr0_is
  | n + 1, hn => by
    by_cases h0 : (n + 1) % 128 = 0
    · refine leaves_is m c ⟨n + 1, hn⟩ scr0 (leaves_A m c ⟨n + 1, hn⟩ h0) ?_
      show scr0.Is fun h => seqSt _ ((n + 1) % 128)
      rw [h0]
      exact scr0_is
    · refine leaves_is m c ⟨n + 1, hn⟩ _ (leaves_B m c ⟨n + 1, hn⟩ h0) ?_
      have ih := (leaves_all n (by omega)).2
      have hb : pb n (by omega) = pb (n + 1) hn := Fin.ext (show n / 128 = (n + 1) / 128 by omega)
      have hk : n % 128 + 1 = (n + 1) % 128 := by omega
      rw [hb, hk] at ih
      exact ih

/-- The kernel's result, of its arguments. -/
def G (P : Vec Ideal S2x16384x7168 .bf16) (W : Vec Ideal S2x16384x4096 .f32) (I : Vec Ideal S1x128 .f32) : Vec Ideal S2x16384x1024 .f32 :=
  fun i => scanAt fwd (ch P W I) (i 0) (i 1) (i 2)

/-- What a point writes back is its part of the result. -/
theorem flushed_eq : (dats m 0 c).flushed 5 t = ((cfg0.win 5).blk t).view.read (Elt Ideal) (G (V m c main_arg0) (V m c main_arg1) (V m c main_arg2)) := by
  obtain ⟨-, -, -, -, -, ⟨f0, f1, f2⟩⟩ := idx t
  rw [flushed5]
  funext j
  idx_vars j
  show (outsAt0 m c t.val t.isLt).1 (ix3 j0 j1 j2) = G (V m c main_arg0) (V m c main_arg1) (V m c main_arg2) (((cfg0.win 5).blk t).view.emb (ix3 j0 j1 j2))
  have e : ((cfg0.win 5).blk t).view.emb (ix3 j0 j1 j2) = (ix3 (pb t.val t.isLt) (row (pn t.val) j1) j2 : S2x16384x1024.Idx) := by
    refine funext fun a => Fin.ext ?_
    have h0 : j0.val < 1 := j0.isLt
    match a with
    | ⟨0, _⟩ => show win0_5.index t (0 : Fin 3) * 1 + 1 * j0.val = t.val / 128; omega
    | ⟨1, _⟩ => show win0_5.index t (1 : Fin 3) * 128 + 1 * j1.val = t.val % 128 * 128 + j1.val; omega
    | ⟨2, _⟩ => show win0_5.index t (2 : Fin 3) * 1024 + 1 * j2.val = j2.val; omega
  have hj0 : j0 = 0 := Fin.ext (show j0.val = 0 by have : j0.val < 1 := j0.isLt; omega)
  have hl : j2 = ln ⟨j2.val / 256, by omega⟩ ⟨j2.val % 256, by omega⟩ := Fin.ext (show j2.val = 256 * (j2.val / 256) + j2.val % 256 by omega)
  rw [e, hj0]
  conv_lhs => rw [hl]
  rw [(leaves_all m c t.val t.isLt).1]
  show _ = scanAt fwd _ (pb t.val t.isLt) (row (pn t.val) j1) j2
  unfold scanAt
  have hr : (row (pn t.val) j1).val / 128 = t.val % 128 := by show (t.val % 128 * 128 + j1.val) / 128 = t.val % 128; omega
  have hp : (⟨(row (pn t.val) j1).val % 128, by omega⟩ : Fin 128) = j1 := Fin.ext (show (t.val % 128 * 128 + j1.val) % 128 = j1.val by omega)
  have hr' : (⟨(row (pn t.val) j1).val / 128, by omega⟩ : Fin 128) = pn t.val := Fin.ext hr
  rw [hp, hr', hr]

/-- Every index of the result is in the block of the point that its coordinates name. -/
theorem covered (i : S2x16384x1024.Idx) : ∃ t : Fin cfg0.N, (cfg0.win 5).flush t = true ∧ i ∈ ((cfg0.win 5).blk t).view.set := by
  have h0 : (i 0).val < 2 := (i 0).isLt
  have h1 : (i 1).val < 16384 := (i 1).isLt
  have h2 : (i 2).val < 1024 := (i 2).isLt
  let t : Fin cfg0.N := ⟨(i 0).val * 128 + (i 1).val / 128, show _ < 256 by omega⟩
  refine ⟨t, flush0_5 t, ?_⟩
  obtain ⟨-, -, -, -, -, ⟨f0, f1, f2⟩⟩ := idx t
  have ht : t.val = (i 0).val * 128 + (i 1).val / 128 := rfl
  have e : i = ((cfg0.win 5).blk t).view.emb (ix3 (0 : Fin 1) (⟨(i 1).val % 128, by omega⟩ : Fin 128) (⟨(i 2).val, h2⟩ : Fin 1024)) := by
    funext a; apply Fin.ext
    match a with
    | ⟨0, _⟩ => show (i 0).val = win0_5.index t (0 : Fin 3) * 1 + 1 * 0; omega
    | ⟨1, _⟩ => show (i 1).val = win0_5.index t (1 : Fin 3) * 128 + 1 * ((i 1).val % 128); omega
    | ⟨2, _⟩ => show (i 2).val = win0_5.index t (2 : Fin 3) * 1024 + 1 * (i 2).val; omega
  rw [e]; exact View.emb_mem_set _ _

/-- The kernel's run: its result is `G` of the arguments, which it leaves as they were. -/
theorem runP : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans
      (((dats m 0 c).arrAt_eq_of_cover 5 (G (V m c main_arg0) (V m c main_arg1) (V m c main_arg2)) (fun t _ => flushed_eq m c t) covered).trans
        (by rw [V_main_arg0, V_main_arg1, V_main_arg2])), (h c).2⟩) (run_blocks m ρ)

/-- The kernel's result is the reference's. -/
theorem algebraic : Cert.algebraic_FwdIdeal_FwdRefIdeal := by
  intro m ρ m' ρ' _ hagree
  refine ⟨_, runP m ρ, ?_⟩
  refine (θ_run Cert.FwdRefIdeal.defs _ _).mono (fun _ h c => ⟨?_, (h c).2⟩) (Cert.FwdRefIdeal.Value.run (F := Ideal) m' ρ')
  rw [(h c).1, ← W_eq]
  funext i
  idx_vars i
  refine (ref_apply m' c i0 i1 i2).trans ?_
  show scanAt fwd (ch (pP m' c) (pW m' c) (pI m' c)) i0 i1 i2 = scanAt fwd (ch _ _ _) i0 i1 i2
  rw [show pP m' c = _ from (hagree c).1, show pW m' c = _ from (hagree c).2.1, show pI m' c = _ from (hagree c).2.2]

end Cert.Proof.Fwd

end
-- ==== Proof.BwdPoint.lean ====
/- The backward mLSTM scan's kernel, one grid point: what it leaves in its output block and in its scratch is, head by head,
   the generic head of `MlRows` of the point's blocks and the scratch before it. -/
module

public import proofs.«01_k».proof.Proof.Gen.BwdIdeal.Value
public import proofs.«01_k».proof.Proof.MlRows
public import Idealize.ShloMosaic.Lib.Pipeline.ReadBack

@[expose] public section

set_option maxRecDepth 16384

noncomputable section

namespace Cert.Proof.Bwd

open Cert.BwdIdeal Cert.BwdIdeal.Gen Cert.BwdIdeal.Value Idealize.ShloMosaic Idealize.ShloMosaic.TcCoe Idealize.SL.Sem Cert.Proof.Ml

variable (m : (ℓ : Loc nD τ sig) → Buf (Elt Ideal) ℓ) (c : Dev nD) (t : Fin cfg0.N)

/-- The input gate's lane of a head. -/
def li (h : Fin 4) : Fin 128 := ⟨4 + h.val, by omega⟩

/-- The forget gate's lane of a head. -/
def lf (h : Fin 4) : Fin 128 := ⟨8 + (4 + h.val), by omega⟩

/-- The blocks point `t` reads. -/
def blk : Blk := ⟨iblk m c 0 t, iblk m c 1 t, iblk m c 2 t, iblk m c 3 t, iblk m c 4 t⟩

/-- The scratch after point `t`. -/
def scr (n : ℕ) (hn : n < cfg0.N) : Scr := ⟨(outsAt0 m c n hn).2.1, (outsAt0 m c n hn).2.2.1, (outsAt0 m c n hn).2.2.2⟩

/-- The scratch a batch row starts from. -/
def scr0 : Scr := ⟨k0_pay3 (F := Ideal), k0_pay4 (F := Ideal), k0_pay5 (F := Ideal)⟩

/-- What a point leaves, `X` the scratch it starts from. -/
def Leaves (X : Scr) : Prop := ∀ h : Fin 4,
  (∀ p f, (outsAt0 m c t.val t.isLt).1 (ix3 0 p (ln h f)) = kH k0_pay6 (BitVec.ofNat 32 (li h).val) (BitVec.ofNat 32 (lf h).val) (blk m c t) X h (ix3 0 p f))
  ∧ (∀ d f, (outsAt0 m c t.val t.isLt).2.1 (ix3 h d f) = kC k0_pay6 (BitVec.ofNat 32 (li h).val) (BitVec.ofNat 32 (lf h).val) (blk m c t) X h (ix3 0 d f))
  ∧ (∀ d, (outsAt0 m c t.val t.isLt).2.2.1 (ix2 (h.castLE (by decide)) d) = kN k0_pay6 (BitVec.ofNat 32 (li h).val) (BitVec.ofNat 32 (lf h).val) (blk m c t) X h (ix2 0 d))
  ∧ ∀ d, (outsAt0 m c t.val t.isLt).2.2.2 (ix2 (h.castLE (by decide)) d) = kM k0_pay6 (BitVec.ofNat 32 (li h).val) (BitVec.ofNat 32 (lf h).val) (blk m c t) X h (ix2 0 d)

set_option maxHeartbeats 2000000

/-- A point that continues a batch row. -/
theorem leaves_B (h0 : ¬t.val % 128 = 0) : Leaves m c t (scr m c (t.val - 1) (by have := t.isLt; omega)) := by
  refine fun h => ⟨fun p f => ?_, fun d f => ?_, fun d => ?_, fun d => ?_⟩
  · rw [outsAt0_B m c t h0]
    frame_out
    simp only [read_unread_whole]
    refine (canon_lanes _ _ _ _ _ _ _ _ _ h p f).trans ?_
    exact congrFun (by fin_cases h <;> rfl) _
  · rw [outsAt0_B m c t h0]
    frame_out
    simp only [read_unread_whole]
    refine (canon_slabs _ _ _ _ _ _ _ _ _ h d f).trans ?_
    exact congrFun (by fin_cases h <;> rfl) _
  · rw [outsAt0_B m c t h0]
    frame_out
    refine (read_rows _ _ _ _ _ _ _ _ _ _ h d).trans ?_
    simp only [read_unread_whole]
    exact congrFun (by fin_cases h <;> rfl) _
  · rw [outsAt0_B m c t h0]
    frame_out
    refine (read_rows _ _ _ _ _ _ _ _ _ _ h d).trans ?_
    simp only [read_unread_whole]
    exact congrFun (by fin_cases h <;> rfl) _

/-- A point that starts a batch row. -/
theorem leaves_A (h0 : t.val % 128 = 0) : Leaves m c t scr0 := by
  refine fun h => ⟨fun p f => ?_, fun d f => ?_, fun d => ?_, fun d => ?_⟩
  · rw [outsAt0_A m c t h0]
    frame_out
    simp (disch := decide) only [↓ View.readCov_skip, ↓ View.readCov_fill]
    refine (canon_lanes _ _ _ _ _ _ _ _ _ h p f).trans ?_
    exact congrFun (by fin_cases h <;> rfl) _
  · rw [outsAt0_A m c t h0]
    frame_out
    simp (disch := decide) only [↓ View.readCov_skip, ↓ View.readCov_fill]
    refine (canon_slabs _ _ _ _ _ _ _ _ _ h d f).trans ?_
    exact congrFun (by fin_cases h <;> rfl) _
  · rw [outsAt0_A m c t h0]
    frame_out
    simp (disch := decide) only [↓ View.readCov_skip, ↓ View.readCov_fill]
    refine (canon_rows _ _ _ _ _ _ _ _ _ h d).trans ?_
    exact congrFun (by fin_cases h <;> rfl) _
  · rw [outsAt0_A m c t h0]
    frame_out
    simp (disch := decide) only [↓ View.readCov_skip, ↓ View.readCov_fill]
    refine (canon_rows _ _ _ _ _ _ _ _ _ h d).trans ?_
    exact congrFun (by fin_cases h <;> rfl) _

end Cert.Proof.Bwd

end
-- ==== Proof.BwdRef.lean ====
/- The backward mLSTM scan's reference: what its scan starts from, and that its scan is the plain recurrence. -/
module

public import proofs.«01_k».proof.Proof.Gen.BwdRefIdeal.Run
public import proofs.«01_k».proof.Proof.MlHost

@[expose] public section

set_option maxRecDepth 16384

noncomputable section

namespace Cert.Proof.Bwd

open Idealize.ShloMosaic Idealize.ShloMosaic.TcCoe
open Idealize.SL Idealize.SL.RA Idealize.SL.BI
open scoped Idealize.SL.BI
open Idealize.SL.BI.BIBase Idealize.SL.Sem
open Cert.BwdRefIdeal Cert.BwdRefIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)
open Cert.BwdRefIdeal.Value Cert.Proof.Ml

variable (m : (ℓ : Loc nD τ sig) → Buf (Elt Ideal) ℓ) (c : Dev nD)

set_option maxHeartbeats 2000000

/-- The arguments: the projections, the gates' projections and the gates' biases. -/
abbrev pP : Vec Ideal S2x16384x7168 .bf16 := m ((c.tc : Thread nD τ).loc main_arg0)
/-- The gates' projections. -/
abbrev pW : Vec Ideal S2x16384x4096 .f32 := m ((c.tc : Thread nD τ).loc main_arg1)
/-- The gates' biases. -/
abbrev pI : Vec Ideal S1x128 .f32 := m ((c.tc : Thread nD τ).loc main_arg2)

/-- The log forget gates, chunk by chunk. -/
def rL (W : Vec Ideal S2x16384x4096 .f32) (I : Vec Ideal S1x128 .f32) : Vec Ideal S128x2x4x128 .f32 :=
  transpose S128x2x4x128 [2, 0, 1, 3] (shapeCast S2x4x128x128 (Host.reverse [2] (shapeCast S2x4x16384 (extractStridedSlice S1x2x4x16384 ![1, 0, 0, 0]
    (transpose S2x2x4x16384 [2, 0, 3, 1] (rLs (rF W I)) transposes_S2x16384x2x4_S2x2x4x16384_2_0_3_1) slices_S2x2x4x16384_S1x2x4x16384_1_0_0_0)
    shapeCasts_S1x2x4x16384_S2x4x16384)) shapeCasts_S2x4x16384_S2x4x128x128) transposes_S2x4x128x128_S128x2x4x128_2_0_1_3

/-- The log forget gates, entry by entry. -/
theorem rL_apply (W : Vec Ideal S2x16384x4096 .f32) (I : Vec Ideal S1x128 .f32) (n : Fin 128) (b : Fin 2) (h : Fin 4) (t : Fin 128) :
    rL W I (ix4 n b h t) = lsg (W (ix3 b (row n t).rev ⟨3584 + (8 + (4 + h.val)), by omega⟩) + I (ix2 0 ⟨8 + (4 + h.val), by omega⟩)) := by
  unfold rL
  pointwise [rLs_apply, rF]
  rfl

/-- The scan reads the log forget gates. -/
theorem ent4 : (entryContents preI m c (Proc.devRef .tc main_v58_4) : Vec Ideal S128x2x4x128 .f32) = rL (pW m c) (pI m c) := by
  simp only [entryContents, afterL_cons, afterL_nil]
  after_reads_simp
  rfl

/-- The scan reads the mask. -/
theorem ent5 : (entryContents preI m c (Proc.devRef .tc main_v58_5) : IVec S128x128 1) = rM := by
  simp only [entryContents, afterL_cons, afterL_nil]
  after_reads_simp
  rfl

/-- The scan reads the scaled queries. -/
theorem ent0 (n : Fin 128) (b : Fin 2) (h : Fin 4) (t d : Fin 128) :
    (entryContents preI m c (Proc.devRef .tc main_v58_0) : Vec Ideal S128x2x4x128x128 .f32) (ix5 n b h t d) = pP m c (ix3 b (row n t).rev ⟨h.val * 128 + d.val, by omega⟩) * Ideal.ofBits .f32 0x3DB504F3#32 := by
  simp only [entryContents, afterL_cons, afterL_nil]
  after_reads_simp
  simp only [id]
  pointwise
  rfl
/-- The scan reads the keys. -/
theorem ent1 (n : Fin 128) (b : Fin 2) (h : Fin 4) (t d : Fin 128) :
    (entryContents preI m c (Proc.devRef .tc main_v58_1) : Vec Ideal S128x2x4x128x128 .f32) (ix5 n b h t d) = pP m c (ix3 b (row n t).rev ⟨512 + (h.val * 128 + d.val), by omega⟩) := by
  simp only [entryContents, afterL_cons, afterL_nil]
  after_reads_simp
  simp only [id]
  pointwise
  rfl
/-- The scan reads the values. -/
theorem ent2 (n : Fin 128) (b : Fin 2) (h : Fin 4) (t : Fin 128) (d : Fin 256) :
    (entryContents preI m c (Proc.devRef .tc main_v58_2) : Vec Ideal S128x2x4x128x256 .f32) (ix5 n b h t d) = pP m c (ix3 b (row n t).rev ⟨1024 + (h.val * 256 + d.val), by omega⟩) := by
  simp only [entryContents, afterL_cons, afterL_nil]
  after_reads_simp
  simp only [id]
  pointwise
  rfl
/-- The scan reads the input gates' logits. -/
theorem ent3 (n : Fin 128) (b : Fin 2) (h : Fin 4) (t : Fin 128) :
    (entryContents preI m c (Proc.devRef .tc main_v58_3) : Vec Ideal S128x2x4x128 .f32) (ix4 n b h t) = pW m c (ix3 b (row n t).rev ⟨3584 + (4 + h.val), by omega⟩) + pI m c (ix2 0 ⟨4 + h.val, by omega⟩) := by
  simp only [entryContents, afterL_cons, afterL_nil]
  after_reads_simp
  simp only [id]
  pointwise
  rfl
/-- The scan starts from a matrix memory of zeros. -/
theorem ent7 (b : Fin 2) (h : Fin 4) (f : Fin 256) (d : Fin 128) :
    (entryContents preI m c (Proc.devRef .tc main_v58_7) : Vec Ideal S2x4x256x128 .f32) (ix4 b h f d) = (0 : EReal) := by
  simp only [entryContents, afterL_cons, afterL_nil]
  after_reads_simp
  simp only [id]
  pointwise

/-- The scan starts from a normaliser of zeros. -/
theorem ent8 (b : Fin 2) (h : Fin 4) (d : Fin 128) :
    (entryContents preI m c (Proc.devRef .tc main_v58_8) : Vec Ideal S2x4x128 .f32) (ix3 b h d) = (0 : EReal) := by
  simp only [entryContents, afterL_cons, afterL_nil]
  after_reads_simp
  simp only [id]
  pointwise

/-- The scan starts from a stabiliser of zero. -/
theorem ent9 (b : Fin 2) (h : Fin 4) :
    (entryContents preI m c (Proc.devRef .tc main_v58_9) : Vec Ideal S2x4 .f32) (ix2 b h) = (0 : EReal) := by
  simp only [entryContents, afterL_cons, afterL_nil]
  after_reads_simp
  simp only [id]
  pointwise

/-- What the carried buffers hold after `k` trips. -/
@[irreducible] def W (k : ℕ) : Valuation τ sig (Elt Ideal) := STEP^[k] (entryContents preI m c)

/-- The contents after `k` trips are the trip taken `k` times. -/
theorem W_eq (k : ℕ) : W m c k = STEP^[k] (entryContents preI m c) := by unfold W; rfl

/-- The contents before the first trip. -/
theorem W_zero : W m c 0 = entryContents preI m c := W_eq m c 0

/-- The contents after one more trip. -/
theorem W_succ (k : ℕ) : W m c (k + 1) = STEP (W m c k) := by rw [W_eq, W_eq]; exact Function.iterate_succ_apply' STEP k _

/-- What the scan reads, of the carried buffers. -/
def rd (V : Valuation τ sig (Elt Ideal)) : Rd :=
  ⟨V (Proc.devRef .tc main_v58_0), V (Proc.devRef .tc main_v58_1), V (Proc.devRef .tc main_v58_2), V (Proc.devRef .tc main_v58_3),
    V (Proc.devRef .tc main_v58_4), V (Proc.devRef .tc main_v58_5)⟩

/-- The input gates' logits the scan reads. -/
theorem rd_G (V : Valuation τ sig (Elt Ideal)) : (rd V).G = V (Proc.devRef .tc main_v58_3) := rfl

/-- The log forget gates the scan reads. -/
theorem rd_L (V : Valuation τ sig (Elt Ideal)) : (rd V).L = V (Proc.devRef .tc main_v58_4) := rfl

/-- What the scan carries, of the carried buffers. -/
def car (V : Valuation τ sig (Elt Ideal)) : Car :=
  ⟨V (Proc.devRef .tc main_v58_6), V (Proc.devRef .tc main_v58_7), V (Proc.devRef .tc main_v58_8), V (Proc.devRef .tc main_v58_9), V (Proc.devRef .tc main_v58_10)⟩

/-- A trip leaves what the scan reads as it was. -/
theorem rd_step (V : Valuation τ sig (Elt Ideal)) : rd (STEP V) = rd V := by
  unfold rd
  rw [STEP_main_v58_0, STEP_main_v58_1, STEP_main_v58_2, STEP_main_v58_3, STEP_main_v58_4, STEP_main_v58_5]

/-- What the scan reads is the same at every trip. -/
theorem rd_W (k : ℕ) : rd (W m c k) = rd (W m c 0) := by
  induction k with
  | zero => rfl
  | succ k ih => rw [W_succ, rd_step, ih]

/-- The loop's body is the trip. -/
theorem car_step (V : Valuation τ sig (Elt Ideal)) : car (STEP V) = (rd V).trip (car V) := by
  unfold car
  rw [STEP_main_v58_6, STEP_main_v58_7, STEP_main_v58_8, STEP_main_v58_9, STEP_main_v58_10]
  rfl

/-- The chunks of the backward scan: chunk `n` of the scan is chunk `127 - n` of the arrays. -/
abbrev bch (P : Vec Ideal S2x16384x7168 .bf16) (G : Vec Ideal S2x16384x4096 .f32) (I : Vec Ideal S1x128 .f32) (b : Fin 2) (h : Fin 4) (n : Fin 128) : Ch :=
  arrCh bwd (fun h => ⟨4 + h.val, by omega⟩) (fun h => ⟨8 + (4 + h.val), by omega⟩) P G I b h n.rev

/-- The same, read from its last position to its first. -/
def ch (P : Vec Ideal S2x16384x7168 .bf16) (G : Vec Ideal S2x16384x4096 .f32) (I : Vec Ideal S1x128 .f32) (b : Fin 2) (h : Fin 4) (n : Fin 128) : Ch :=
  (bch P G I b h n).re Fin.revPerm

/-- The chunks that the scan reads are those of the arguments. -/
theorem rd_ch (b : Fin 2) (h : Fin 4) (n : Fin 128) : (rd (W m c 0)).ch b h n = ch (pP m c) (pW m c) (pI m c) b h n := by
  rw [W_zero]
  unfold Rd.ch ch bch arrCh Ch.re
  dsimp only
  simp only [Fin.revPerm_apply]
  congr 1
  · funext t d; exact (ent0 m c n b h t d).trans (by rw [row_rev])
  · funext t d; exact (ent1 m c n b h t d).trans (by rw [row_rev])
  · funext t d; exact (ent2 m c n b h t d).trans (by rw [row_rev])
  · funext t; exact (congrFun (rd_G _) _).trans ((ent3 m c n b h t).trans (by rw [row_rev]))
  · funext t
    unfold cum
    rw [← Equiv.sum_comp Fin.revPerm]
    refine Finset.sum_congr rfl fun s _ => ?_
    rw [fwd_eq]
    simp only [Fin.revPerm_apply, Fin.rev_rev]
    rw [rd_L, ent4, rL_apply, row_rev, Fin.rev_rev]

/-- The scan is the plain recurrence. -/
theorem inv (k : ℕ) (hk : k ≤ 128) : (rd (W m c 0)).Inv (car (W m c k)) k := by
  refine (rd (W m c 0)).loop_inv (fun t s => ?_) (fun k => car (W m c k)) ?_ (fun k => ?_) k hk
  · rw [W_zero]
    exact (iff_of_eq (congrArg (fun z : BitVec 1 => z = 1) (congrFun (ent5 m c) (ix2 t s)))).trans (rM_apply t s)
  · show (rd (W m c 0)).Inv (car (W m c 0)) 0
    rw [W_zero]
    refine ⟨ctr_entry m c, fun b h f d => ent7 m c b h f d, fun b h d => ent8 m c b h d, fun b h => ent9 m c b h, fun j _ _ _ _ hj => absurd hj (by omega)⟩
  · show car (W m c (k + 1)) = _
    rw [W_succ, car_step, rd_W]

/-- The reference's result is the outputs put in order. -/
theorem out_apply (V : Valuation τ sig (Elt Ideal)) (b : Fin 2) (r : Fin 16384) (l : Fin 1024) :
    (out_main_v63 V : Vec Ideal S2x16384x1024 .f32) (ix3 b r l)
      = (car V).O (ix5 ⟨r.rev.val / 128, by omega⟩ b ⟨l.val / 256, by omega⟩ ⟨r.rev.val % 128, by omega⟩ ⟨l.val % 256, by omega⟩) := by
  unfold out_main_v63
  pointwise
  rfl

/-- The reference's result at an index. -/
theorem ref_apply (b : Fin 2) (r : Fin 16384) (l : Fin 1024) :
    (out_main_v63 (W m c 128) : Vec Ideal S2x16384x1024 .f32) (ix3 b r l) = scanAt fwd (ch (pP m c) (pW m c) (pI m c)) b r.rev l := by
  have e : (fun b h n => (rd (W m c 0)).ch b h n) = ch (pP m c) (pW m c) (pI m c) := funext fun b => funext fun h => funext fun n => rd_ch m c b h n
  rw [out_apply, (inv m c 128 le_rfl).hO _ _ _ _ _ (show r.rev.val / 128 < 128 by omega), ← e]
  rfl

end Cert.Proof.Bwd

end
-- ==== Proof.BwdScan.lean ====
/- The backward mLSTM scan: what the kernel's points leave is the plain recurrence of the arrays' chunks, so the kernel's result
   is the reference's. -/
module

public import proofs.«01_k».proof.Proof.BwdPoint
public import proofs.«01_k».proof.Proof.BwdRef
public import proofs.«01_k».proof.Proof.MlStep
public import proofs.«01_k».proof.Defs

@[expose] public section

set_option maxRecDepth 16384

noncomputable section

namespace Cert.Proof.Bwd

open Cert.BwdIdeal Cert.BwdIdeal.Gen Cert.BwdIdeal.Value Idealize.ShloMosaic Idealize.ShloMosaic.TcCoe Idealize.SL.Sem Cert.Proof.Ml
open Idealize.ShloMosaic.Pipeline (Dat)

variable (m : (ℓ : Loc nD τ sig) → Buf (Elt Ideal) ℓ) (ρ : Dev nD → PrngReg) (c : Dev nD) (t : Fin cfg0.N)

/-- The kernel's mask is the order of the direction. -/
theorem mask_apply (t s : Fin 128) : k0_pay6 (ix2 t s) = 1 ↔ bwd t s = true := by
  unfold k0_pay6
  pointwise
  exact (by decide +kernel : ∀ t s : Fin 128, IntOp.cmpi CmpIPredicate.sge (BitVec.ofNat 32 s.val) (BitVec.ofNat 32 t.val) = 1 ↔ bwd t s = true) t s

/-- A batch row starts from the zero state. -/
theorem scr0_is : scr0.Is fun _ => St.zero := by
  refine fun h => ⟨fun d f => ?_, fun d => ?_, fun l => ?_⟩
  · show k0_pay3 (F := Ideal) (ix3 h d f) = 0
    unfold k0_pay3
    pointwise
  · show k0_pay4 (F := Ideal) (ix2 (h.castLE (by decide)) d) = 0
    unfold k0_pay4
    pointwise
  · show k0_pay5 (F := Ideal) (ix2 (h.castLE (by decide)) l) = 0
    unfold k0_pay5
    pointwise

/-- The windows' blocks at a point. -/
theorem idx (t : Fin cfg0.N) :
    (win0_0.index t (0 : Fin 3) = t.val / 128 ∧ win0_0.index t (1 : Fin 3) = 127 - t.val % 128 ∧ win0_0.index t (2 : Fin 3) = 0)
    ∧ (win0_1.index t (0 : Fin 3) = t.val / 128 ∧ win0_1.index t (1 : Fin 3) = 127 - t.val % 128 ∧ win0_1.index t (2 : Fin 3) = 1)
    ∧ (win0_2.index t (0 : Fin 3) = t.val / 128 ∧ win0_2.index t (1 : Fin 3) = 127 - t.val % 128 ∧ win0_2.index t (2 : Fin 3) = 1)
    ∧ (win0_3.index t (0 : Fin 3) = t.val / 128 ∧ win0_3.index t (1 : Fin 3) = 127 - t.val % 128 ∧ win0_3.index t (2 : Fin 3) = 28)
    ∧ (win0_4.index t (0 : Fin 2) = 0 ∧ win0_4.index t (1 : Fin 2) = 0)
    ∧ (win0_5.index t (0 : Fin 3) = t.val / 128 ∧ win0_5.index t (1 : Fin 3) = 127 - t.val % 128 ∧ win0_5.index t (2 : Fin 3) = 0) :=
  (by decide +kernel : ∀ t : Fin grid0.N,
    (win0_0.index t (0 : Fin 3) = t.val / 128 ∧ win0_0.index t (1 : Fin 3) = 127 - t.val % 128 ∧ win0_0.index t (2 : Fin 3) = 0)
    ∧ (win0_1.index t (0 : Fin 3) = t.val / 128 ∧ win0_1.index t (1 : Fin 3) = 127 - t.val % 128 ∧ win0_1.index t (2 : Fin 3) = 1)
    ∧ (win0_2.index t (0 : Fin 3) = t.val / 128 ∧ win0_2.index t (1 : Fin 3) = 127 - t.val % 128 ∧ win0_2.index t (2 : Fin 3) = 1)
    ∧ (win0_3.index t (0 : Fin 3) = t.val / 128 ∧ win0_3.index t (1 : Fin 3) = 127 - t.val % 128 ∧ win0_3.index t (2 : Fin 3) = 28)
    ∧ (win0_4.index t (0 : Fin 2) = 0 ∧ win0_4.index t (1 : Fin 2) = 0)
    ∧ (win0_5.index t (0 : Fin 3) = t.val / 128 ∧ win0_5.index t (1 : Fin 3) = 127 - t.val % 128 ∧ win0_5.index t (2 : Fin 3) = 0)) t

/-- The chunks the kernel reads. -/
abbrev pch (b : Fin 2) (h : Fin 4) (n : Fin 128) : Ch := bch (V m c main_arg0) (V m c main_arg1) (V m c main_arg2) b h n

/-- The same, read from the last position to the first. -/
abbrev kch (b : Fin 2) (h : Fin 4) (n : Fin 128) : Ch := ch (V m c main_arg0) (V m c main_arg1) (V m c main_arg2) b h n

/-- The batch row of a point. -/
def pb (n : ℕ) (hn : n < cfg0.N) : Fin 2 := ⟨n / 128, by have : n < 256 := hn; omega⟩

/-- The chunk of a point. -/
def pn (n : ℕ) : Fin 128 := ⟨n % 128, by omega⟩

/-- The point's blocks hold its chunk. -/
theorem blk_ch (h : Fin 4) : (blk m c t).ch bwd (li h) (lf h) h = pch m c (pb t.val t.isLt) h (pn t.val) := by
  obtain ⟨⟨a0, a1, a2⟩, ⟨b0, b1, b2⟩, ⟨c0, c1, c2⟩, ⟨d0, d1, d2⟩, ⟨e0, e1⟩, -⟩ := idx t
  have hg : ∀ (s l : Fin 128), iblk m c 3 t (ix3 0 s l) = V m c main_arg1 (ix3 (pb t.val t.isLt) (row (pn t.val).rev s) ⟨3584 + l.val, by omega⟩) := fun s l => by
    show V m c main_arg1 (((cfg0.win 3).blk t).view.emb (ix3 0 s l)) = _
    refine congrArg _ (funext fun a => Fin.ext ?_)
    match a with
    | ⟨0, _⟩ => show win0_3.index t (0 : Fin 3) * 1 + 1 * 0 = t.val / 128; omega
    | ⟨1, _⟩ => show win0_3.index t (1 : Fin 3) * 128 + 1 * s.val = (128 - (t.val % 128 + 1)) * 128 + s.val; omega
    | ⟨2, _⟩ => show win0_3.index t (2 : Fin 3) * 128 + 1 * l.val = 3584 + l.val; omega
  have hi : ∀ l : Fin 128, iblk m c 4 t (ix2 0 l) = V m c main_arg2 (ix2 0 l) := fun l => by
    show V m c main_arg2 (((cfg0.win 4).blk t).view.emb (ix2 0 l)) = _
    refine congrArg _ (funext fun a => Fin.ext ?_)
    match a with
    | ⟨0, _⟩ => show win0_4.index t (0 : Fin 2) * 1 + 1 * 0 = 0; omega
    | ⟨1, _⟩ => show win0_4.index t (1 : Fin 2) * 128 + 1 * l.val = l.val; omega
  unfold Blk.ch pch bch arrCh
  congr 1
  · funext p d
    refine congrArg (· * Ideal.ofBits .f32 0x3DB504F3#32) ?_
    show V m c main_arg0 (((cfg0.win 0).blk t).view.emb (ix3 0 p (lk h d))) = _
    refine congrArg _ (funext fun a => Fin.ext ?_)
    match a with
    | ⟨0, _⟩ => show win0_0.index t (0 : Fin 3) * 1 + 1 * 0 = t.val / 128; omega
    | ⟨1, _⟩ => show win0_0.index t (1 : Fin 3) * 128 + 1 * p.val = (128 - (t.val % 128 + 1)) * 128 + p.val; omega
    | ⟨2, _⟩ => show win0_0.index t (2 : Fin 3) * 512 + 1 * (lk h d).val = h.val * 128 + d.val; have : (lk h d).val = 128 * h.val + d.val := rfl; omega
  · funext p d
    show V m c main_arg0 (((cfg0.win 1).blk t).view.emb (ix3 0 p (lk h d))) = _
    refine congrArg _ (funext fun a => Fin.ext ?_)
    match a with
    | ⟨0, _⟩ => show win0_1.index t (0 : Fin 3) * 1 + 1 * 0 = t.val / 128; omega
    | ⟨1, _⟩ => show win0_1.index t (1 : Fin 3) * 128 + 1 * p.val = (128 - (t.val % 128 + 1)) * 128 + p.val; omega
    | ⟨2, _⟩ => show win0_1.index t (2 : Fin 3) * 512 + 1 * (lk h d).val = 512 + (h.val * 128 + d.val); have : (lk h d).val = 128 * h.val + d.val := rfl; omega
  · funext p f
    show V m c main_arg0 (((cfg0.win 2).blk t).view.emb (ix3 0 p (ln h f))) = _
    refine congrArg _ (funext fun a => Fin.ext ?_)
    match a with
    | ⟨0, _⟩ => show win0_2.index t (0 : Fin 3) * 1 + 1 * 0 = t.val / 128; omega
    | ⟨1, _⟩ => show win0_2.index t (1 : Fin 3) * 128 + 1 * p.val = (128 - (t.val % 128 + 1)) * 128 + p.val; omega
    | ⟨2, _⟩ => show win0_2.index t (2 : Fin 3) * 1024 + 1 * (ln h f).val = 1024 + (h.val * 256 + f.val); have : (ln h f).val = 256 * h.val + f.val := rfl; omega
  · funext p
    exact congrArg₂ (· + ·) (hg p (li h)) (hi (li h))
  · refine congrArg (cum bwd) (funext fun s => congrArg lsg ?_)
    exact congrArg₂ (· + ·) (hg s (lf h)) (hi (lf h))

/-- What a point leaves, when its scratch holds the states its chunk starts from. -/
theorem leaves_is (X : Scr) (hL : Leaves m c t X) (hX : X.Is fun h => seqSt (kch m c (pb t.val t.isLt) h) (t.val % 128)) :
    (∀ h p f, (outsAt0 m c t.val t.isLt).1 (ix3 0 p (ln h f)) = hOut fwd (kch m c (pb t.val t.isLt) h (pn t.val)) (seqSt (kch m c (pb t.val t.isLt) h) (t.val % 128)) p.rev f)
    ∧ (scr m c t.val t.isLt).Is fun h => seqSt (kch m c (pb t.val t.isLt) h) (t.val % 128 + 1) := by
  have hn : ∀ h, seqSt (kch m c (pb t.val t.isLt) h) (t.val % 128 + 1) = next (pch m c (pb t.val t.isLt) h (pn t.val)) _ _ := fun h =>
    (seqSt_succ (kch m c (pb t.val t.isLt) h) (pn t.val)).trans (next_re (pch m c (pb t.val t.isLt) h (pn t.val)) _ _ Fin.revPerm)
  have P := fun h => point mask_apply (li h) (lf h) (blk m c t) X _ hX h 0 (fun s => by simp [bwd])
  simp only [blk_ch] at P
  refine ⟨fun h p f => ((hL h).1 p f).trans (((P h).1 p f).trans ?_), fun h => ?_⟩
  · rw [fwd_eq]
    exact ((hOut_re bwd (pch m c (pb t.val t.isLt) h (pn t.val)) _ Fin.revPerm p.rev f).trans (by rw [Fin.revPerm_apply, Fin.rev_rev])).symm
  · dsimp only
    rw [hn]
    exact ⟨fun d f => ((hL h).2.1 d f).trans ((P h).2.1 d f), fun d => ((hL h).2.2.1 d).trans ((P h).2.2.1 d), fun d => ((hL h).2.2.2 d).trans ((P h).2.2.2 d)⟩

/-- Every point leaves the plain recurrence's outputs and states. -/
theorem leaves_all : ∀ (n : ℕ) (hn : n < cfg0.N),
    (∀ h p f, (outsAt0 m c n hn).1 (ix3 0 p (ln h f)) = hOut fwd (kch m c (pb n hn) h (pn n)) (seqSt (kch m c (pb n hn) h) (n % 128)) p.rev f)
    ∧ (scr m c n hn).Is fun h => seqSt (kch m c (pb n hn) h) (n % 128 + 1)
  | 0, hn => leaves_is m c ⟨0, hn⟩ scr0 (leaves_A m c ⟨0, hn⟩ rfl) scr0_is
  | n + 1, hn => by
    by_cases h0 : (n + 1) % 128 = 0
    · refine leaves_is m c ⟨n + 1, hn⟩ scr0 (leaves_A m c ⟨n + 1, hn⟩ h0) ?_
      show scr0.Is fun h => seqSt _ ((n + 1) % 128)
      rw [h0]
      exact scr0_is
    · refine leaves_is m c ⟨n + 1, hn⟩ _ (leaves_B m c ⟨n + 1, hn⟩ h0) ?_
      have ih := (leaves_all n (by omega)).2
      have hb : pb n (by omega) = pb (n + 1) hn := Fin.ext (show n / 128 = (n + 1) / 128 by omega)
      have hk : n % 128 + 1 = (n + 1) % 128 := by omega
      rw [hb, hk] at ih
      exact ih

/-- The kernel's result, of its arguments. -/
def G (P : Vec Ideal S2x16384x7168 .bf16) (W : Vec Ideal S2x16384x4096 .f32) (I : Vec Ideal S1x128 .f32) : Vec Ideal S2x16384x1024 .f32 :=
  fun i => scanAt fwd (ch P W I) (i 0) (Fin.rev (i 1)) (i 2)

/-- What a point writes back is its part of the result. -/
theorem flushed_eq : (dats m 0 c).flushed 5 t = ((cfg0.win 5).blk t).view.read (Elt Ideal) (G (V m c main_arg0) (V m c main_arg1) (V m c main_arg2)) := by
  obtain ⟨-, -, -, -, -, ⟨f0, f1, f2⟩⟩ := idx t
  rw [flushed5]
  funext j
  idx_vars j
  show (outsAt0 m c t.val t.isLt).1 (ix3 j0 j1 j2) = G (V m c main_arg0) (V m c main_arg1) (V m c main_arg2) (((cfg0.win 5).blk t).view.emb (ix3 j0 j1 j2))
  have e : ((cfg0.win 5).blk t).view.emb (ix3 j0 j1 j2) = (ix3 (pb t.val t.isLt) (row (pn t.val).rev j1) j2 : S2x16384x1024.Idx) := by
    refine funext fun a => Fin.ext ?_
    have h0 : j0.val < 1 := j0.isLt
    match a with
    | ⟨0, _⟩ => show win0_5.index t (0 : Fin 3) * 1 + 1 * j0.val = t.val / 128; omega
    | ⟨1, _⟩ => show win0_5.index t (1 : Fin 3) * 128 + 1 * j1.val = (128 - (t.val % 128 + 1)) * 128 + j1.val; omega
    | ⟨2, _⟩ => show win0_5.index t (2 : Fin 3) * 1024 + 1 * j2.val = j2.val; omega
  have hj0 : j0 = 0 := Fin.ext (show j0.val = 0 by have : j0.val < 1 := j0.isLt; omega)
  have hl : j2 = ln ⟨j2.val / 256, by omega⟩ ⟨j2.val % 256, by omega⟩ := Fin.ext (show j2.val = 256 * (j2.val / 256) + j2.val % 256 by omega)
  rw [e, hj0]
  conv_lhs => rw [hl]
  rw [(leaves_all m c t.val t.isLt).1]
  show _ = scanAt fwd _ (pb t.val t.isLt) (row (pn t.val).rev j1).rev j2
  rw [row_rev, Fin.rev_rev]
  unfold scanAt
  have hr : (row (pn t.val) j1.rev).val / 128 = t.val % 128 := by
    have := j1.rev.isLt
    show (t.val % 128 * 128 + j1.rev.val) / 128 = t.val % 128
    omega
  have hp : (⟨(row (pn t.val) j1.rev).val % 128, by omega⟩ : Fin 128) = j1.rev := Fin.ext (by
    have := j1.rev.isLt
    show (t.val % 128 * 128 + j1.rev.val) % 128 = j1.rev.val
    omega)
  have hr' : (⟨(row (pn t.val) j1.rev).val / 128, by omega⟩ : Fin 128) = pn t.val := Fin.ext hr
  rw [hp, hr', hr]

/-- Every index of the result is in the block of the point that its coordinates name. -/
theorem covered (i : S2x16384x1024.Idx) : ∃ t : Fin cfg0.N, (cfg0.win 5).flush t = true ∧ i ∈ ((cfg0.win 5).blk t).view.set := by
  have h0 : (i 0).val < 2 := (i 0).isLt
  have h1 : (i 1).val < 16384 := (i 1).isLt
  have h2 : (i 2).val < 1024 := (i 2).isLt
  let t : Fin cfg0.N := ⟨(i 0).val * 128 + (127 - (i 1).val / 128), show _ < 256 by omega⟩
  refine ⟨t, flush0_5 t, ?_⟩
  obtain ⟨-, -, -, -, -, ⟨f0, f1, f2⟩⟩ := idx t
  have ht : t.val = (i 0).val * 128 + (127 - (i 1).val / 128) := rfl
  have e : i = ((cfg0.win 5).blk t).view.emb (ix3 (0 : Fin 1) (⟨(i 1).val % 128, by omega⟩ : Fin 128) (⟨(i 2).val, h2⟩ : Fin 1024)) := by
    funext a; apply Fin.ext
    match a with
    | ⟨0, _⟩ => show (i 0).val = win0_5.index t (0 : Fin 3) * 1 + 1 * 0; omega
    | ⟨1, _⟩ => show (i 1).val = win0_5.index t (1 : Fin 3) * 128 + 1 * ((i 1).val % 128); omega
    | ⟨2, _⟩ => show (i 2).val = win0_5.index t (2 : Fin 3) * 1024 + 1 * (i 2).val; omega
  rw [e]; exact View.emb_mem_set _ _

/-- The kernel's run: its result is `G` of the arguments, which it leaves as they were. -/
theorem runP : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans
      (((dats m 0 c).arrAt_eq_of_cover 5 (G (V m c main_arg0) (V m c main_arg1) (V m c main_arg2)) (fun t _ => flushed_eq m c t) covered).trans
        (by rw [V_main_arg0, V_main_arg1, V_main_arg2])), (h c).2⟩) (run_blocks m ρ)

/-- The kernel's result is the reference's. -/
theorem algebraic : Cert.algebraic_BwdIdeal_BwdRefIdeal := by
  intro m ρ m' ρ' _ hagree
  refine ⟨_, runP m ρ, ?_⟩
  refine (θ_run Cert.BwdRefIdeal.defs _ _).mono (fun _ h c => ⟨?_, (h c).2⟩) (Cert.BwdRefIdeal.Value.run (F := Ideal) m' ρ')
  rw [(h c).1, ← W_eq]
  funext i
  idx_vars i
  refine (ref_apply m' c i0 i1 i2).trans ?_
  show scanAt fwd (ch (pP m' c) (pW m' c) (pI m' c)) i0 i1.rev i2 = scanAt fwd (ch _ _ _) i0 i1.rev i2
  rw [show pP m' c = _ from (hagree c).1, show pW m' c = _ from (hagree c).2.1, show pI m' c = _ from (hagree c).2.2]

end Cert.Proof.Bwd

end
-- ==== Proof.Norm.lean ====
/- The mixer's RMS norm: the kernel norms 512 rows at a time, and every element of its result is the reference's: the entry
   times the reciprocal root of its row's mean square (plus the small constant), times the gain of its column. -/
module

public import proofs.«01_k».proof.Proof.Gen.NormIdeal.Value
public import proofs.«01_k».proof.Proof.Gen.NormRefIdeal.Run
public import proofs.«01_k».proof.Defs
public import Idealize.ShloMosaic.Lib.Pointwise

@[expose] public section

set_option maxRecDepth 16384

noncomputable section

namespace Cert.Proof.Norm

open Cert.NormIdeal Cert.NormIdeal.Gen Cert.NormIdeal.Value Idealize.ShloMosaic Idealize.ShloMosaic.TcCoe Idealize.SL.Sem

/-- The row's mean square plus the constant, under the reciprocal root. -/
def rs (row : Fin 2048 → EReal) : EReal :=
  FloatOps.rsqrt (F := Ideal) (φ := .f32) (Ideal.div (∑ k : Fin 2048, row k * row k) (Ideal.ofBits .f32 0x45000000#32) + Ideal.ofBits .f32 0x358637BD#32)

/-- The normed array. -/
def G (x : Vec Ideal S32768x2048 .f32) (g : Vec Ideal S1x2048 .f32) : Vec Ideal S32768x2048 .bf16 :=
  fun i => x i * rs (fun k => x (ix2 (i 0) k)) * g (ix2 0 (i 1))

/-- A start at the origin. -/
theorem hz : (![0, 0] : Fin 2 → Nat) = fun _ => 0 := funext fun a => by fin_cases a <;> rfl

/-- A point's output block is the normed block. -/
theorem out_apply (x : Vec Ideal S512x2048 .f32) (g : Vec Ideal S1x2048 .f32) (a : Fin 512) (b : Fin 2048) :
    out0_2 x g (ix2 a b) = x (ix2 a b) * rs (fun k => x (ix2 a k)) * g (ix2 0 b) := by
  unfold out0_2
  rw [View.canon_unit_zero hz, View.ld_unit_zero hz, View.ld_unit_zero hz]
  pointwise [k0_pay1, rs]

variable (m : (ℓ : Loc nD τ sig) → Buf (Elt Ideal) ℓ) (ρ : Dev nD → PrngReg)

/-- Point `t` works at row block `t`. -/
theorem idx : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0) :=
  (by decide +kernel : ∀ t : Fin grid0.N, _)

/-- What point `t` writes back is its block of `G` of the arguments. -/
theorem flushed_eq (c : Dev nD) (t : Fin cfg0.N) :
    (dats m 0 c).flushed 2 t = ((cfg0.win 2).blk t).view.read (Elt Ideal) (G (V m c main_arg0) (V m c main_arg1)) := by
  obtain ⟨⟨a0, a1⟩, ⟨b0, b1⟩, ⟨d0, d1⟩⟩ := idx t
  have hx : ∀ (j0 : Fin 512) (k : Fin 2048), iblk m c 0 t (ix2 j0 k)
      = V m c main_arg0 (ix2 ((((cfg0.win 2).blk t).view.emb (ix2 j0 k)) 0) k) := fun j0 k => by
    show V m c main_arg0 (((cfg0.win 0).blk t).view.emb (ix2 j0 k)) = V m c main_arg0 _
    refine congrArg _ (funext fun a => Fin.ext ?_)
    match a with
    | ⟨0, _⟩ => show win0_0.index t (0 : Fin 2) * 512 + 1 * j0.val = win0_2.index t (0 : Fin 2) * 512 + 1 * j0.val; omega
    | ⟨1, _⟩ => show win0_0.index t (1 : Fin 2) * 2048 + 1 * k.val = k.val; omega
  rw [flushed2]
  funext j
  idx_vars j
  show out0_2 (iblk m c 0 t) (iblk m c 1 t) (ix2 j0 j1) = G (V m c main_arg0) (V m c main_arg1) (((cfg0.win 2).blk t).view.emb (ix2 j0 j1))
  rw [out_apply]
  refine congrArg₂ (· * ·) (congrArg₂ (· * ·) ?_ (congrArg rs (funext fun k => hx j0 k))) ?_
  · refine (hx j0 j1).trans (congrArg _ (funext fun a => Fin.ext ?_))
    match a with
    | ⟨0, _⟩ => rfl
    | ⟨1, _⟩ => show j1.val = win0_2.index t (1 : Fin 2) * 2048 + 1 * j1.val; omega
  · show V m c main_arg1 (((cfg0.win 1).blk t).view.emb (ix2 0 j1)) = V m c main_arg1 _
    refine congrArg _ (funext fun a => Fin.ext ?_)
    match a with
    | ⟨0, _⟩ => show win0_1.index t (0 : Fin 2) * 1 + 1 * 0 = 0; omega
    | ⟨1, _⟩ => show win0_1.index t (1 : Fin 2) * 2048 + 1 * j1.val = win0_2.index t (1 : Fin 2) * 2048 + 1 * j1.val; omega

/-- Every index of the result is in the block of the point that its row names. -/
theorem covered (i : S32768x2048.Idx) : ∃ t : Fin cfg0.N, (cfg0.win 2).flush t = true ∧ i ∈ ((cfg0.win 2).blk t).view.set := by
  have h0 : (i 0).val < 32768 := (i 0).isLt
  let t : Fin cfg0.N := ⟨(i 0).val / 512, show _ < 64 by omega⟩
  refine ⟨t, flush0_2 t, ?_⟩
  obtain ⟨-, -, ⟨d0, d1⟩⟩ := idx t
  have ht : t.val = (i 0).val / 512 := rfl
  have e : i = ((cfg0.win 2).blk t).view.emb (ix2 (⟨(i 0).val % 512, by omega⟩ : Fin 512) (i 1)) := by
    funext a; apply Fin.ext
    match a with
    | ⟨0, _⟩ => show (i 0).val = win0_2.index t (0 : Fin 2) * 512 + 1 * ((i 0).val % 512); omega
    | ⟨1, _⟩ => show (i 1).val = win0_2.index t (1 : Fin 2) * 2048 + 1 * (i 1).val; omega
  rw [e]; exact View.emb_mem_set _ _

/-- The kernel's run: its result is `G` of the arguments, which it leaves as they were. -/
theorem runP : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans
      (((dats m 0 c).arrAt_eq_of_cover 2 (G (V m c main_arg0) (V m c main_arg1)) (fun t _ => flushed_eq m c t) covered).trans
        (by rw [V_main_arg0, V_main_arg1])), (h c).2⟩) (run_blocks m ρ)

/-- The kernel's result is the reference's norm. -/
theorem algebraic : Cert.algebraic_NormIdeal_NormRefIdeal := by
  intro m ρ m' ρ' _ hagree
  refine ⟨_, runP m ρ, ?_⟩
  refine (θ_run Cert.NormRefIdeal.defs _ _).mono (fun _ h c => ⟨?_, (h c).2⟩) (Cert.NormRefIdeal.Value.run (F := Ideal) m' ρ')
  rw [(h c).1]
  simp only [hagree c]
  funext i
  idx_vars i
  pointwise [G, rs]

end Cert.Proof.Norm

end
-- ==== Proof.InF.lean ====
/- The product of the normed activations with the columns of the input projection that stay in f32: the tiled kernel's
   array and the plain product are both, at every index, the sum over the 2048 features. -/
module

public import proofs.«01_k».proof.Proof.Gen.InFIdeal.Value
public import proofs.«01_k».proof.Proof.Gen.InFRefIdeal.Run
public import proofs.«01_k».proof.Defs
public import Idealize.ShloMosaic.Lib.Pointwise

@[expose] public section

set_option maxRecDepth 16384

noncomputable section

namespace Cert.Proof.InF

open Cert.InFIdeal Cert.InFIdeal.Gen Cert.InFIdeal.Value Idealize.ShloMosaic Idealize.ShloMosaic.TcCoe Idealize.SL.Sem

/-- Row `i 0` of the activations times column `i 1` of the weights. -/
def G (x : Vec Ideal S32768x2048 .bf16) (w : Vec Ideal S2048x4096 .bf16) : Vec Ideal S32768x4096 .f32 :=
  fun i => ∑ k : Fin 2048, x (ix2 (i 0) k) * w (ix2 k (i 1))

/-- A start at the origin. -/
theorem hz : (![0, 0] : Fin 2 → Nat) = fun _ => 0 := funext fun a => by fin_cases a <;> rfl

/-- A point's output block is the product of its two input blocks. -/
theorem out_apply (x : Vec Ideal S1024x2048 .bf16) (w : Vec Ideal S2048x1024 .bf16) (a : Fin 1024) (b : Fin 1024) :
    out0_2 x w (ix2 a b) = ∑ k : Fin 2048, x (ix2 a k) * w (ix2 k b) := by
  unfold out0_2
  rw [View.canon_unit_zero hz, View.ld_unit_zero hz, View.ld_unit_zero hz]
  pointwise [k0_pay1]

variable (m : (ℓ : Loc nD τ sig) → Buf (Elt Ideal) ℓ) (ρ : Dev nD → PrngReg)

/-- Point `t` works at row block `t / 4` and column block `t % 4`. -/
theorem idx : ∀ t : Fin cfg0.N,
    (win0_0.index t (0 : Fin 2) = t.val / 4 ∧ win0_0.index t (1 : Fin 2) = 0)
    ∧ (win0_1.index t (0 : Fin 2) = 0 ∧ win0_1.index t (1 : Fin 2) = t.val % 4)
    ∧ (win0_2.index t (0 : Fin 2) = t.val / 4 ∧ win0_2.index t (1 : Fin 2) = t.val % 4) :=
  (by decide +kernel : ∀ t : Fin grid0.N, _)

/-- What point `t` writes back is its block of `G` of the arguments. -/
theorem flushed_eq (c : Dev nD) (t : Fin cfg0.N) :
    (dats m 0 c).flushed 2 t = ((cfg0.win 2).blk t).view.read (Elt Ideal) (G (V m c main_arg0) (V m c main_arg1)) := by
  obtain ⟨⟨a0, a1⟩, ⟨b0, b1⟩, ⟨d0, d1⟩⟩ := idx t
  rw [flushed2]
  funext j
  idx_vars j
  show out0_2 (iblk m c 0 t) (iblk m c 1 t) (ix2 j0 j1) = G (V m c main_arg0) (V m c main_arg1) (((cfg0.win 2).blk t).view.emb (ix2 j0 j1))
  rw [out_apply]
  refine Finset.sum_congr rfl fun k _ => congrArg₂ (· * ·) ?_ ?_
  · show V m c main_arg0 (((cfg0.win 0).blk t).view.emb (ix2 j0 k)) = V m c main_arg0 _
    refine congrArg _ (funext fun a => Fin.ext ?_)
    match a with
    | ⟨0, _⟩ => show win0_0.index t (0 : Fin 2) * 1024 + 1 * j0.val = win0_2.index t (0 : Fin 2) * 1024 + 1 * j0.val; omega
    | ⟨1, _⟩ => show win0_0.index t (1 : Fin 2) * 2048 + 1 * k.val = k.val; omega
  · show V m c main_arg1 (((cfg0.win 1).blk t).view.emb (ix2 k j1)) = V m c main_arg1 _
    refine congrArg _ (funext fun a => Fin.ext ?_)
    match a with
    | ⟨0, _⟩ => show win0_1.index t (0 : Fin 2) * 2048 + 1 * k.val = k.val; omega
    | ⟨1, _⟩ => show win0_1.index t (1 : Fin 2) * 1024 + 1 * j1.val = win0_2.index t (1 : Fin 2) * 1024 + 1 * j1.val; omega

/-- Every index of the result is in the block of the point that its coordinates name. -/
theorem covered (i : S32768x4096.Idx) : ∃ t : Fin cfg0.N, (cfg0.win 2).flush t = true ∧ i ∈ ((cfg0.win 2).blk t).view.set := by
  have h0 : (i 0).val < 32768 := (i 0).isLt
  have h1 : (i 1).val < 4096 := (i 1).isLt
  let t : Fin cfg0.N := ⟨(i 0).val / 1024 * 4 + (i 1).val / 1024, show _ < 128 by omega⟩
  refine ⟨t, flush0_2 t, ?_⟩
  obtain ⟨-, -, ⟨d0, d1⟩⟩ := idx t
  have ht : t.val = (i 0).val / 1024 * 4 + (i 1).val / 1024 := rfl
  have e : i = ((cfg0.win 2).blk t).view.emb (ix2 (⟨(i 0).val % 1024, by omega⟩ : Fin 1024) (⟨(i 1).val % 1024, by omega⟩ : Fin 1024)) := by
    funext a; apply Fin.ext
    match a with
    | ⟨0, _⟩ => show (i 0).val = win0_2.index t (0 : Fin 2) * 1024 + 1 * ((i 0).val % 1024); omega
    | ⟨1, _⟩ => show (i 1).val = win0_2.index t (1 : Fin 2) * 1024 + 1 * ((i 1).val % 1024); omega
  rw [e]; exact View.emb_mem_set _ _

/-- The kernel's run: its result is `G` of the arguments, which it leaves as they were. -/
theorem runP : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans
      (((dats m 0 c).arrAt_eq_of_cover 2 (G (V m c main_arg0) (V m c main_arg1)) (fun t _ => flushed_eq m c t) covered).trans
        (by rw [V_main_arg0, V_main_arg1])), (h c).2⟩) (run_blocks m ρ)

/-- The plain product at an index is the same sum. -/
theorem ref_eq (x : Vec Ideal S32768x2048 .bf16) (w : Vec Ideal S2048x4096 .bf16) :
    Host.dotGeneral (F := Ideal) Cert.InFRefIdeal.dot_S32768x2048_S2048x4096_S32768x4096_1_0_0_1_n_n none
      (extf .f32 x Cert.InFRefIdeal.Gen.facts₀.bitsLt_bf16_f32) (extf .f32 w Cert.InFRefIdeal.Gen.facts₀.bitsLt_bf16_f32) = G x w := by
  funext i
  idx_vars i
  pointwise [G]

/-- The kernel's result is the plain product. -/
theorem algebraic : Cert.algebraic_InFIdeal_InFRefIdeal := by
  intro m ρ m' ρ' _ hagree
  refine ⟨_, runP m ρ, ?_⟩
  refine (θ_run Cert.InFRefIdeal.defs _ _).mono (fun _ h c => ⟨?_, (h c).2⟩) (Cert.InFRefIdeal.Value.run (F := Ideal) m' ρ')
  rw [(h c).1]
  simp only [hagree c]
  exact ref_eq _ _

end Cert.Proof.InF

end
-- ==== Proof.InB.lean ====
/- The product of the normed activations with the columns of the input projection that are kept in bf16: the tiled kernel's
   array and the plain product are both, at every index, the sum over the 2048 features. -/
module

public import proofs.«01_k».proof.Proof.Gen.InBIdeal.Value
public import proofs.«01_k».proof.Proof.Gen.InBRefIdeal.Run
public import proofs.«01_k».proof.Defs
public import Idealize.ShloMosaic.Lib.Pointwise

@[expose] public section

set_option maxRecDepth 16384

noncomputable section

namespace Cert.Proof.InB

open Cert.InBIdeal Cert.InBIdeal.Gen Cert.InBIdeal.Value Idealize.ShloMosaic Idealize.ShloMosaic.TcCoe Idealize.SL.Sem

/-- Row `i 0` of the activations times column `i 1` of the weights. -/
def G (x : Vec Ideal S32768x2048 .bf16) (w : Vec Ideal S2048x7168 .bf16) : Vec Ideal S32768x7168 .bf16 :=
  fun i => ∑ k : Fin 2048, x (ix2 (i 0) k) * w (ix2 k (i 1))

/-- A start at the origin. -/
theorem hz : (![0, 0] : Fin 2 → Nat) = fun _ => 0 := funext fun a => by fin_cases a <;> rfl

/-- A point's output block is the product of its two input blocks. -/
theorem out_apply (x : Vec Ideal S1024x2048 .bf16) (w : Vec Ideal S2048x1024 .bf16) (a : Fin 1024) (b : Fin 1024) :
    out0_2 x w (ix2 a b) = ∑ k : Fin 2048, x (ix2 a k) * w (ix2 k b) := by
  unfold out0_2
  rw [View.canon_unit_zero hz, View.ld_unit_zero hz, View.ld_unit_zero hz]
  pointwise [k0_pay1]

variable (m : (ℓ : Loc nD τ sig) → Buf (Elt Ideal) ℓ) (ρ : Dev nD → PrngReg)

/-- Point `t` works at row block `t / 7` and column block `t % 7`. -/
theorem idx : ∀ t : Fin cfg0.N,
    (win0_0.index t (0 : Fin 2) = t.val / 7 ∧ win0_0.index t (1 : Fin 2) = 0)
    ∧ (win0_1.index t (0 : Fin 2) = 0 ∧ win0_1.index t (1 : Fin 2) = t.val % 7)
    ∧ (win0_2.index t (0 : Fin 2) = t.val / 7 ∧ win0_2.index t (1 : Fin 2) = t.val % 7) :=
  (by decide +kernel : ∀ t : Fin grid0.N, _)

/-- What point `t` writes back is its block of `G` of the arguments. -/
theorem flushed_eq (c : Dev nD) (t : Fin cfg0.N) :
    (dats m 0 c).flushed 2 t = ((cfg0.win 2).blk t).view.read (Elt Ideal) (G (V m c main_arg0) (V m c main_arg1)) := by
  obtain ⟨⟨a0, a1⟩, ⟨b0, b1⟩, ⟨d0, d1⟩⟩ := idx t
  rw [flushed2]
  funext j
  idx_vars j
  show out0_2 (iblk m c 0 t) (iblk m c 1 t) (ix2 j0 j1) = G (V m c main_arg0) (V m c main_arg1) (((cfg0.win 2).blk t).view.emb (ix2 j0 j1))
  rw [out_apply]
  refine Finset.sum_congr rfl fun k _ => congrArg₂ (· * ·) ?_ ?_
  · show V m c main_arg0 (((cfg0.win 0).blk t).view.emb (ix2 j0 k)) = V m c main_arg0 _
    refine congrArg _ (funext fun a => Fin.ext ?_)
    match a with
    | ⟨0, _⟩ => show win0_0.index t (0 : Fin 2) * 1024 + 1 * j0.val = win0_2.index t (0 : Fin 2) * 1024 + 1 * j0.val; omega
    | ⟨1, _⟩ => show win0_0.index t (1 : Fin 2) * 2048 + 1 * k.val = k.val; omega
  · show V m c main_arg1 (((cfg0.win 1).blk t).view.emb (ix2 k j1)) = V m c main_arg1 _
    refine congrArg _ (funext fun a => Fin.ext ?_)
    match a with
    | ⟨0, _⟩ => show win0_1.index t (0 : Fin 2) * 2048 + 1 * k.val = k.val; omega
    | ⟨1, _⟩ => show win0_1.index t (1 : Fin 2) * 1024 + 1 * j1.val = win0_2.index t (1 : Fin 2) * 1024 + 1 * j1.val; omega

/-- Every index of the result is in the block of the point that its coordinates name. -/
theorem covered (i : S32768x7168.Idx) : ∃ t : Fin cfg0.N, (cfg0.win 2).flush t = true ∧ i ∈ ((cfg0.win 2).blk t).view.set := by
  have h0 : (i 0).val < 32768 := (i 0).isLt
  have h1 : (i 1).val < 7168 := (i 1).isLt
  let t : Fin cfg0.N := ⟨(i 0).val / 1024 * 7 + (i 1).val / 1024, show _ < 224 by omega⟩
  refine ⟨t, flush0_2 t, ?_⟩
  obtain ⟨-, -, ⟨d0, d1⟩⟩ := idx t
  have ht : t.val = (i 0).val / 1024 * 7 + (i 1).val / 1024 := rfl
  have e : i = ((cfg0.win 2).blk t).view.emb (ix2 (⟨(i 0).val % 1024, by omega⟩ : Fin 1024) (⟨(i 1).val % 1024, by omega⟩ : Fin 1024)) := by
    funext a; apply Fin.ext
    match a with
    | ⟨0, _⟩ => show (i 0).val = win0_2.index t (0 : Fin 2) * 1024 + 1 * ((i 0).val % 1024); omega
    | ⟨1, _⟩ => show (i 1).val = win0_2.index t (1 : Fin 2) * 1024 + 1 * ((i 1).val % 1024); omega
  rw [e]; exact View.emb_mem_set _ _

/-- The kernel's run: its result is `G` of the arguments, which it leaves as they were. -/
theorem runP : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans
      (((dats m 0 c).arrAt_eq_of_cover 2 (G (V m c main_arg0) (V m c main_arg1)) (fun t _ => flushed_eq m c t) covered).trans
        (by rw [V_main_arg0, V_main_arg1])), (h c).2⟩) (run_blocks m ρ)

/-- The plain product at an index is the same sum. -/
theorem ref_eq (x : Vec Ideal S32768x2048 .bf16) (w : Vec Ideal S2048x7168 .bf16) :
    truncf .bf16 (Host.dotGeneral (F := Ideal) Cert.InBRefIdeal.dot_S32768x2048_S2048x7168_S32768x7168_1_0_0_1_n_n none
      (extf .f32 x Cert.InBRefIdeal.Gen.facts₀.bitsLt_bf16_f32) (extf .f32 w Cert.InBRefIdeal.Gen.facts₀.bitsLt_bf16_f32)) Cert.InBRefIdeal.Gen.facts₀.bitsLt_bf16_f32 = G x w := by
  funext i
  idx_vars i
  pointwise [G]

/-- The kernel's result is the plain product. -/
theorem algebraic : Cert.algebraic_InBIdeal_InBRefIdeal := by
  intro m ρ m' ρ' _ hagree
  refine ⟨_, runP m ρ, ?_⟩
  refine (θ_run Cert.InBRefIdeal.defs _ _).mono (fun _ h c => ⟨?_, (h c).2⟩) (Cert.InBRefIdeal.Value.run (F := Ideal) m' ρ')
  rw [(h c).1]
  simp only [hagree c]
  exact ref_eq _ _

end Cert.Proof.InB

end
-- ==== Proof.Merge.lean ====
/- The merge of the two branches: each branch is projected, weighted with its gate and the two are added.  The tiled kernel and
   the reference agree at every index. -/
module

public import proofs.«01_k».proof.Proof.Gen.MergeIdeal.Value
public import proofs.«01_k».proof.Proof.Gen.MergeRefIdeal.Run
public import proofs.«01_k».proof.Defs
public import Idealize.ShloMosaic.Lib.Pointwise

@[expose] public section

set_option maxRecDepth 16384

noncomputable section

namespace Cert.Proof.Merge

open Cert.MergeIdeal Cert.MergeIdeal.Gen Cert.MergeIdeal.Value Idealize.ShloMosaic Idealize.ShloMosaic.TcCoe Idealize.SL.Sem

/-- The logistic gate. -/
def gate (z : EReal) : EReal := Ideal.div 1 (1 + Ideal.exp (-z))

/-- The merged branches: gate times projection, added over the two branches. -/
def G (ya yb : Vec Ideal S32768x1024 .bf16) (pa pb : Vec Ideal S1024x2048 .bf16) (q : Vec Ideal S32768x7168 .bf16)
    (b : Vec Ideal S1x4096 .f32) : Vec Ideal S32768x2048 .bf16 := fun i =>
  gate (q (ix2 (i 0) ⟨3072 + (i 1).val, by have := (i 1).isLt; change (i 1).val < 2048 at this; omega⟩)
      + b (ix2 0 ⟨(i 1).val, by have := (i 1).isLt; change (i 1).val < 2048 at this; omega⟩)) * (∑ k : Fin 1024, ya (ix2 (i 0) k) * pa (ix2 k (i 1)))
  + gate (q (ix2 (i 0) ⟨5120 + (i 1).val, by have := (i 1).isLt; change (i 1).val < 2048 at this; omega⟩)
      + b (ix2 0 ⟨2048 + (i 1).val, by have := (i 1).isLt; change (i 1).val < 2048 at this; omega⟩)) * (∑ k : Fin 1024, yb (ix2 (i 0) k) * pb (ix2 k (i 1)))

/-- A start at the origin. -/
theorem hz : (![0, 0] : Fin 2 → Nat) = fun _ => 0 := funext fun a => by fin_cases a <;> rfl

/-- A point's output block is the merge of its blocks. -/
theorem out_apply (x0 x1 : Vec Ideal S1024x1024 .bf16) (x2 x3 x4 x5 : Vec Ideal S1024x1024 .bf16) (x6 x7 : Vec Ideal S1x1024 .f32)
    (a : Fin 1024) (b : Fin 1024) :
    out0_8 x0 x1 x2 x3 x4 x5 x6 x7 (ix2 a b)
      = gate (x4 (ix2 a b) + x6 (ix2 0 b)) * (∑ k : Fin 1024, x0 (ix2 a k) * x2 (ix2 k b))
        + gate (x5 (ix2 a b) + x7 (ix2 0 b)) * (∑ k : Fin 1024, x1 (ix2 a k) * x3 (ix2 k b)) := by
  unfold out0_8
  rw [View.canon_unit_zero hz]
  iterate 8 rw [View.ld_unit_zero hz]
  pointwise [k0_pay1, gate]
  simp only [sub_eq_add_neg, zero_add]

variable (m : (ℓ : Loc nD τ sig) → Buf (Elt Ideal) ℓ) (ρ : Dev nD → PrngReg)

/-- Point `t` works at row block `t / 2` and column block `t % 2`; its gate columns start at blocks 3 and 5. -/
theorem idx : ∀ t : Fin cfg0.N,
    (win0_0.index t (0 : Fin 2) = t.val / 2 ∧ win0_0.index t (1 : Fin 2) = 0)
    ∧ (win0_1.index t (0 : Fin 2) = t.val / 2 ∧ win0_1.index t (1 : Fin 2) = 0)
    ∧ (win0_2.index t (0 : Fin 2) = 0 ∧ win0_2.index t (1 : Fin 2) = t.val % 2)
    ∧ (win0_3.index t (0 : Fin 2) = 0 ∧ win0_3.index t (1 : Fin 2) = t.val % 2)
    ∧ (win0_4.index t (0 : Fin 2) = t.val / 2 ∧ win0_4.index t (1 : Fin 2) = 3 + t.val % 2)
    ∧ (win0_5.index t (0 : Fin 2) = t.val / 2 ∧ win0_5.index t (1 : Fin 2) = 5 + t.val % 2)
    ∧ (win0_6.index t (0 : Fin 2) = 0 ∧ win0_6.index t (1 : Fin 2) = t.val % 2)
    ∧ (win0_7.index t (0 : Fin 2) = 0 ∧ win0_7.index t (1 : Fin 2) = 2 + t.val % 2)
    ∧ (win0_8.index t (0 : Fin 2) = t.val / 2 ∧ win0_8.index t (1 : Fin 2) = t.val % 2) :=
  (by decide +kernel : ∀ t : Fin grid0.N, _)

/-- What point `t` writes back is its block of `G` of the arguments. -/
theorem flushed_eq (c : Dev nD) (t : Fin cfg0.N) :
    (dats m 0 c).flushed 8 t = ((cfg0.win 8).blk t).view.read (Elt Ideal)
      (G (V m c main_arg0) (V m c main_arg1) (V m c main_arg2) (V m c main_arg3) (V m c main_arg4) (V m c main_arg5)) := by
  obtain ⟨⟨a0, a1⟩, ⟨b0, b1⟩, ⟨c0, c1⟩, ⟨d0, d1⟩, ⟨e0, e1⟩, ⟨f0, f1⟩, ⟨g0, g1⟩, ⟨h0, h1⟩, ⟨o0, o1⟩⟩ := idx t
  rw [flushed8]
  funext j
  idx_vars j
  show out0_8 (iblk m c 0 t) (iblk m c 1 t) (iblk m c 2 t) (iblk m c 3 t) (iblk m c 4 t) (iblk m c 5 t) (iblk m c 6 t) (iblk m c 7 t) (ix2 j0 j1)
    = G (V m c main_arg0) (V m c main_arg1) (V m c main_arg2) (V m c main_arg3) (V m c main_arg4) (V m c main_arg5)
        (((cfg0.win 8).blk t).view.emb (ix2 j0 j1))
  rw [out_apply]
  refine congrArg₂ (· + ·)
    (congrArg₂ (· * ·) (congrArg gate (congrArg₂ (· + ·) ?_ ?_)) (Finset.sum_congr rfl fun k _ => congrArg₂ (· * ·) ?_ ?_))
    (congrArg₂ (· * ·) (congrArg gate (congrArg₂ (· + ·) ?_ ?_)) (Finset.sum_congr rfl fun k _ => congrArg₂ (· * ·) ?_ ?_))
  · show V m c main_arg4 (((cfg0.win 4).blk t).view.emb (ix2 j0 j1)) = V m c main_arg4 _
    refine congrArg _ (funext fun a => Fin.ext ?_)
    match a with
    | ⟨0, _⟩ => show win0_4.index t (0 : Fin 2) * 1024 + 1 * j0.val = win0_8.index t (0 : Fin 2) * 1024 + 1 * j0.val; omega
    | ⟨1, _⟩ => show win0_4.index t (1 : Fin 2) * 1024 + 1 * j1.val = 3072 + (win0_8.index t (1 : Fin 2) * 1024 + 1 * j1.val); omega
  · show V m c main_arg5 (((cfg0.win 6).blk t).view.emb (ix2 0 j1)) = V m c main_arg5 _
    refine congrArg _ (funext fun a => Fin.ext ?_)
    match a with
    | ⟨0, _⟩ => show win0_6.index t (0 : Fin 2) * 1 + 1 * 0 = 0; omega
    | ⟨1, _⟩ => show win0_6.index t (1 : Fin 2) * 1024 + 1 * j1.val = win0_8.index t (1 : Fin 2) * 1024 + 1 * j1.val; omega
  · show V m c main_arg0 (((cfg0.win 0).blk t).view.emb (ix2 j0 k)) = V m c main_arg0 _
    refine congrArg _ (funext fun a => Fin.ext ?_)
    match a with
    | ⟨0, _⟩ => show win0_0.index t (0 : Fin 2) * 1024 + 1 * j0.val = win0_8.index t (0 : Fin 2) * 1024 + 1 * j0.val; omega
    | ⟨1, _⟩ => show win0_0.index t (1 : Fin 2) * 1024 + 1 * k.val = k.val; omega
  · show V m c main_arg2 (((cfg0.win 2).blk t).view.emb (ix2 k j1)) = V m c main_arg2 _
    refine congrArg _ (funext fun a => Fin.ext ?_)
    match a with
    | ⟨0, _⟩ => show win0_2.index t (0 : Fin 2) * 1024 + 1 * k.val = k.val; omega
    | ⟨1, _⟩ => show win0_2.index t (1 : Fin 2) * 1024 + 1 * j1.val = win0_8.index t (1 : Fin 2) * 1024 + 1 * j1.val; omega
  · show V m c main_arg4 (((cfg0.win 5).blk t).view.emb (ix2 j0 j1)) = V m c main_arg4 _
    refine congrArg _ (funext fun a => Fin.ext ?_)
    match a with
    | ⟨0, _⟩ => show win0_5.index t (0 : Fin 2) * 1024 + 1 * j0.val = win0_8.index t (0 : Fin 2) * 1024 + 1 * j0.val; omega
    | ⟨1, _⟩ => show win0_5.index t (1 : Fin 2) * 1024 + 1 * j1.val = 5120 + (win0_8.index t (1 : Fin 2) * 1024 + 1 * j1.val); omega
  · show V m c main_arg5 (((cfg0.win 7).blk t).view.emb (ix2 0 j1)) = V m c main_arg5 _
    refine congrArg _ (funext fun a => Fin.ext ?_)
    match a with
    | ⟨0, _⟩ => show win0_7.index t (0 : Fin 2) * 1 + 1 * 0 = 0; omega
    | ⟨1, _⟩ => show win0_7.index t (1 : Fin 2) * 1024 + 1 * j1.val = 2048 + (win0_8.index t (1 : Fin 2) * 1024 + 1 * j1.val); omega
  · show V m c main_arg1 (((cfg0.win 1).blk t).view.emb (ix2 j0 k)) = V m c main_arg1 _
    refine congrArg _ (funext fun a => Fin.ext ?_)
    match a with
    | ⟨0, _⟩ => show win0_1.index t (0 : Fin 2) * 1024 + 1 * j0.val = win0_8.index t (0 : Fin 2) * 1024 + 1 * j0.val; omega
    | ⟨1, _⟩ => show win0_1.index t (1 : Fin 2) * 1024 + 1 * k.val = k.val; omega
  · show V m c main_arg3 (((cfg0.win 3).blk t).view.emb (ix2 k j1)) = V m c main_arg3 _
    refine congrArg _ (funext fun a => Fin.ext ?_)
    match a with
    | ⟨0, _⟩ => show win0_3.index t (0 : Fin 2) * 1024 + 1 * k.val = k.val; omega
    | ⟨1, _⟩ => show win0_3.index t (1 : Fin 2) * 1024 + 1 * j1.val = win0_8.index t (1 : Fin 2) * 1024 + 1 * j1.val; omega

/-- Every index of the result is in the block of the point that its coordinates name. -/
theorem covered (i : S32768x2048.Idx) : ∃ t : Fin cfg0.N, (cfg0.win 8).flush t = true ∧ i ∈ ((cfg0.win 8).blk t).view.set := by
  have h0 : (i 0).val < 32768 := (i 0).isLt
  have h1 : (i 1).val < 2048 := (i 1).isLt
  let t : Fin cfg0.N := ⟨(i 0).val / 1024 * 2 + (i 1).val / 1024, show _ < 64 by omega⟩
  refine ⟨t, flush0_8 t, ?_⟩
  obtain ⟨-, -, -, -, -, -, -, -, ⟨d0, d1⟩⟩ := idx t
  have ht : t.val = (i 0).val / 1024 * 2 + (i 1).val / 1024 := rfl
  have e : i = ((cfg0.win 8).blk t).view.emb (ix2 (⟨(i 0).val % 1024, by omega⟩ : Fin 1024) (⟨(i 1).val % 1024, by omega⟩ : Fin 1024)) := by
    funext a; apply Fin.ext
    match a with
    | ⟨0, _⟩ => show (i 0).val = win0_8.index t (0 : Fin 2) * 1024 + 1 * ((i 0).val % 1024); omega
    | ⟨1, _⟩ => show (i 1).val = win0_8.index t (1 : Fin 2) * 1024 + 1 * ((i 1).val % 1024); omega
  rw [e]; exact View.emb_mem_set _ _

/-- The kernel's run: its result is `G` of the arguments, which it leaves as they were. -/
theorem runP : θ_run defs (onTc (τ := τ) (main (F := Ideal))) ⟨m, fun _ => 0, ρ⟩ fun r => ∀ c : Dev nD,
      r.2.mem ((c : Thread nD τ).loc main_v0)
        = G (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans
      (((dats m 0 c).arrAt_eq_of_cover 8 _ (fun t _ => flushed_eq m c t) covered).trans
        (by rw [V_main_arg0, V_main_arg1, V_main_arg2, V_main_arg3, V_main_arg4, V_main_arg5])), (h c).2⟩) (run_blocks m ρ)

/-- The reference's gates over both branches' columns. -/
def refGate (q : Vec Ideal S32768x7168 .bf16) (b : Vec Ideal S1x4096 .f32) : Vec Ideal Cert.MergeRefIdeal.S32768x4096 .f32 :=
  Host.divf (F := Ideal) (broadcastInDim _ ![] Cert.MergeRefIdeal.Gen.facts₀.bcast_S_S32768x4096 (constant Cert.MergeRefIdeal.S_ .f32 0x3F800000#32))
    (addf (broadcastInDim _ ![] Cert.MergeRefIdeal.Gen.facts₀.bcast_S_S32768x4096 (constant Cert.MergeRefIdeal.S_ .f32 0x3F800000#32))
      (Host.exp (Host.negf (addf
        (extf .f32 (extractStridedSlice Cert.MergeRefIdeal.S32768x4096 ![0, 3072] q Cert.MergeRefIdeal.Gen.facts₀.slices_S32768x7168_S32768x4096_0_3072)
          Cert.MergeRefIdeal.Gen.facts₀.bitsLt_bf16_f32)
        (broadcastInDim Cert.MergeRefIdeal.S32768x4096 ![0, 1] Cert.MergeRefIdeal.Gen.facts₀.bcast_S1x4096_S32768x4096_0_1
          (broadcastInDim Cert.MergeRefIdeal.S1x4096 ![1] Cert.MergeRefIdeal.Gen.facts₀.bcast_S4096_S1x4096_1
            (shapeCast Cert.MergeRefIdeal.S4096 b Cert.MergeRefIdeal.Gen.facts₀.shapeCasts_S1x4096_S4096)))))))

/-- The reference's gate at an index. -/
theorem refGate_apply (q : Vec Ideal S32768x7168 .bf16) (b : Vec Ideal S1x4096 .f32) (i : Fin 32768) (j : Fin 4096) :
    refGate q b (ix2 i j) = gate (q (ix2 i ⟨3072 + j.val, by omega⟩) + b (ix2 0 j)) := by
  unfold refGate gate
  pointwise

/-- The reference's merge of two projected branches with gates `X`. -/
theorem refMerge_apply (X : Vec Ideal Cert.MergeRefIdeal.S32768x4096 .f32) (ya yb : Vec Ideal S32768x1024 .bf16) (pa pb : Vec Ideal S1024x2048 .bf16)
    (i : Fin 32768) (j : Fin 2048) :
    truncf .bf16 (addf
      (mulf (extractStridedSlice Cert.MergeRefIdeal.S32768x2048 ![0, 0] X Cert.MergeRefIdeal.Gen.facts₀.slices_S32768x4096_S32768x2048_0_0)
        (Host.dotGeneral (F := Ideal) Cert.MergeRefIdeal.dot_S32768x1024_S1024x2048_S32768x2048_1_0_0_1_n_n none
          (extf .f32 ya Cert.MergeRefIdeal.Gen.facts₀.bitsLt_bf16_f32) (extf .f32 pa Cert.MergeRefIdeal.Gen.facts₀.bitsLt_bf16_f32)))
      (mulf (extractStridedSlice Cert.MergeRefIdeal.S32768x2048 ![0, 2048] X Cert.MergeRefIdeal.Gen.facts₀.slices_S32768x4096_S32768x2048_0_2048)
        (Host.dotGeneral (F := Ideal) Cert.MergeRefIdeal.dot_S32768x1024_S1024x2048_S32768x2048_1_0_0_1_n_n none
          (extf .f32 yb Cert.MergeRefIdeal.Gen.facts₀.bitsLt_bf16_f32) (extf .f32 pb Cert.MergeRefIdeal.Gen.facts₀.bitsLt_bf16_f32))))
      Cert.MergeRefIdeal.Gen.facts₀.bitsLt_bf16_f32 (ix2 i j)
    = X (ix2 i ⟨j.val, by omega⟩) * (∑ k : Fin 1024, ya (ix2 i k) * pa (ix2 k j))
      + X (ix2 i ⟨2048 + j.val, by omega⟩) * (∑ k : Fin 1024, yb (ix2 i k) * pb (ix2 k j)) := by
  pointwise

/-- The kernel's result is the reference's merge. -/
theorem algebraic : Cert.algebraic_MergeIdeal_MergeRefIdeal := by
  intro m ρ m' ρ' _ hagree
  refine ⟨_, runP m ρ, ?_⟩
  refine (θ_run Cert.MergeRefIdeal.defs _ _).mono (fun _ h c => ⟨?_, (h c).2⟩) (Cert.MergeRefIdeal.Value.run (F := Ideal) m' ρ')
  rw [(h c).1]
  simp only [hagree c]
  funext i
  idx_vars i
  refine (refMerge_apply (refGate _ _) _ _ _ _ i0 i1).trans ?_
  rw [refGate_apply, refGate_apply]
  unfold G
  refine congrArg₂ (· + ·) rfl (congrArg₂ (· * ·) (congrArg gate (congrArg₂ (· + ·) (congrArg _ (congrArg _ (Fin.ext ?_))) rfl)) rfl)
  show 3072 + (2048 + i1.val) = 5120 + i1.val
  omega

end Cert.Proof.Merge

end
-- ==== Proof.OutW.lean ====
/- The output projection with the residual: the tiled kernel's array and the plain product plus the layer's input are both,
   at every index, the input there plus the sum over the 2048 features. -/
module

public import proofs.«01_k».proof.Proof.Gen.OutWIdeal.Value
public import proofs.«01_k».proof.Proof.Gen.OutWRefIdeal.Run
public import proofs.«01_k».proof.Defs
public import Idealize.ShloMosaic.Lib.Pointwise

@[expose] public section

set_option maxRecDepth 16384

noncomputable section

namespace Cert.Proof.OutW

open Cert.OutWIdeal Cert.OutWIdeal.Gen Cert.OutWIdeal.Value Idealize.ShloMosaic Idealize.ShloMosaic.TcCoe Idealize.SL.Sem

/-- The residual at `i` plus row `i 0` of the merged branches times column `i 1` of the weights. -/
def G (y : Vec Ideal S32768x2048 .bf16) (w : Vec Ideal S2048x2048 .bf16) (x : Vec Ideal S32768x2048 .f32) : Vec Ideal S32768x2048 .f32 :=
  fun i => x i + ∑ k : Fin 2048, y (ix2 (i 0) k) * w (ix2 k (i 1))

/-- A start at the origin. -/
theorem hz : (![0, 0] : Fin 2 → Nat) = fun _ => 0 := funext fun a => by fin_cases a <;> rfl

/-- A point's output block is the residual's block plus the product of the two others. -/
theorem out_apply (y : Vec Ideal S1024x2048 .bf16) (w : Vec Ideal S2048x1024 .bf16) (x : Vec Ideal S1024x1024 .f32) (a : Fin 1024) (b : Fin 1024) :
    out0_3 y w x (ix2 a b) = x (ix2 a b) + ∑ k : Fin 2048, y (ix2 a k) * w (ix2 k b) := by
  unfold out0_3
  rw [View.canon_unit_zero hz, View.ld_unit_zero hz, View.ld_unit_zero hz, View.ld_unit_zero hz]
  pointwise [k0_pay1]

variable (m : (ℓ : Loc nD τ sig) → Buf (Elt Ideal) ℓ) (ρ : Dev nD → PrngReg)

/-- Point `t` works at row block `t / 2` and column block `t % 2`. -/
theorem idx : ∀ t : Fin cfg0.N,
    (win0_0.index t (0 : Fin 2) = t.val / 2 ∧ win0_0.index t (1 : Fin 2) = 0)
    ∧ (win0_1.index t (0 : Fin 2) = 0 ∧ win0_1.index t (1 : Fin 2) = t.val % 2)
    ∧ (win0_2.index t (0 : Fin 2) = t.val / 2 ∧ win0_2.index t (1 : Fin 2) = t.val % 2)
    ∧ (win0_3.index t (0 : Fin 2) = t.val / 2 ∧ win0_3.index t (1 : Fin 2) = t.val % 2) :=
  (by decide +kernel : ∀ t : Fin grid0.N, _)

/-- What point `t` writes back is its block of `G` of the arguments. -/
theorem flushed_eq (c : Dev nD) (t : Fin cfg0.N) :
    (dats m 0 c).flushed 3 t
      = ((cfg0.win 3).blk t).view.read (Elt Ideal) (G (V m c main_arg0) (V m c main_arg1) (V m c main_arg2)) := by
  obtain ⟨⟨a0, a1⟩, ⟨b0, b1⟩, ⟨x0, x1⟩, ⟨d0, d1⟩⟩ := idx t
  rw [flushed3]
  funext j
  idx_vars j
  show out0_3 (iblk m c 0 t) (iblk m c 1 t) (iblk m c 2 t) (ix2 j0 j1)
    = G (V m c main_arg0) (V m c main_arg1) (V m c main_arg2) (((cfg0.win 3).blk t).view.emb (ix2 j0 j1))
  rw [out_apply]
  refine congrArg₂ (· + ·) ?_ (Finset.sum_congr rfl fun k _ => congrArg₂ (· * ·) ?_ ?_)
  · show V m c main_arg2 (((cfg0.win 2).blk t).view.emb (ix2 j0 j1)) = V m c main_arg2 _
    refine congrArg _ (funext fun a => Fin.ext ?_)
    match a with
    | ⟨0, _⟩ => show win0_2.index t (0 : Fin 2) * 1024 + 1 * j0.val = win0_3.index t (0 : Fin 2) * 1024 + 1 * j0.val; omega
    | ⟨1, _⟩ => show win0_2.index t (1 : Fin 2) * 1024 + 1 * j1.val = win0_3.index t (1 : Fin 2) * 1024 + 1 * j1.val; omega
  · show V m c main_arg0 (((cfg0.win 0).blk t).view.emb (ix2 j0 k)) = V m c main_arg0 _
    refine congrArg _ (funext fun a => Fin.ext ?_)
    match a with
    | ⟨0, _⟩ => show win0_0.index t (0 : Fin 2) * 1024 + 1 * j0.val = win0_3.index t (0 : Fin 2) * 1024 + 1 * j0.val; omega
    | ⟨1, _⟩ => show win0_0.index t (1 : Fin 2) * 2048 + 1 * k.val = k.val; omega
  · show V m c main_arg1 (((cfg0.win 1).blk t).view.emb (ix2 k j1)) = V m c main_arg1 _
    refine congrArg _ (funext fun a => Fin.ext ?_)
    match a with
    | ⟨0, _⟩ => show win0_1.index t (0 : Fin 2) * 2048 + 1 * k.val = k.val; omega
    | ⟨1, _⟩ => show win0_1.index t (1 : Fin 2) * 1024 + 1 * j1.val = win0_3.index t (1 : Fin 2) * 1024 + 1 * j1.val; omega

/-- Every index of the result is in the block of the point that its coordinates name. -/
theorem covered (i : S32768x2048.Idx) : ∃ t : Fin cfg0.N, (cfg0.win 3).flush t = true ∧ i ∈ ((cfg0.win 3).blk t).view.set := by
  have h0 : (i 0).val < 32768 := (i 0).isLt
  have h1 : (i 1).val < 2048 := (i 1).isLt
  let t : Fin cfg0.N := ⟨(i 0).val / 1024 * 2 + (i 1).val / 1024, show _ < 64 by omega⟩
  refine ⟨t, flush0_3 t, ?_⟩
  obtain ⟨-, -, -, ⟨d0, d1⟩⟩ := idx t
  have ht : t.val = (i 0).val / 1024 * 2 + (i 1).val / 1024 := rfl
  have e : i = ((cfg0.win 3).blk t).view.emb (ix2 (⟨(i 0).val % 1024, by omega⟩ : Fin 1024) (⟨(i 1).val % 1024, by omega⟩ : Fin 1024)) := by
    funext a; apply Fin.ext
    match a with
    | ⟨0, _⟩ => show (i 0).val = win0_3.index t (0 : Fin 2) * 1024 + 1 * ((i 0).val % 1024); omega
    | ⟨1, _⟩ => show (i 1).val = win0_3.index t (1 : Fin 2) * 1024 + 1 * ((i 1).val % 1024); omega
  rw [e]; exact View.emb_mem_set _ _

/-- The kernel's run: its result is `G` of the arguments, which it leaves as they were. -/
theorem runP : θ_run defs (onTc (τ := τ) (main (F := Ideal))) ⟨m, fun _ => 0, ρ⟩ fun r => ∀ c : Dev nD,
      r.2.mem ((c : Thread nD τ).loc main_v0)
        = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans
      (((dats m 0 c).arrAt_eq_of_cover 3 _ (fun t _ => flushed_eq m c t) covered).trans
        (by rw [V_main_arg0, V_main_arg1, V_main_arg2])), (h c).2⟩) (run_blocks m ρ)

/-- The kernel's result is the layer's input plus the plain product. -/
theorem algebraic : Cert.algebraic_OutWIdeal_OutWRefIdeal := by
  intro m ρ m' ρ' _ hagree
  refine ⟨_, runP m ρ, ?_⟩
  refine (θ_run Cert.OutWRefIdeal.defs _ _).mono (fun _ h c => ⟨?_, (h c).2⟩) (Cert.OutWRefIdeal.Value.run (F := Ideal) m' ρ')
  rw [(h c).1]
  simp only [hagree c]
  funext i
  idx_vars i
  pointwise [G]

end Cert.Proof.OutW

end
-- ==== Proof.Post.lean ====
/- The post-processing of the two branches: the first branch's group norm, bonus and gate, and the second branch's per-head
   norm and output gate.  The kernel takes the group's sums by two products with the heads' indicator matrix, which the host
   operations before it compute; the reference takes them on the reshaped array. -/
module

public import proofs.«01_k».proof.Proof.Gen.PostIdeal.Value
public import proofs.«01_k».proof.Defs
public import proofs.«01_k».proof.Proof.MlHead
public import Idealize.ShloMosaic.Lib.Pointwise

@[expose] public section

set_option maxRecDepth 16384

noncomputable section

namespace Cert.Proof.Post

open Cert.PostIdeal Cert.PostIdeal.Gen Cert.PostIdeal.Value Idealize.ShloMosaic Idealize.ShloMosaic.TcCoe Idealize.SL.Sem

/-- Column `l` of the group of 64 that column `c` is in. -/
def grp (c : Fin 1024) (l : Fin 64) : Fin 1024 := ⟨c.val / 64 * 64 + l.val, by omega⟩

/-- Column `l` of the head of 256 that column `c` is in. -/
def head (c : Fin 1024) (l : Fin 256) : Fin 1024 := ⟨c.val / 256 * 256 + l.val, by omega⟩

/-- The mean over a column's group. -/
def mean (f : Fin 1024 → EReal) (c : Fin 1024) : EReal := Ideal.div (∑ l : Fin 64, f (grp c l)) (Ideal.ofBits .f32 0x42800000#32)

/-- A row less the means of its groups. -/
def cen (f : Fin 1024 → EReal) (c : Fin 1024) : EReal := f c - mean f c

/-- The group norm of a row. -/
def gnorm (f : Fin 1024 → EReal) (c : Fin 1024) : EReal :=
  cen f c * FloatOps.rsqrt (F := Ideal) (φ := .f32) (mean (fun k => cen f k * cen f k) c + Ideal.ofBits .f32 0x3A27C5AC#32)

/-- The per-head norm of a row. -/
def hnorm (f : Fin 1024 → EReal) (c : Fin 1024) : EReal :=
  f c * FloatOps.rsqrt (F := Ideal) (φ := .f32)
    (Ideal.div (∑ l : Fin 256, f (head c l) * f (head c l)) (Ideal.ofBits .f32 0x43800000#32) + Ideal.ofBits .f32 0x358637BD#32)

/-- The logistic gate. -/
def gate (z : EReal) : EReal := Ideal.div 1 (1 + Ideal.exp (-z))

/-- The first branch's result. -/
def GA (yf yb : Vec Ideal S32768x1024 .f32) (bo g : Vec Ideal S32768x1024 .bf16) (lw lb : Vec Ideal S1x1024 .f32) : Vec Ideal S32768x1024 .bf16 :=
  fun i => (gnorm (fun k => yf (ix2 (i 0) k) + yb (ix2 (i 0) k)) (i 1) * lw (ix2 0 (i 1)) + lb (ix2 0 (i 1)) + bo i) * g i

/-- The second branch's result. -/
def GB (hf hb : Vec Ideal S32768x1024 .f32) (vo : Vec Ideal S32768x7168 .bf16) (nw : Vec Ideal S1x1024 .f32) : Vec Ideal S32768x1024 .bf16 :=
  fun i => hnorm (fun k => hf (ix2 (i 0) k) + hb (ix2 (i 0) k)) (i 1) * nw (ix2 0 (i 1))
    * gate (vo (ix2 (i 0) ⟨2048 + (i 1).val, by have := (i 1).isLt; change (i 1).val < 1024 at this; omega⟩))

/-- The heads' indicator. -/
def ind (c : Fin 1024) (h : Fin 128) : EReal := if c.val / 64 = h.val then 1 else 0

/-- A sum against one head's indicator is the sum over the head's columns. -/
theorem sum_ind (f : Fin 1024 → EReal) (c : Fin 1024) (h : Fin 128) (hc : c.val / 64 = h.val) :
    ∑ k : Fin 1024, f k * ind k h = ∑ l : Fin 64, f (grp c l) := by
  have e := (Equiv.sum_comp (finProdFinEquiv (m := 16) (n := 64)) (fun k : Fin (16 * 64) => f (k.cast rfl) * ind (k.cast rfl) h)).symm
  refine e.trans ?_
  rw [Fintype.sum_prod_type, Finset.sum_eq_single (⟨h.val, by omega⟩ : Fin 16)]
  · refine Finset.sum_congr rfl fun l _ => ?_
    have hk : (finProdFinEquiv ((⟨h.val, by omega⟩ : Fin 16), l)).cast rfl = grp c l := Fin.ext (by
      show l.val + 64 * h.val = c.val / 64 * 64 + l.val; omega)
    rw [hk]
    unfold ind
    rw [if_pos (by show (c.val / 64 * 64 + l.val) / 64 = h.val; omega), mul_one]
  · intro a _ ha
    refine Finset.sum_eq_zero fun l _ => ?_
    unfold ind
    rw [if_neg (by
      show ¬ (l.val + 64 * a.val) / 64 = h.val
      intro hh; exact ha (Fin.ext (by show a.val = h.val; omega))), mul_zero]
  · exact fun hn => absurd (Finset.mem_univ _) hn

/-- The two products with the indicator give each column the sum over its group. -/
theorem sum_sel (f : Fin 1024 → EReal) (c : Fin 1024) :
    ∑ h : Fin 128, (∑ k : Fin 1024, f k * ind k h) * ind c h = ∑ l : Fin 64, f (grp c l) := by
  rw [Finset.sum_eq_single (⟨c.val / 64, by omega⟩ : Fin 128)]
  · rw [sum_ind f c _ rfl]
    unfold ind
    rw [if_pos rfl, mul_one]
  · intro h _ hh
    unfold ind
    rw [if_neg (fun e => hh (Fin.ext e.symm)), mul_zero]
  · exact fun hn => absurd (Finset.mem_univ _) hn

/-- Multiplying with a sixty-fourth is dividing by sixty-four. -/
theorem mul_inv64 (x : EReal) : x * Ideal.ofBits .f32 0x3C800000#32 = Ideal.div x (Ideal.ofBits .f32 0x42800000#32) := by
  rw [Cert.Proof.Ml.f_inv64, Cert.Proof.Ml.f_64, Ideal.div_coe (by norm_num : (64 : ℝ) ≠ 0)]

/-- A start at the origin. -/
theorem hz : (![0, 0] : Fin 2 → Nat) = fun _ => 0 := funext fun a => by fin_cases a <;> rfl

variable (m : (ℓ : Loc nD τ sig) → Buf (Elt Ideal) ℓ) (ρ : Dev nD → PrngReg)

/-- The first branch's centred block: the block's row less its groups' means. -/
def vCen (e : FVec Ideal S1024x128 .bf16) (et : FVec Ideal S128x1024 .bf16) (y : FVec Ideal S256x1024 .f32) : FVec Ideal S256x1024 .f32 :=
  subf y (mulf (matmul dot_S256x128_S128x1024_S256x1024_1_0_0_1_n_n none
    (truncf .bf16 (matmul dot_S256x1024_S1024x128_S256x128_1_0_0_1_n_n none (truncf .bf16 y bitsLt_bf16_f32) e (constant S256x128 .f32 0x00000000#32)) bitsLt_bf16_f32)
    et (constant S256x1024 .f32 0x00000000#32)) (broadcast S256x1024 (Scalar.ofBits .f32 0x3C800000#32)))

/-- A point's means, from the indicator's two products. -/
theorem mean_apply (e : FVec Ideal S1024x128 .bf16) (et : FVec Ideal S128x1024 .bf16)
    (he : ∀ c h, e (ix2 c h) = ind c h) (het : ∀ h c, et (ix2 h c) = ind c h) (y : FVec Ideal S256x1024 .f32) (a : Fin 256) (b : Fin 1024) :
    mulf (matmul dot_S256x128_S128x1024_S256x1024_1_0_0_1_n_n none
      (truncf .bf16 (matmul dot_S256x1024_S1024x128_S256x128_1_0_0_1_n_n none (truncf .bf16 y bitsLt_bf16_f32) e (constant S256x128 .f32 0x00000000#32)) bitsLt_bf16_f32)
      et (constant S256x1024 .f32 0x00000000#32)) (broadcast S256x1024 (Scalar.ofBits .f32 0x3C800000#32)) (ix2 a b)
      = mean (fun k => y (ix2 a k)) b := by
  pointwise
  simp only [he, het]
  rw [sum_sel, mul_inv64]
  rfl

/-- A point's centred block at an entry. -/
theorem vCen_apply (e : FVec Ideal S1024x128 .bf16) (et : FVec Ideal S128x1024 .bf16)
    (he : ∀ c h, e (ix2 c h) = ind c h) (het : ∀ h c, et (ix2 h c) = ind c h) (y : FVec Ideal S256x1024 .f32) (a : Fin 256) (b : Fin 1024) :
    vCen e et y (ix2 a b) = cen (fun k => y (ix2 a k)) b :=
  congrArg (fun z => y (ix2 a b) - z) (mean_apply e et he het y a b)

/-- A point's normed first branch before the gate, over its centred block `yc` and its variances `v`. -/
def vA (yc v : FVec Ideal S256x1024 .f32) (lw lb : FVec Ideal S1x1024 .f32) (bo : FVec Ideal S256x1024 .bf16) : FVec Ideal S256x1024 .f32 :=
  addf (addf (mulf (mulf yc (rsqrt (addf v (broadcast S256x1024 (Scalar.ofBits .f32 0x3A27C5AC#32))))) (broadcastTo S256x1024 lw broadcasts_S1x1024_S256x1024))
    (broadcastTo S256x1024 lb broadcasts_S1x1024_S256x1024)) (extf .f32 bo bitsLt_bf16_f32)

/-- The normed first branch at an entry. -/
theorem vA_apply (yc v : FVec Ideal S256x1024 .f32) (lw lb : FVec Ideal S1x1024 .f32) (bo : FVec Ideal S256x1024 .bf16) (a : Fin 256) (b : Fin 1024) :
    vA yc v lw lb bo (ix2 a b) = yc (ix2 a b) * FloatOps.rsqrt (F := Ideal) (φ := .f32) (v (ix2 a b) + Ideal.ofBits .f32 0x3A27C5AC#32) * lw (ix2 0 b) + lb (ix2 0 b) + bo (ix2 a b) := by
  pointwise [vA]

/-- A point's first output block. -/
theorem outA_apply (x0 x1 : FVec Ideal S256x1024 .f32) (x2 x3 : FVec Ideal S256x1024 .bf16) (x4 x5 : FVec Ideal S1x1024 .f32)
    (x6 : FVec Ideal S1024x128 .bf16) (x7 : FVec Ideal S128x1024 .bf16) (x8 x9 : FVec Ideal S256x1024 .f32) (x10 : FVec Ideal S256x1024 .bf16)
    (x11 : FVec Ideal S1x1024 .f32) (he : ∀ c h, x6 (ix2 c h) = ind c h) (het : ∀ h c, x7 (ix2 h c) = ind c h) (a : Fin 256) (b : Fin 1024) :
    out0_12 (F := Ideal) x0 x1 x2 x3 x4 x5 x6 x7 x8 x9 x10 x11 (ix2 a b)
      = (gnorm (fun k => x0 (ix2 a k) + x1 (ix2 a k)) b * x4 (ix2 0 b) + x5 (ix2 0 b) + x2 (ix2 a b)) * x3 (ix2 a b) := by
  unfold out0_12
  rw [View.canon_unit_zero hz]
  iterate 8 rw [View.ld_unit_zero hz]
  have e6 : shapeCast S1024x128 x6 shapeCasts_S1024x128_S1024x128 = x6 := by funext i; idx_vars i; pointwise
  have e7 : shapeCast S128x1024 x7 shapeCasts_S128x1024_S128x1024 = x7 := by funext i; idx_vars i; pointwise
  unfold k0_pay4 k0_pay2 k0_pay3
  dsimp only
  rw [e6, e7]
  have hc : ∀ k, vCen x6 x7 (addf x0 x1) (ix2 a k) = cen (fun k => x0 (ix2 a k) + x1 (ix2 a k)) k := fun k => vCen_apply x6 x7 he het _ a k
  refine congrArg (· * x3 (ix2 a b)) ((vA_apply (vCen x6 x7 (addf x0 x1)) _ x4 x5 x2 a b).trans ?_)
  rw [mean_apply x6 x7 he het, hc]
  refine congrArg (fun f => cen (fun k => x0 (ix2 a k) + x1 (ix2 a k)) b * FloatOps.rsqrt (F := Ideal) (φ := .f32) (mean f b + Ideal.ofBits .f32 0x3A27C5AC#32)
    * x4 (ix2 0 b) + x5 (ix2 0 b) + x2 (ix2 a b)) (funext fun k => ?_)
  show vCen x6 x7 (addf x0 x1) (ix2 a k) * vCen x6 x7 (addf x0 x1) (ix2 a k) = _
  rw [hc]

/-- The norm at column `b` of head `n`. -/
theorem hnorm_at (f : Fin 1024 → EReal) (n : Fin 4) (b : Fin 256) : hnorm f ⟨n.val * 256 + b.val, by omega⟩
    = f ⟨n.val * 256 + b.val, by omega⟩ * FloatOps.rsqrt (F := Ideal) (φ := .f32)
      (Ideal.div (∑ l : Fin 256, f ⟨n.val * 256 + l.val, by omega⟩ * f ⟨n.val * 256 + l.val, by omega⟩) (Ideal.ofBits .f32 0x43800000#32)
        + Ideal.ofBits .f32 0x358637BD#32) := by
  have h : ∀ l, head ⟨n.val * 256 + b.val, by omega⟩ l = ⟨n.val * 256 + l.val, by omega⟩ := fun l => Fin.ext (by
    show (n.val * 256 + b.val) / 256 * 256 + l.val = n.val * 256 + l.val; omega)
  unfold hnorm
  simp only [h]

/-- One head's part of a point's second output, at an entry. -/
theorem part_apply (x8 x9 : FVec Ideal S256x1024 .f32) (x11 : FVec Ideal S1x1024 .f32) (x10 : FVec Ideal S256x1024 .bf16) (n : Fin 4) (a b : Fin 256) :
    Cat13_0 (F := Ideal) x8 x9 x11 x10 n (ix2 a b) = hnorm (fun k => x8 (ix2 a k) + x9 (ix2 a k)) ⟨n.val * 256 + b.val, by omega⟩ := by
  rw [hnorm_at]
  match n with
  | ⟨0, _⟩ => pointwise
  | ⟨1, _⟩ => pointwise
  | ⟨2, _⟩ => pointwise
  | ⟨3, _⟩ => pointwise

/-- A point's second output block. -/
theorem outB_apply (x0 x1 : FVec Ideal S256x1024 .f32) (x2 x3 : FVec Ideal S256x1024 .bf16) (x4 x5 : FVec Ideal S1x1024 .f32)
    (x6 : FVec Ideal S1024x128 .bf16) (x7 : FVec Ideal S128x1024 .bf16) (x8 x9 : FVec Ideal S256x1024 .f32) (x10 : FVec Ideal S256x1024 .bf16)
    (x11 : FVec Ideal S1x1024 .f32) (a : Fin 256) (b : Fin 1024) :
    out0_13 (F := Ideal) x0 x1 x2 x3 x4 x5 x6 x7 x8 x9 x10 x11 (ix2 a b)
      = hnorm (fun k => x8 (ix2 a k) + x9 (ix2 a k)) b * x11 (ix2 0 b) * gate (x10 (ix2 a b)) := by
  unfold out0_13
  iterate 4 rw [View.ld_unit_zero hz]
  rw [canon13_eq]
  show Cat13_0 (F := Ideal) x8 x9 x11 x10 ⟨b.val / 256, by omega⟩ (ix13_0 (ix2 a b)) * x11 (ix13_1 (ix2 a b))
    * Ideal.div (Ideal.ofBits .f32 0x3F800000#32) (Ideal.ofBits .f32 0x3F800000#32 + Ideal.exp (Ideal.ofBits .f32 0x00000000#32 - x10 (ix13_2 (ix2 a b)))) = _
  have i0 : ix13_0 (ix2 a b) = ix2 a (⟨b.val % 256, by omega⟩ : Fin 256) := by
    funext q; match q with | ⟨0, _⟩ => rfl | ⟨1, _⟩ => rfl
  have i1 : ix13_1 (ix2 a b) = ix2 0 b := by
    funext q; match q with | ⟨0, _⟩ => rfl | ⟨1, _⟩ => rfl
  have i2 : ix13_2 (ix2 a b) = ix2 a b := by
    funext q; match q with | ⟨0, _⟩ => rfl | ⟨1, _⟩ => rfl
  have hb : (⟨b.val / 256 * 256 + b.val % 256, by omega⟩ : Fin 1024) = b := Fin.ext (by show b.val / 256 * 256 + b.val % 256 = b.val; omega)
  rw [i0, i1, i2, part_apply, hb, Ideal.ofBits_one_f32, Ideal.ofBits_zero_f32, zero_sub]
  rfl

/-- The host's operations that make the indicator. -/
theorem v8_eq (c : Dev nD) : V m c main_v8 = uitofp (F := Ideal) .bf16 (cmpi .eq (broadcastInDim S1024x128 ![0, 1] bcast_S1024x1_S1024x128_0_1 (V m c main_v2))
      (broadcastInDim S1024x128 ![0, 1] bcast_S1x128_S1024x128_0_1 (broadcastInDim S1x128 ![1] bcast_S128_S1x128_1 (iotaInDim S128 32 0)))) := by
  after_results_simp <;> rfl

set_option maxHeartbeats 4000000 in
/-- The indicator that the kernel is given. -/
theorem sel_eq (c : Dev nD) (a : Fin 1024) (h : Fin 128) : V m c main_v8 (ix2 a h) = ind a h := by
  rw [v8_eq]
  have f : ∀ a : Fin 1024, V m c main_v2 (ix2 a 0) = BitVec.ofNat 32 (a.val / 64) := by
    have e2 : V m c main_v2 = select (andi (cmpi .ne (signi (broadcastInDim S1024x1 ![0] bcast_S1024_S1024x1_0 (iotaInDim S1024 32 0)))
        (broadcastInDim S1024x1 ![] bcast_S_S1024x1 (signi (constantI S_ 32 64#32))))
        (cmpi .ne (Host.remsi (broadcastInDim S1024x1 ![0] bcast_S1024_S1024x1_0 (iotaInDim S1024 32 0)) (broadcastInDim S1024x1 ![] bcast_S_S1024x1 (constantI S_ 32 64#32)))
          (broadcastInDim S1024x1 ![] bcast_S_S1024x1 (constantI S_ 32 0#32))))
        (subi (Host.divsi (broadcastInDim S1024x1 ![0] bcast_S1024_S1024x1_0 (iotaInDim S1024 32 0)) (broadcastInDim S1024x1 ![] bcast_S_S1024x1 (constantI S_ 32 64#32)))
          (broadcastInDim S1024x1 ![] bcast_S_S1024x1 (constantI S_ 32 1#32)))
        (Host.divsi (broadcastInDim S1024x1 ![0] bcast_S1024_S1024x1_0 (iotaInDim S1024 32 0)) (broadcastInDim S1024x1 ![] bcast_S_S1024x1 (constantI S_ 32 64#32))) := by
      after_results_simp <;> rfl
    rw [e2]
    intro a
    pointwise
    exact (by decide +kernel : ∀ a : Fin 1024, Scalar.select
      (IntOp.andi (IntOp.cmpi CmpIPredicate.ne (if BitVec.ofNat 32 a.val = 0 then 0 else if (BitVec.ofNat 32 a.val).msb = true then -1 else 1)
          (if 64#32 = 0 then 0 else if (64#32).msb = true then -1 else 1))
        (IntOp.cmpi CmpIPredicate.ne (IntOp.remsi ArithUnit.host (BitVec.ofNat 32 a.val) 64#32) 0#32))
      (IntOp.subi (IntOp.divsi ArithUnit.host (BitVec.ofNat 32 a.val) 64#32) 1#32)
      (IntOp.divsi ArithUnit.host (BitVec.ofNat 32 a.val) 64#32) = BitVec.ofNat 32 (a.val / 64)) a
  pointwise
  rw [f]
  unfold ind
  by_cases hh : a.val / 64 = h.val
  · rw [if_pos hh, hh]
    have : IntOp.cmpi CmpIPredicate.eq (BitVec.ofNat 32 h.val) (BitVec.ofNat 32 h.val) = 1#1 := by simp [IntOp.cmpi]
    rw [this]
    show (((1#1 : BitVec 1).toNat : ℝ) : EReal) = 1
    simp
  · rw [if_neg hh]
    have : IntOp.cmpi CmpIPredicate.eq (BitVec.ofNat 32 (a.val / 64)) (BitVec.ofNat 32 h.val) = 0#1 := by
      have hne : BitVec.ofNat 32 (a.val / 64) ≠ BitVec.ofNat 32 h.val := fun e => hh (by
        have := congrArg BitVec.toNat e
        rw [BitVec.toNat_ofNat, BitVec.toNat_ofNat] at this
        omega)
      simp only [IntOp.cmpi]
      rw [beq_false_of_ne hne]
      rfl
    rw [this]
    show (((0#1 : BitVec 1).toNat : ℝ) : EReal) = 0
    simp

/-- An entry of a transpose. -/
theorem tr_apply (x : FVec Ideal S1024x128 .bf16) (h : Fin 128) (a : Fin 1024) :
    transpose S128x1024 [1, 0] x transposes_S1024x128_S128x1024_1_0 (ix2 h a) = x (ix2 a h) := by
  pointwise

/-- The indicator's transpose that the kernel is given. -/
theorem selT_eq (c : Dev nD) (h : Fin 128) (a : Fin 1024) : V m c main_v9 (ix2 h a) = ind a h := by
  have e : V m c main_v9 = transpose S128x1024 [1, 0] (uitofp (F := Ideal) .bf16 (cmpi .eq (broadcastInDim S1024x128 ![0, 1] bcast_S1024x1_S1024x128_0_1 (V m c main_v2))
      (broadcastInDim S1024x128 ![0, 1] bcast_S1x128_S1024x128_0_1 (broadcastInDim S1x128 ![1] bcast_S128_S1x128_1 (iotaInDim S128 32 0)))))
      transposes_S1024x128_S128x1024_1_0 := by
    after_results_simp <;> rfl
  rw [e]
  refine (tr_apply _ h a).trans ?_
  rw [← v8_eq]
  exact sel_eq m c a h

/-- Point `t` works at row block `t`; the indicator and the gains are whole, and the output gate's columns start at block 2. -/
theorem idx : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 2)
    ∧ (win0_11.index t (0 : Fin 2) = 0 ∧ win0_11.index t (1 : Fin 2) = 0)
    ∧ (win0_12.index t (0 : Fin 2) = t.val ∧ win0_12.index t (1 : Fin 2) = 0)
    ∧ (win0_13.index t (0 : Fin 2) = t.val ∧ win0_13.index t (1 : Fin 2) = 0) :=
  (by decide +kernel : ∀ t : Fin grid0.N, _)

/-- Row `a` of point `t`'s blocks. -/
def row (t : Fin cfg0.N) (a : Fin 256) : Fin 32768 := ⟨t.val * 256 + a.val, by have : t.val < 128 := t.isLt; omega⟩

set_option maxHeartbeats 2000000 in
/-- What point `t` writes back to the first result is its block of `GA` of the arguments. -/
theorem flushedA (c : Dev nD) (t : Fin cfg0.N) :
    (dats m 0 c).flushed 12 t = ((cfg0.win 12).blk t).view.read (Elt Ideal)
      (GA (V m c main_arg0) (V m c main_arg1) (V m c main_arg2) (V m c main_arg3) (V m c main_arg4) (V m c main_arg5)) := by
  obtain ⟨⟨a0, a1⟩, ⟨b0, b1⟩, ⟨c0, c1⟩, ⟨d0, d1⟩, ⟨e0, e1⟩, ⟨f0, f1⟩, ⟨g0, g1⟩, ⟨h0, h1⟩, -, -, -, -, ⟨o0, o1⟩, -⟩ := idx t
  rw [flushed12]
  funext j
  idx_vars j
  show out0_12 (F := Ideal) (iblk m c 0 t) (iblk m c 1 t) (iblk m c 2 t) (iblk m c 3 t) (iblk m c 4 t) (iblk m c 5 t) (iblk m c 6 t) (iblk m c 7 t) (iblk m c 8 t)
      (iblk m c 9 t) (iblk m c 10 t) (iblk m c 11 t) (ix2 j0 j1)
    = GA (V m c main_arg0) (V m c main_arg1) (V m c main_arg2) (V m c main_arg3) (V m c main_arg4) (V m c main_arg5)
        (((cfg0.win 12).blk t).view.emb (ix2 j0 j1))
  have he : ∀ (x : Fin 1024) (h : Fin 128), iblk m c 6 t (ix2 x h) = ind x h := fun x h => by
    rw [← sel_eq m c x h]
    show V m c main_v8 (((cfg0.win 6).blk t).view.emb (ix2 x h)) = V m c main_v8 _
    refine congrArg _ (funext fun a => Fin.ext ?_)
    match a with
    | ⟨0, _⟩ => show win0_6.index t (0 : Fin 2) * 1024 + 1 * x.val = x.val; omega
    | ⟨1, _⟩ => show win0_6.index t (1 : Fin 2) * 128 + 1 * h.val = h.val; omega
  have het : ∀ (h : Fin 128) (x : Fin 1024), iblk m c 7 t (ix2 h x) = ind x h := fun h x => by
    rw [← selT_eq m c h x]
    show V m c main_v9 (((cfg0.win 7).blk t).view.emb (ix2 h x)) = V m c main_v9 _
    refine congrArg _ (funext fun a => Fin.ext ?_)
    match a with
    | ⟨0, _⟩ => show win0_7.index t (0 : Fin 2) * 128 + 1 * h.val = h.val; omega
    | ⟨1, _⟩ => show win0_7.index t (1 : Fin 2) * 1024 + 1 * x.val = x.val; omega
  have ho : ((cfg0.win 12).blk t).view.emb (ix2 j0 j1) = ix2 (row t j0) j1 := funext fun a => Fin.ext (by
    match a with
    | ⟨0, _⟩ => show win0_12.index t (0 : Fin 2) * 256 + 1 * j0.val = t.val * 256 + j0.val; omega
    | ⟨1, _⟩ => show win0_12.index t (1 : Fin 2) * 1024 + 1 * j1.val = j1.val; omega)
  rw [outA_apply _ _ _ _ _ _ _ _ _ _ _ _ he het, ho]
  refine congrArg₂ (· * ·) (congrArg₂ (· + ·) (congrArg₂ (· + ·) (congrArg₂ (· * ·)
    (congrArg (fun f => gnorm f j1) (funext fun k => congrArg₂ (· + ·) ?_ ?_)) ?_) ?_) ?_) ?_
  · show V m c main_arg0 (((cfg0.win 0).blk t).view.emb (ix2 j0 k)) = V m c main_arg0 _
    refine congrArg _ (funext fun a => Fin.ext ?_)
    match a with
    | ⟨0, _⟩ => show win0_0.index t (0 : Fin 2) * 256 + 1 * j0.val = t.val * 256 + j0.val; omega
    | ⟨1, _⟩ => show win0_0.index t (1 : Fin 2) * 1024 + 1 * k.val = k.val; omega
  · show V m c main_arg1 (((cfg0.win 1).blk t).view.emb (ix2 j0 k)) = V m c main_arg1 _
    refine congrArg _ (funext fun a => Fin.ext ?_)
    match a with
    | ⟨0, _⟩ => show win0_1.index t (0 : Fin 2) * 256 + 1 * j0.val = t.val * 256 + j0.val; omega
    | ⟨1, _⟩ => show win0_1.index t (1 : Fin 2) * 1024 + 1 * k.val = k.val; omega
  · show V m c main_arg4 (((cfg0.win 4).blk t).view.emb (ix2 0 j1)) = V m c main_arg4 _
    refine congrArg _ (funext fun a => Fin.ext ?_)
    match a with
    | ⟨0, _⟩ => show win0_4.index t (0 : Fin 2) * 1 + 1 * 0 = 0; omega
    | ⟨1, _⟩ => show win0_4.index t (1 : Fin 2) * 1024 + 1 * j1.val = j1.val; omega
  · show V m c main_arg5 (((cfg0.win 5).blk t).view.emb (ix2 0 j1)) = V m c main_arg5 _
    refine congrArg _ (funext fun a => Fin.ext ?_)
    match a with
    | ⟨0, _⟩ => show win0_5.index t (0 : Fin 2) * 1 + 1 * 0 = 0; omega
    | ⟨1, _⟩ => show win0_5.index t (1 : Fin 2) * 1024 + 1 * j1.val = j1.val; omega
  · show V m c main_arg2 (((cfg0.win 2).blk t).view.emb (ix2 j0 j1)) = V m c main_arg2 _
    refine congrArg _ (funext fun a => Fin.ext ?_)
    match a with
    | ⟨0, _⟩ => show win0_2.index t (0 : Fin 2) * 256 + 1 * j0.val = t.val * 256 + j0.val; omega
    | ⟨1, _⟩ => show win0_2.index t (1 : Fin 2) * 1024 + 1 * j1.val = j1.val; omega
  · show V m c main_arg3 (((cfg0.win 3).blk t).view.emb (ix2 j0 j1)) = V m c main_arg3 _
    refine congrArg _ (funext fun a => Fin.ext ?_)
    match a with
    | ⟨0, _⟩ => show win0_3.index t (0 : Fin 2) * 256 + 1 * j0.val = t.val * 256 + j0.val; omega
    | ⟨1, _⟩ => show win0_3.index t (1 : Fin 2) * 1024 + 1 * j1.val = j1.val; omega

set_option maxHeartbeats 2000000 in
/-- What point `t` writes back to the second result is its block of `GB` of the arguments. -/
theorem flushedB (c : Dev nD) (t : Fin cfg0.N) :
    (dats m 0 c).flushed 13 t = ((cfg0.win 13).blk t).view.read (Elt Ideal)
      (GB (V m c main_arg6) (V m c main_arg7) (V m c main_arg8) (V m c main_arg9)) := by
  obtain ⟨-, -, -, -, -, -, -, -, ⟨a0, a1⟩, ⟨b0, b1⟩, ⟨c0, c1⟩, ⟨d0, d1⟩, -, ⟨o0, o1⟩⟩ := idx t
  rw [flushed13]
  funext j
  idx_vars j
  show out0_13 (F := Ideal) (iblk m c 0 t) (iblk m c 1 t) (iblk m c 2 t) (iblk m c 3 t) (iblk m c 4 t) (iblk m c 5 t) (iblk m c 6 t) (iblk m c 7 t) (iblk m c 8 t)
      (iblk m c 9 t) (iblk m c 10 t) (iblk m c 11 t) (ix2 j0 j1)
    = GB (V m c main_arg6) (V m c main_arg7) (V m c main_arg8) (V m c main_arg9) (((cfg0.win 13).blk t).view.emb (ix2 j0 j1))
  have ho : ((cfg0.win 13).blk t).view.emb (ix2 j0 j1) = ix2 (row t j0) j1 := funext fun a => Fin.ext (by
    match a with
    | ⟨0, _⟩ => show win0_13.index t (0 : Fin 2) * 256 + 1 * j0.val = t.val * 256 + j0.val; omega
    | ⟨1, _⟩ => show win0_13.index t (1 : Fin 2) * 1024 + 1 * j1.val = j1.val; omega)
  rw [outB_apply, ho]
  refine congrArg₂ (· * ·) (congrArg₂ (· * ·) (congrArg (fun f => hnorm f j1) (funext fun k => congrArg₂ (· + ·) ?_ ?_)) ?_) (congrArg gate ?_)
  · show V m c main_arg6 (((cfg0.win 8).blk t).view.emb (ix2 j0 k)) = V m c main_arg6 _
    refine congrArg _ (funext fun a => Fin.ext ?_)
    match a with
    | ⟨0, _⟩ => show win0_8.index t (0 : Fin 2) * 256 + 1 * j0.val = t.val * 256 + j0.val; omega
    | ⟨1, _⟩ => show win0_8.index t (1 : Fin 2) * 1024 + 1 * k.val = k.val; omega
  · show V m c main_arg7 (((cfg0.win 9).blk t).view.emb (ix2 j0 k)) = V m c main_arg7 _
    refine congrArg _ (funext fun a => Fin.ext ?_)
    match a with
    | ⟨0, _⟩ => show win0_9.index t (0 : Fin 2) * 256 + 1 * j0.val = t.val * 256 + j0.val; omega
    | ⟨1, _⟩ => show win0_9.index t (1 : Fin 2) * 1024 + 1 * k.val = k.val; omega
  · show V m c main_arg9 (((cfg0.win 11).blk t).view.emb (ix2 0 j1)) = V m c main_arg9 _
    refine congrArg _ (funext fun a => Fin.ext ?_)
    match a with
    | ⟨0, _⟩ => show win0_11.index t (0 : Fin 2) * 1 + 1 * 0 = 0; omega
    | ⟨1, _⟩ => show win0_11.index t (1 : Fin 2) * 1024 + 1 * j1.val = j1.val; omega
  · show V m c main_arg8 (((cfg0.win 10).blk t).view.emb (ix2 j0 j1)) = V m c main_arg8 _
    refine congrArg _ (funext fun a => Fin.ext ?_)
    match a with
    | ⟨0, _⟩ => show win0_10.index t (0 : Fin 2) * 256 + 1 * j0.val = t.val * 256 + j0.val; omega
    | ⟨1, _⟩ => show win0_10.index t (1 : Fin 2) * 1024 + 1 * j1.val = 2048 + j1.val; omega

/-- Every index of the first result is in the block of the point that its row names. -/
theorem coveredA (i : S32768x1024.Idx) : ∃ t : Fin cfg0.N, (cfg0.win 12).flush t = true ∧ i ∈ ((cfg0.win 12).blk t).view.set := by
  have h0 : (i 0).val < 32768 := (i 0).isLt
  let t : Fin cfg0.N := ⟨(i 0).val / 256, show _ < 128 by omega⟩
  refine ⟨t, flush0_12 t, ?_⟩
  obtain ⟨-, -, -, -, -, -, -, -, -, -, -, -, ⟨d0, d1⟩, -⟩ := idx t
  have ht : t.val = (i 0).val / 256 := rfl
  have e : i = ((cfg0.win 12).blk t).view.emb (ix2 (⟨(i 0).val % 256, by omega⟩ : Fin 256) (i 1)) := by
    funext a; apply Fin.ext
    match a with
    | ⟨0, _⟩ => show (i 0).val = win0_12.index t (0 : Fin 2) * 256 + 1 * ((i 0).val % 256); omega
    | ⟨1, _⟩ => show (i 1).val = win0_12.index t (1 : Fin 2) * 1024 + 1 * (i 1).val; omega
  rw [e]; exact View.emb_mem_set _ _

/-- Every index of the second result is in the block of the point that its row names. -/
theorem coveredB (i : S32768x1024.Idx) : ∃ t : Fin cfg0.N, (cfg0.win 13).flush t = true ∧ i ∈ ((cfg0.win 13).blk t).view.set := by
  have h0 : (i 0).val < 32768 := (i 0).isLt
  let t : Fin cfg0.N := ⟨(i 0).val / 256, show _ < 128 by omega⟩
  refine ⟨t, flush0_13 t, ?_⟩
  obtain ⟨-, -, -, -, -, -, -, -, -, -, -, -, -, ⟨d0, d1⟩⟩ := idx t
  have ht : t.val = (i 0).val / 256 := rfl
  have e : i = ((cfg0.win 13).blk t).view.emb (ix2 (⟨(i 0).val % 256, by omega⟩ : Fin 256) (i 1)) := by
    funext a; apply Fin.ext
    match a with
    | ⟨0, _⟩ => show (i 0).val = win0_13.index t (0 : Fin 2) * 256 + 1 * ((i 0).val % 256); omega
    | ⟨1, _⟩ => show (i 1).val = win0_13.index t (1 : Fin 2) * 1024 + 1 * (i 1).val; omega
  rw [e]; exact View.emb_mem_set _ _

/-- The kernel's run: its results are `GA` and `GB` of the arguments, which it leaves as they were. -/
theorem runP : θ_run defs (onTc (τ := τ) (main (F := Ideal))) ⟨m, fun _ => 0, ρ⟩ fun r => ∀ c : Dev nD,
      r.2.mem ((c : Thread nD τ).loc main_v10_0)
        = GA (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c : Thread nD τ).loc main_v10_1)
        = GB (m ((c : Thread nD τ).loc main_arg6)) (m ((c : Thread nD τ).loc main_arg7)) (m ((c : Thread nD τ).loc main_arg8))
            (m ((c : Thread nD τ).loc main_arg9))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans
      (((dats m 0 c).arrAt_eq_of_cover 12 _ (fun t _ => flushedA m c t) coveredA).trans
        (by rw [V_main_arg0, V_main_arg1, V_main_arg2, V_main_arg3, V_main_arg4, V_main_arg5])),
      (h c).2.1.trans (((dats m 0 c).arrAt_eq_of_cover 13 _ (fun t _ => flushedB m c t) coveredB).trans
        (by rw [V_main_arg6, V_main_arg7, V_main_arg8, V_main_arg9])), (h c).2.2⟩) (run_blocks m ρ)

end Cert.Proof.Post

end
-- ==== Proof.PostRef.lean ====
/- The reference's post-processing at an index, and its agreement with the kernel's results. -/
module

public import proofs.«01_k».proof.Proof.Gen.PostRefIdeal.Run
public import proofs.«01_k».proof.Proof.Post

@[expose] public section

set_option maxRecDepth 16384

noncomputable section

namespace Cert.Proof.Post

open Cert.PostRefIdeal Cert.PostRefIdeal.Gen Idealize.ShloMosaic Idealize.ShloMosaic.TcCoe Idealize.SL.Sem

/-- The reference's means over the groups of a reshaped array, kept as a column. -/
def rMean (x : FVec Ideal S32768x16x64 .f32) : FVec Ideal S32768x16x1 .f32 :=
  Host.divf (broadcastInDim S32768x16x1 ![0, 1] bcast_S32768x16_S32768x16x1_0_1
      (Host.reduceAdd x (constant S_ .f32 0x00000000#32) reducesTo_S32768x16x64_S32768x16_d2 h_S_))
    (broadcastInDim S32768x16x1 ![] bcast_S_S32768x16x1 (constant S_ .f32 0x42800000#32))

/-- The reference's mean at a group. -/
theorem rMean_apply (x : FVec Ideal S32768x16x64 .f32) (i : Fin 32768) (h : Fin 16) :
    rMean x (ix3 i h 0) = Ideal.div (∑ l : Fin 64, x (ix3 i h l)) (Ideal.ofBits .f32 0x42800000#32) := by
  pointwise [rMean]

/-- An entry of the array reshaped into groups. -/
theorem cast3_apply (y : FVec Ideal S32768x1024 .f32) (i : Fin 32768) (h : Fin 16) (l : Fin 64) :
    shapeCast S32768x16x64 y shapeCasts_S32768x1024_S32768x16x64 (ix3 i h l) = y (ix2 i ⟨h.val * 64 + l.val, by omega⟩) := by
  pointwise

/-- An entry of the array of groups reshaped back. -/
theorem cast2_apply (y : FVec Ideal S32768x16x64 .f32) (i : Fin 32768) (c : Fin 1024) :
    shapeCast S32768x1024 y shapeCasts_S32768x16x64_S32768x1024 (ix2 i c) = y (ix3 i ⟨c.val / 64, by omega⟩ ⟨c.val % 64, by omega⟩) := by
  pointwise

/-- An entry of a column spread over its group. -/
theorem col3_apply (y : FVec Ideal S32768x16x1 .f32) (i : Fin 32768) (h : Fin 16) (l : Fin 64) :
    broadcastInDim S32768x16x64 ![0, 1, 2] bcast_S32768x16x1_S32768x16x64_0_1_2 y (ix3 i h l) = y (ix3 i h 0) := by
  pointwise

/-- An entry of the second branch's array reshaped into heads. -/
theorem cast3b_apply (y : FVec Ideal S32768x1024 .f32) (i : Fin 32768) (h : Fin 4) (l : Fin 256) :
    shapeCast S32768x4x256 y shapeCasts_S32768x1024_S32768x4x256 (ix3 i h l) = y (ix2 i ⟨h.val * 256 + l.val, by omega⟩) := by
  pointwise

/-- An entry of the second branch's array of heads reshaped back. -/
theorem cast2b_apply (y : FVec Ideal S32768x4x256 .f32) (i : Fin 32768) (c : Fin 1024) :
    shapeCast S32768x1024 y shapeCasts_S32768x4x256_S32768x1024 (ix2 i c) = y (ix3 i ⟨c.val / 256, by omega⟩ ⟨c.val % 256, by omega⟩) := by
  pointwise

/-- The reference's centred array. -/
def rCen (y : FVec Ideal S32768x16x64 .f32) : FVec Ideal S32768x16x64 .f32 :=
  subf y (broadcastInDim S32768x16x64 ![0, 1, 2] bcast_S32768x16x1_S32768x16x64_0_1_2 (rMean y))

/-- The reference's group norm. -/
def rNorm (y : FVec Ideal S32768x16x64 .f32) : FVec Ideal S32768x16x64 .f32 :=
  mulf (rCen y) (broadcastInDim S32768x16x64 ![0, 1, 2] bcast_S32768x16x1_S32768x16x64_0_1_2
    (Host.rsqrt (addf (rMean (mulf (rCen y) (rCen y))) (broadcastInDim S32768x16x1 ![] bcast_S_S32768x16x1 (constant S_ .f32 0x3A27C5AC#32)))))

/-- The group of a column that is written with its group. -/
theorem grp_at (h : Fin 16) (l l' : Fin 64) : grp ⟨h.val * 64 + l.val, by omega⟩ l' = ⟨h.val * 64 + l'.val, by omega⟩ := Fin.ext (by
  show (h.val * 64 + l.val) / 64 * 64 + l'.val = h.val * 64 + l'.val; omega)

/-- The head of a column that is written with its head. -/
theorem head_at (h : Fin 4) (l l' : Fin 256) : head ⟨h.val * 256 + l.val, by omega⟩ l' = ⟨h.val * 256 + l'.val, by omega⟩ := Fin.ext (by
  show (h.val * 256 + l.val) / 256 * 256 + l'.val = h.val * 256 + l'.val; omega)

/-- The reference's mean is the mean of the row that the groups are of. -/
theorem rMean_eq (x : FVec Ideal S32768x16x64 .f32) (f : Fin 1024 → EReal) (i : Fin 32768)
    (hx : ∀ (h : Fin 16) (l : Fin 64), x (ix3 i h l) = f ⟨h.val * 64 + l.val, by omega⟩) (h : Fin 16) (l : Fin 64) :
    rMean x (ix3 i h 0) = mean f ⟨h.val * 64 + l.val, by omega⟩ := by
  rw [rMean_apply]
  unfold mean
  refine congrArg (fun z => Ideal.div z _) (Finset.sum_congr rfl fun l' _ => ?_)
  rw [hx, grp_at]

/-- The reference's centred array is the row less its means. -/
theorem rCen_eq (x : FVec Ideal S32768x16x64 .f32) (f : Fin 1024 → EReal) (i : Fin 32768)
    (hx : ∀ (h : Fin 16) (l : Fin 64), x (ix3 i h l) = f ⟨h.val * 64 + l.val, by omega⟩) (h : Fin 16) (l : Fin 64) :
    rCen x (ix3 i h l) = cen f ⟨h.val * 64 + l.val, by omega⟩ := by
  show x (ix3 i h l) - broadcastInDim S32768x16x64 ![0, 1, 2] bcast_S32768x16x1_S32768x16x64_0_1_2 (rMean x) (ix3 i h l) = _
  rw [col3_apply, rMean_eq x f i hx h l, hx]
  rfl

/-- The reference's group norm is the row's group norm. -/
theorem rNorm_eq (x : FVec Ideal S32768x16x64 .f32) (f : Fin 1024 → EReal) (i : Fin 32768)
    (hx : ∀ (h : Fin 16) (l : Fin 64), x (ix3 i h l) = f ⟨h.val * 64 + l.val, by omega⟩) (h : Fin 16) (l : Fin 64) :
    rNorm x (ix3 i h l) = gnorm f ⟨h.val * 64 + l.val, by omega⟩ := by
  have hm : rMean (mulf (rCen x) (rCen x)) (ix3 i h 0) = mean (fun k => cen f k * cen f k) ⟨h.val * 64 + l.val, by omega⟩ :=
    rMean_eq _ _ i (fun h' l' => by
      show rCen x (ix3 i h' l') * rCen x (ix3 i h' l') = _
      rw [rCen_eq x f i hx h' l']) h l
  show rCen x (ix3 i h l) * broadcastInDim S32768x16x64 ![0, 1, 2] bcast_S32768x16x1_S32768x16x64_0_1_2
    (Host.rsqrt (addf (rMean (mulf (rCen x) (rCen x))) (broadcastInDim S32768x16x1 ![] bcast_S_S32768x16x1 (constant S_ .f32 0x3A27C5AC#32)))) (ix3 i h l) = _
  rw [col3_apply, rCen_eq x f i hx h l]
  show cen f ⟨h.val * 64 + l.val, _⟩ * FloatOps.rsqrt (F := Ideal) (φ := .f32) (rMean (mulf (rCen x) (rCen x)) (ix3 i h 0) + Ideal.ofBits .f32 0x3A27C5AC#32) = _
  rw [hm]
  rfl

/-- The reference's first result from its normed array. -/
theorem rA_apply (x : FVec Ideal S32768x1024 .f32) (lw lb : FVec Ideal S1x1024 .f32) (bo g : FVec Ideal S32768x1024 .bf16) (i : Fin 32768) (c : Fin 1024) :
    truncf .bf16 (mulf (addf (addf (mulf x
        (broadcastInDim S32768x1024 ![0, 1] bcast_S1x1024_S32768x1024_0_1 (broadcastInDim S1x1024 ![1] bcast_S1024_S1x1024_1 (shapeCast S1024 lw shapeCasts_S1x1024_S1024))))
        (broadcastInDim S32768x1024 ![0, 1] bcast_S1x1024_S32768x1024_0_1 (broadcastInDim S1x1024 ![1] bcast_S1024_S1x1024_1 (shapeCast S1024 lb shapeCasts_S1x1024_S1024))))
        (extf .f32 bo bitsLt_bf16_f32)) (extf .f32 g bitsLt_bf16_f32)) bitsLt_bf16_f32 (ix2 i c)
      = (x (ix2 i c) * lw (ix2 0 c) + lb (ix2 0 c) + bo (ix2 i c)) * g (ix2 i c) := by
  pointwise

/-- The reference's per-head norm. -/
def rHead (x : FVec Ideal S32768x4x256 .f32) : FVec Ideal S32768x4x256 .f32 :=
  mulf x (broadcastInDim S32768x4x256 ![0, 1, 2] bcast_S32768x4x1_S32768x4x256_0_1_2
    (Host.rsqrt (addf (Host.divf (broadcastInDim S32768x4x1 ![0, 1] bcast_S32768x4_S32768x4x1_0_1
        (Host.reduceAdd (mulf x x) (constant S_ .f32 0x00000000#32) reducesTo_S32768x4x256_S32768x4_d2 h_S_))
      (broadcastInDim S32768x4x1 ![] bcast_S_S32768x4x1 (constant S_ .f32 0x43800000#32)))
      (broadcastInDim S32768x4x1 ![] bcast_S_S32768x4x1 (constant S_ .f32 0x358637BD#32)))))

/-- The reference's per-head norm at an entry. -/
theorem rHead_apply (x : FVec Ideal S32768x4x256 .f32) (i : Fin 32768) (h : Fin 4) (l : Fin 256) :
    rHead x (ix3 i h l) = x (ix3 i h l) * FloatOps.rsqrt (F := Ideal) (φ := .f32)
      (Ideal.div (∑ k : Fin 256, x (ix3 i h k) * x (ix3 i h k)) (Ideal.ofBits .f32 0x43800000#32) + Ideal.ofBits .f32 0x358637BD#32) := by
  pointwise [rHead]

/-- The reference's second result from its normed array. -/
theorem rB_apply (x : FVec Ideal S32768x1024 .f32) (vo : FVec Ideal S32768x7168 .bf16) (nw : FVec Ideal S1x1024 .f32) (i : Fin 32768) (c : Fin 1024) :
    truncf .bf16 (mulf (mulf x
        (broadcastInDim S32768x1024 ![0, 1] bcast_S1x1024_S32768x1024_0_1 (broadcastInDim S1x1024 ![1] bcast_S1024_S1x1024_1 (shapeCast S1024 nw shapeCasts_S1x1024_S1024))))
        (Host.divf (broadcastInDim S32768x1024 ![] bcast_S_S32768x1024 (constant S_ .f32 0x3F800000#32))
          (addf (broadcastInDim S32768x1024 ![] bcast_S_S32768x1024 (constant S_ .f32 0x3F800000#32))
            (Host.exp (Host.negf (extf .f32 (extractStridedSlice S32768x1024 ![0, 2048] vo slices_S32768x7168_S32768x1024_0_2048) bitsLt_bf16_f32))))))
        bitsLt_bf16_f32 (ix2 i c)
      = x (ix2 i c) * nw (ix2 0 c) * gate (vo (ix2 i ⟨2048 + c.val, by omega⟩)) := by
  pointwise [gate]

/-- A column is where its group and its place in it say. -/
theorem col_eq (c : Fin 1024) : (⟨c.val / 64 * 64 + c.val % 64, by omega⟩ : Fin 1024) = c := Fin.ext (by
  show c.val / 64 * 64 + c.val % 64 = c.val; omega)

/-- A column is where its head and its place in it say. -/
theorem colb_eq (c : Fin 1024) : (⟨c.val / 256 * 256 + c.val % 256, by omega⟩ : Fin 1024) = c := Fin.ext (by
  show c.val / 256 * 256 + c.val % 256 = c.val; omega)

/-- The reference's normed first branch at an entry. -/
theorem normA (yf yb : FVec Ideal S32768x1024 .f32) (i : Fin 32768) (c : Fin 1024) :
    shapeCast S32768x1024 (rNorm (shapeCast S32768x16x64 (addf yf yb) shapeCasts_S32768x1024_S32768x16x64)) shapeCasts_S32768x16x64_S32768x1024 (ix2 i c)
      = gnorm (fun k => yf (ix2 i k) + yb (ix2 i k)) c := by
  rw [cast2_apply, rNorm_eq _ (fun k => yf (ix2 i k) + yb (ix2 i k)) i (fun h l => cast3_apply _ i h l)]
  exact congrArg _ (col_eq c)

/-- The reference's normed second branch at an entry. -/
theorem normB (hf hb : FVec Ideal S32768x1024 .f32) (i : Fin 32768) (c : Fin 1024) :
    shapeCast S32768x1024 (rHead (shapeCast S32768x4x256 (addf hf hb) shapeCasts_S32768x1024_S32768x4x256)) shapeCasts_S32768x4x256_S32768x1024 (ix2 i c)
      = hnorm (fun k => hf (ix2 i k) + hb (ix2 i k)) c := by
  have hx : ∀ (h : Fin 4) (l : Fin 256), shapeCast S32768x4x256 (addf hf hb) shapeCasts_S32768x1024_S32768x4x256 (ix3 i h l)
      = hf (ix2 i ⟨h.val * 256 + l.val, by omega⟩) + hb (ix2 i ⟨h.val * 256 + l.val, by omega⟩) := fun h l => cast3b_apply _ i h l
  rw [cast2b_apply, rHead_apply]
  simp only [hx, colb_eq]
  rfl

/-- The kernel's results are the reference's. -/
theorem algebraic : Cert.algebraic_PostIdeal_PostRefIdeal := by
  intro m ρ m' ρ' _ hagree
  refine ⟨_, _, runP m ρ, ?_⟩
  refine (θ_run Cert.PostRefIdeal.defs _ _).mono (fun _ h c => ⟨?_, ?_, (h c).2.2⟩) (Cert.PostRefIdeal.Value.run (F := Ideal) m' ρ')
  · rw [(h c).1]
    simp only [hagree c]
    funext i
    idx_vars i
    refine (rA_apply (shapeCast S32768x1024 (rNorm (shapeCast S32768x16x64 (addf _ _) shapeCasts_S32768x1024_S32768x16x64)) shapeCasts_S32768x16x64_S32768x1024)
      _ _ _ _ i0 i1).trans ?_
    rw [normA]
    rfl
  · rw [(h c).2.1]
    simp only [hagree c]
    funext i
    idx_vars i
    refine (rB_apply (shapeCast S32768x1024 (rHead (shapeCast S32768x4x256 (addf _ _) shapeCasts_S32768x1024_S32768x4x256)) shapeCasts_S32768x4x256_S32768x1024)
      _ _ i0 i1).trans ?_
    rw [normB]
    rfl

end Cert.Proof.Post

end
-- ==== Proof.lean ====
/- The certificate's claim: the runs of the generated modules for the frames, one module per call for the values. -/
module

public import proofs.«01_k».proof.Defs
public import proofs.«01_k».proof.Proof.Gen.Fwd.Frame
public import proofs.«01_k».proof.Proof.Gen.FwdIdeal.Value
public import proofs.«01_k».proof.Proof.Gen.FwdRefIdeal.Run
public import proofs.«01_k».proof.Proof.Gen.Bwd.Frame
public import proofs.«01_k».proof.Proof.Gen.BwdIdeal.Value
public import proofs.«01_k».proof.Proof.Gen.BwdRefIdeal.Run
public import proofs.«01_k».proof.Proof.Gen.Norm.Frame
public import proofs.«01_k».proof.Proof.Gen.NormIdeal.Value
public import proofs.«01_k».proof.Proof.Gen.NormRefIdeal.Run
public import proofs.«01_k».proof.Proof.Gen.InF.Frame
public import proofs.«01_k».proof.Proof.Gen.InFIdeal.Value
public import proofs.«01_k».proof.Proof.Gen.InFRefIdeal.Run
public import proofs.«01_k».proof.Proof.Gen.InB.Frame
public import proofs.«01_k».proof.Proof.Gen.InBIdeal.Value
public import proofs.«01_k».proof.Proof.Gen.InBRefIdeal.Run
public import proofs.«01_k».proof.Proof.Gen.Merge.Frame
public import proofs.«01_k».proof.Proof.Gen.MergeIdeal.Value
public import proofs.«01_k».proof.Proof.Gen.MergeRefIdeal.Run
public import proofs.«01_k».proof.Proof.Gen.OutW.Frame
public import proofs.«01_k».proof.Proof.Gen.OutWIdeal.Value
public import proofs.«01_k».proof.Proof.Gen.OutWRefIdeal.Run
public import proofs.«01_k».proof.Proof.Gen.Post.Frame
public import proofs.«01_k».proof.Proof.Gen.PostIdeal.Value
public import proofs.«01_k».proof.Proof.Gen.PostRefIdeal.Run
public import proofs.«01_k».proof.Proof.FwdScan
public import proofs.«01_k».proof.Proof.BwdScan
public import proofs.«01_k».proof.Proof.Norm
public import proofs.«01_k».proof.Proof.InF
public import proofs.«01_k».proof.Proof.InB
public import proofs.«01_k».proof.Proof.Merge
public import proofs.«01_k».proof.Proof.OutW
public import proofs.«01_k».proof.Proof.PostRef
public import Idealize.ShloMosaic.Lib.Quiescent

@[expose] public section

open Idealize.ShloMosaic Idealize.ShloMosaic.TcCoe Idealize.SL.Sem

namespace Cert.Proof

/-- The reference `FwdRef` runs, leaves its arguments as they were and leaves no semaphore raised. -/
theorem refFwd : Cert.quiescent_FwdRefIdeal := fun m ρ _ =>
  (θ_run Cert.FwdRefIdeal.defs _ _).mono (fun r h => ⟨fun c => (h c).2, sem_eq_zero_of_no_sems (by decide) r.2⟩)
    (Cert.FwdRefIdeal.Value.run (F := Ideal) m ρ)

/-- The reference `BwdRef` runs, leaves its arguments as they were and leaves no semaphore raised. -/
theorem refBwd : Cert.quiescent_BwdRefIdeal := fun m ρ _ =>
  (θ_run Cert.BwdRefIdeal.defs _ _).mono (fun r h => ⟨fun c => (h c).2, sem_eq_zero_of_no_sems (by decide) r.2⟩)
    (Cert.BwdRefIdeal.Value.run (F := Ideal) m ρ)

/-- The reference `NormRef` runs, leaves its arguments as they were and leaves no semaphore raised. -/
theorem refNorm : Cert.quiescent_NormRefIdeal := fun m ρ _ =>
  (θ_run Cert.NormRefIdeal.defs _ _).mono (fun r h => ⟨fun c => (h c).2, sem_eq_zero_of_no_sems (by decide) r.2⟩)
    (Cert.NormRefIdeal.Value.run (F := Ideal) m ρ)

/-- The reference `InFRef` runs, leaves its arguments as they were and leaves no semaphore raised. -/
theorem refInF : Cert.quiescent_InFRefIdeal := fun m ρ _ =>
  (θ_run Cert.InFRefIdeal.defs _ _).mono (fun r h => ⟨fun c => (h c).2, sem_eq_zero_of_no_sems (by decide) r.2⟩)
    (Cert.InFRefIdeal.Value.run (F := Ideal) m ρ)

/-- The reference `InBRef` runs, leaves its arguments as they were and leaves no semaphore raised. -/
theorem refInB : Cert.quiescent_InBRefIdeal := fun m ρ _ =>
  (θ_run Cert.InBRefIdeal.defs _ _).mono (fun r h => ⟨fun c => (h c).2, sem_eq_zero_of_no_sems (by decide) r.2⟩)
    (Cert.InBRefIdeal.Value.run (F := Ideal) m ρ)

/-- The reference `MergeRef` runs, leaves its arguments as they were and leaves no semaphore raised. -/
theorem refMerge : Cert.quiescent_MergeRefIdeal := fun m ρ _ =>
  (θ_run Cert.MergeRefIdeal.defs _ _).mono (fun r h => ⟨fun c => (h c).2, sem_eq_zero_of_no_sems (by decide) r.2⟩)
    (Cert.MergeRefIdeal.Value.run (F := Ideal) m ρ)

/-- The reference `OutWRef` runs, leaves its arguments as they were and leaves no semaphore raised. -/
theorem refOutW : Cert.quiescent_OutWRefIdeal := fun m ρ _ =>
  (θ_run Cert.OutWRefIdeal.defs _ _).mono (fun r h => ⟨fun c => (h c).2, sem_eq_zero_of_no_sems (by decide) r.2⟩)
    (Cert.OutWRefIdeal.Value.run (F := Ideal) m ρ)

/-- The reference `PostRef` runs, leaves its arguments as they were and leaves no semaphore raised. -/
theorem refPost : Cert.quiescent_PostRefIdeal := fun m ρ _ =>
  (θ_run Cert.PostRefIdeal.defs _ _).mono (fun r h => ⟨fun c => (h c).2.2, sem_eq_zero_of_no_sems (by decide) r.2⟩)
    (Cert.PostRefIdeal.Value.run (F := Ideal) m ρ)

/-- The certificate. -/
theorem claim : Cert.Claim :=
  ⟨
    Cert.Fwd.Gen.facts, Cert.FwdIdeal.Gen.facts, Cert.FwdRefIdeal.Gen.facts,
    Cert.Bwd.Gen.facts, Cert.BwdIdeal.Gen.facts, Cert.BwdRefIdeal.Gen.facts,
    Cert.Norm.Gen.facts, Cert.NormIdeal.Gen.facts, Cert.NormRefIdeal.Gen.facts,
    Cert.InF.Gen.facts, Cert.InFIdeal.Gen.facts, Cert.InFRefIdeal.Gen.facts,
    Cert.InB.Gen.facts, Cert.InBIdeal.Gen.facts, Cert.InBRefIdeal.Gen.facts,
    Cert.Merge.Gen.facts, Cert.MergeIdeal.Gen.facts, Cert.MergeRefIdeal.Gen.facts,
    Cert.OutW.Gen.facts, Cert.OutWIdeal.Gen.facts, Cert.OutWRefIdeal.Gen.facts,
    Cert.Post.Gen.facts, Cert.PostIdeal.Gen.facts, Cert.PostRefIdeal.Gen.facts,
    (fun m ρ _ => Cert.Fwd.Gen.frame m ρ), (fun m ρ _ => Cert.FwdIdeal.Gen.frame m ρ), refFwd,
    (fun m ρ _ => Cert.Bwd.Gen.frame m ρ), (fun m ρ _ => Cert.BwdIdeal.Gen.frame m ρ), refBwd,
    (fun m ρ _ => Cert.Norm.Gen.frame m ρ), (fun m ρ _ => Cert.NormIdeal.Gen.frame m ρ), refNorm,
    (fun m ρ _ => Cert.InF.Gen.frame m ρ), (fun m ρ _ => Cert.InFIdeal.Gen.frame m ρ), refInF,
    (fun m ρ _ => Cert.InB.Gen.frame m ρ), (fun m ρ _ => Cert.InBIdeal.Gen.frame m ρ), refInB,
    (fun m ρ _ => Cert.Merge.Gen.frame m ρ), (fun m ρ _ => Cert.MergeIdeal.Gen.frame m ρ), refMerge,
    (fun m ρ _ => Cert.OutW.Gen.frame m ρ), (fun m ρ _ => Cert.OutWIdeal.Gen.frame m ρ), refOutW,
    (fun m ρ _ => Cert.Post.Gen.frame m ρ), (fun m ρ _ => Cert.PostIdeal.Gen.frame m ρ), refPost,
    trivial, Fwd.algebraic,
    trivial, Bwd.algebraic,
    trivial, Norm.algebraic,
    trivial, InF.algebraic,
    trivial, InB.algebraic,
    trivial, Merge.algebraic,
    trivial, OutW.algebraic,
    trivial, Post.algebraic⟩

end Cert.Proof

end
